-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_from_first_call [hPre_from_first_call : Cert.Pre_from_first_call.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_from_first_call.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_from_first_call [hPre_from_first_call : Cert.Pre_from_first_call.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_from_first_call.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_WholeIdeal (m : (ℓ : Loc Cert.WholeIdeal.nD Cert.WholeIdeal.τ Cert.WholeIdeal.sig) → Buf (Elt Ideal) ℓ) : Prop :=
  True

def Pre_WholeIdeal_keys_apart [hPre_keys_apart : Cert.Pre_keys_apart.Facts] (m : (ℓ : Loc Cert.WholeIdeal.nD Cert.WholeIdeal.τ Cert.WholeIdeal.sig) → Buf (Elt Ideal) ℓ) : Prop :=
  ∀ c : Dev Cert.WholeIdeal.nD,
    (Cert.Pre_keys_apart.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_keys_apart [hPre_keys_apart : Cert.Pre_keys_apart.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_keys_apart.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_from_first_call [hKernel2Ideal : Cert.Kernel2Ideal.Facts] [hPre_from_first_call : Cert.Pre_from_first_call.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_from_first_call m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_from_first_call [hReference2Ideal : Cert.Reference2Ideal.Facts] [hPre_from_first_call : Cert.Pre_from_first_call.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_from_first_call m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ r.2.sem = fun _ => 0)

def quiescent_WholeIdeal_pre_keys_apart [hWholeIdeal : Cert.WholeIdeal.Facts] [hPre_keys_apart : Cert.Pre_keys_apart.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_keys_apart m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5))
      ∧ r.2.sem = fun _ => 0)

def quiescent_WholeReferenceIdeal_pre_keys_apart [hWholeReferenceIdeal : Cert.WholeReferenceIdeal.Facts] [hPre_keys_apart : Cert.Pre_keys_apart.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_keys_apart m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_from_first_call [hKernel2Ideal : Cert.Kernel2Ideal.Facts] [hReference2Ideal : Cert.Reference2Ideal.Facts] [hPre_from_first_call : Cert.Pre_from_first_call.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_from_first_call m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_WholeIdeal_WholeReferenceIdeal_pre_keys_apart [hWholeIdeal : Cert.WholeIdeal.Facts] [hWholeReferenceIdeal : Cert.WholeReferenceIdeal.Facts] [hPre_keys_apart : Cert.Pre_keys_apart.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_keys_apart m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)) →
    ∃ (v0 : (c : Dev Cert.WholeIdeal.nD) → Buf (Elt Ideal) ((c.tc : Thread Cert.WholeIdeal.nD Cert.WholeIdeal.τ).loc Cert.WholeIdeal.main_v12)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v12) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v106) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hWholeIdeal : Cert.WholeIdeal.Facts) (hWholeReferenceIdeal : Cert.WholeReferenceIdeal.Facts) (hPre_zero_biases : Cert.Pre_zero_biases.Facts) (hPre_from_first_call : Cert.Pre_from_first_call.Facts) (hPre_keys_apart : Cert.Pre_keys_apart.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ quiescent_Kernel2 (hKernel2 := hKernel2)
    ∧ quiescent_Kernel2Ideal (hKernel2Ideal := hKernel2Ideal)
    ∧ quiescent_Kernel2Ideal_pre_from_first_call (hKernel2Ideal := hKernel2Ideal) (hPre_from_first_call := hPre_from_first_call)
    ∧ quiescent_Reference2Ideal (hReference2Ideal := hReference2Ideal)
    ∧ quiescent_Reference2Ideal_pre_from_first_call (hReference2Ideal := hReference2Ideal) (hPre_from_first_call := hPre_from_first_call)
    ∧ quiescent_WholeIdeal (hWholeIdeal := hWholeIdeal)
    ∧ quiescent_WholeIdeal_pre_keys_apart (hWholeIdeal := hWholeIdeal) (hPre_keys_apart := hPre_keys_apart)
    ∧ quiescent_WholeReferenceIdeal (hWholeReferenceIdeal := hWholeReferenceIdeal)
    ∧ quiescent_WholeReferenceIdeal_pre_keys_apart (hWholeReferenceIdeal := hWholeReferenceIdeal) (hPre_keys_apart := hPre_keys_apart)
    ∧ preserves_Kernel_KernelIdeal
    ∧ algebraic_KernelIdeal_ReferenceIdeal_pre_zero_biases (hKernelIdeal := hKernelIdeal) (hReferenceIdeal := hReferenceIdeal) (hPre_zero_biases := hPre_zero_biases)
    ∧ preserves_Kernel2_Kernel2Ideal
    ∧ algebraic_Kernel2Ideal_Reference2Ideal_pre_from_first_call (hKernel2Ideal := hKernel2Ideal) (hReference2Ideal := hReference2Ideal) (hPre_from_first_call := hPre_from_first_call)
    ∧ algebraic_WholeIdeal_WholeReferenceIdeal_pre_keys_apart (hWholeIdeal := hWholeIdeal) (hWholeReferenceIdeal := hWholeReferenceIdeal) (hPre_keys_apart := hPre_keys_apart)
-- ==== Pre_from_first_call.lean ====
abbrev S8x20480 : Shape := ⟨2, ![8, 20480]⟩
abbrev S20x1x1024 : Shape := ⟨3, ![20, 1, 1024]⟩
abbrev S20480 : Shape := ⟨1, ![20480]⟩
abbrev S20000 : Shape := ⟨1, ![20000]⟩
abbrev S_ : Shape := ⟨0, ![]⟩
abbrev S512 : Shape := ⟨1, ![512]⟩
abbrev S1 : Shape := ⟨1, ![1]⟩
abbrev S480 : Shape := ⟨1, ![480]⟩
abbrev S1x20000 : Shape := ⟨2, ![1, 20000]⟩

class Facts : Prop where
  shapeCasts_S20x1x1024_S20480 : S20x1x1024.ShapeCasts S20480
  slices_S20480_S20000_0 : S20480.Slices ![0] S20000
  reducesTo_S20000_S_d0 : S20000.ReducesTo [0] S_
  h_S_ : 0 < S_.numel
  bcast_S_S20000 : S_.BroadcastsInDim S20000 (![] : Fin 0 → Fin S20000.rank)
  sliceFits_S20000_S512 : S20000.Slices (fun _ => 0) S512
  slices_S512_S1_511 : S512.Slices ![511] S1
  shapeCasts_S1_S_ : S1.ShapeCasts S_
  slices_S20480_S480_20000 : S20480.Slices ![20000] S480
  bcast_S_S480 : S_.BroadcastsInDim S480 (![] : Fin 0 → Fin S480.rank)
  reducesTo_S480_S_d0 : S480.ReducesTo [0] S_
  slices_S8x20480_S1x20000_6_0 : S8x20480.Slices ![6, 0] S1x20000
  shapeCasts_S1x20000_S20000 : S1x20000.ShapeCasts S20000

variable [Facts]

def fn_where {F : FTy → Type} [FloatOps F] (arg0 : IVec S20000 1) (arg1 : FVec F S20000 .f32) (arg2 : FVec F S_ .f32) : FVec F S20000 .f32 :=
  let v0 : FVec F S_ .f32 := id arg2
  let v1 : FVec F S20000 .f32 := broadcastInDim S20000 ![] bcast_S_S20000 v0
  let v2 : FVec F S20000 .f32 := select arg0 arg1 v1
  v2

def fn_part2 {F : FTy → Type} [FloatOps F] (main_v18 : IVec S20000 1) (main_v29 : IVec S_ 1) (main_v33 : IVec S_ 1) : IVec S_ 1 :=
  let main_v34 : IVec S_ 1 := andi main_v29 main_v33
  let main_c_10 : IVec S_ 1 := constantI S_ 1 1#1
  let main_v35 : IVec S_ 1 := (fun x v => Host.reduce IntOp.andi x v reducesTo_S20000_S_d0 h_S_) main_v18 main_c_10
  let main_v36 : IVec S_ 1 := andi main_v34 main_v35
  main_v36

def fn_part1 {F : FTy → Type} [FloatOps F] (main_arg0 : FVec F S8x20480 .f32) (main_v0 : FVec F S20480 .f32) (main_v1 : FVec F S20000 .f32) (main_v10 : IVec S20000 1) (main_v13 : FVec F S20000 .f32) (main_v16 : FVec F S20000 .f32) : IVec S_ 1 :=
  let main_v17 : IVec S20000 1 := cmpf .une main_v13 main_v16
  let main_v18 : IVec S20000 1 := ori main_v10 main_v17
  let main_cst_4 : FVec F S_ .f32 := constant S_ .f32 0xFF800000#32
  let main_v19 : FVec F S_ .f32 := (fun x v => Host.reduce FloatOps.maximumf x v reducesTo_S20000_S_d0 h_S_) main_v1 main_cst_4
  let main_cst_5 : FVec F S_ .f32 := constant S_ .f32 0x00000000#32
  let main_v20 : IVec S_ 1 := cmpf .oge main_v19 main_cst_5
  let main_cst_6 : FVec F S_ .f32 := constant S_ .f32 0x3F800000#32
  let main_v21 : FVec F S20000 .f32 := broadcastInDim S20000 ![] bcast_S_S20000 main_cst_6
  let main_v22 : IVec S20000 1 := cmpf .ole main_v1 main_v21
  let main_c : IVec S_ 1 := constantI S_ 1 1#1
  let main_v23 : IVec S_ 1 := (fun x v => Host.reduce IntOp.andi x v reducesTo_S20000_S_d0 h_S_) main_v22 main_c
  let main_v24 : IVec S_ 1 := andi main_v20 main_v23
  let main_v25 : FVec F S480 .f32 := (extractStridedSlice S480 ![20000] · slices_S20480_S480_20000) main_v0
  let main_cst_7 : FVec F S_ .f32 := constant S_ .f32 0xFF800000#32
  let main_v26 : FVec F S480 .f32 := broadcastInDim S480 ![] bcast_S_S480 main_cst_7
  let main_v27 : IVec S480 1 := cmpf .oeq main_v25 main_v26
  let main_c_8 : IVec S_ 1 := constantI S_ 1 1#1
  let main_v28 : IVec S_ 1 := (fun x v => Host.reduce IntOp.andi x v reducesTo_S480_S_d0 h_S_) main_v27 main_c_8
  let main_v29 : IVec S_ 1 := andi main_v24 main_v28
  let main_v30 : FVec F S1x20000 .f32 := (extractStridedSlice S1x20000 ![6, 0] · slices_S8x20480_S1x20000_6_0) main_arg0
  let main_v31 : FVec F S20000 .f32 := shapeCast S20000 main_v30 shapeCasts_S1x20000_S20000
  let main_v32 : IVec S20000 1 := cmpf .oeq main_v31 main_v1
  let main_c_9 : IVec S_ 1 := constantI S_ 1 1#1
  let main_v33 : IVec S_ 1 := (fun x v => Host.reduce IntOp.andi x v reducesTo_S20000_S_d0 h_S_) main_v32 main_c_9
  fn_part2 (F := F) main_v18 main_v29 main_v33

def fn {F : FTy → Type} [FloatOps F] (main_arg0 : FVec F S8x20480 .f32) (main_arg1 : FVec F S20x1x1024 .f32) : IVec S_ 1 :=
  let main_v0 : FVec F S20480 .f32 := shapeCast S20480 main_arg1 shapeCasts_S20x1x1024_S20480
  let main_v1 : FVec F S20000 .f32 := (extractStridedSlice S20000 ![0] · slices_S20480_S20000_0) main_v0
  let main_cst : FVec F S_ .f32 := constant S_ .f32 0xFF800000#32
  let main_v2 : FVec F S_ .f32 := (fun x v => Host.reduce FloatOps.maximumf x v reducesTo_S20000_S_d0 h_S_) main_v1 main_cst
  let main_cst_0 : FVec F S_ .f32 := constant S_ .f32 0x3F000000#32
  let main_v3 : FVec F S_ .f32 := minimumf main_cst_0 main_v2
  let main_v4 : FVec F S20000 .f32 := broadcastInDim S20000 ![] bcast_S_S20000 main_v3
  let main_v5 : IVec S20000 1 := cmpf .oge main_v1 main_v4
  let main_cst_1 : FVec F S_ .f32 := constant S_ .f32 0xFF800000#32
  let main_v6 : FVec F S20000 .f32 := fn_where (F := F) main_v5 main_v1 main_cst_1
  let main_values : FVec F S512 .f32 := (fun x => (Host.topK S512 0 (FloatOps.cmpfTotal .gt) x sliceFits_S20000_S512).1) main_v6
  let main_indices : IVec S512 32 := (fun x => (Host.topK S512 0 (FloatOps.cmpfTotal .gt) x sliceFits_S20000_S512).2) main_v6
  let main_v7 : FVec F S1 .f32 := (extractStridedSlice S1 ![511] · slices_S512_S1_511) main_values
  let main_v8 : FVec F S_ .f32 := shapeCast S_ main_v7 shapeCasts_S1_S_
  let main_v9 : FVec F S20000 .f32 := broadcastInDim S20000 ![] bcast_S_S20000 main_v8
  let main_v10 : IVec S20000 1 := cmpf .oeq main_v6 main_v9
  let main_cst_2 : FVec F S_ .f32 := constant S_ .f32 0x4B800000#32
  let main_v11 : FVec F S20000 .f32 := broadcastInDim S20000 ![] bcast_S_S20000 main_cst_2
  let main_v12 : FVec F S20000 .f32 := mulf main_v6 main_v11
  let main_v13 : FVec F S20000 .f32 := Host.floor main_v12
  let main_cst_3 : FVec F S_ .f32 := constant S_ .f32 0x4B800000#32
  let main_v14 : FVec F S_ .f32 := mulf main_v8 main_cst_3
  let main_v15 : FVec F S_ .f32 := Host.floor main_v14
  let main_v16 : FVec F S20000 .f32 := broadcastInDim S20000 ![] bcast_S_S20000 main_v15
  fn_part1 (F := F) main_arg0 main_v0 main_v1 main_v10 main_v13 main_v16
-- ==== Pre_keys_apart.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S1x128 : Shape := ⟨2, ![1, 128]⟩
abbrev S_ : Shape := ⟨0, ![]⟩
abbrev S20000x9 : Shape := ⟨2, ![20000, 9]⟩
abbrev S1x9 : Shape := ⟨2, ![1, 9]⟩
abbrev S20000x2 : Shape := ⟨2, ![20000, 2]⟩
abbrev S20000 : Shape := ⟨1, ![20000]⟩
abbrev S20000x1 : Shape := ⟨2, ![20000, 1]⟩
abbrev S512 : Shape := ⟨1, ![512]⟩
abbrev S1 : Shape := ⟨1, ![1]⟩

class Facts : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S9_S1x9_1 : S9.BroadcastsInDim S1x9 (![1] : Fin 1 → Fin S1x9.rank)
  bcast_S1x9_S20000x9_0_1 : S1x9.BroadcastsInDim S20000x9 (![0, 1] : Fin 2 → Fin S20000x9.rank)
  slices_S20000x9_S20000x2_0_0 : S20000x9.Slices ![0, 0] S20000x2
  reducesTo_S20000x2_S20000_d1 : S20000x2.ReducesTo [1] S20000
  h_S_ : 0 < S_.numel
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x2_0_1 : S20000x1.BroadcastsInDim S20000x2 (![0, 1] : Fin 2 → Fin S20000x2.rank)
  slices_S20000x2_S20000x1_0_1 : S20000x2.Slices ![0, 1] S20000x1
  shapeCasts_S20000x1_S20000 : S20000x1.ShapeCasts S20000
  reducesTo_S20000_S_d0 : S20000.ReducesTo [0] S_
  sliceFits_S20000_S512 : S20000.Slices (fun _ => 0) S512
  slices_S512_S1_511 : S512.Slices ![511] S1
  shapeCasts_S1_S_ : S1.ShapeCasts S_
  bcast_S_S128 : S_.BroadcastsInDim S128 (![] : Fin 0 → Fin S128.rank)
  reducesTo_S128_S_d0 : S128.ReducesTo [0] S_
  bcast_S_S9 : S_.BroadcastsInDim S9 (![] : Fin 0 → Fin S9.rank)
  reducesTo_S9_S_d0 : S9.ReducesTo [0] S_
  dot_S20000x128_S128x128_S20000x128_1_0_0_1_n_n_wf : DotDims.WF S20000x128 S128x128 S20000x128 [1] [0] [0] [1] [] []
  dot_S20000x128_S128x9_S20000x9_1_0_0_1_n_n_wf : DotDims.WF S20000x128 S128x9 S20000x9 [1] [0] [0] [1] [] []

variable [Facts]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x9_S20000x9_1_0_0_1_n_n : DotDims S20000x128 S128x9 S20000x9 where
  lhsContracting := [1]
  rhsContracting := [0]
  lhsNonContracting := [0]
  rhsNonContracting := [1]
  lhsBatch := []
  rhsBatch := []
  wf := dot_S20000x128_S128x9_S20000x9_1_0_0_1_n_n_wf
def fn_relu {F : FTy → Type} [FloatOps F] (arg0 : FVec F S20000x128 .f32) : FVec F S20000x128 .f32 :=
  let cst : FVec F S_ .f32 := constant S_ .f32 0x00000000#32
  let v0 : FVec F S20000x128 .f32 := broadcastInDim S20000x128 ![] bcast_S_S20000x128 cst
  let v1 : FVec F S20000x128 .f32 := maximumf arg0 v0
  v1

def fn_where {F : FTy → Type} [FloatOps F] (arg0 : IVec S20000 1) (arg1 : FVec F S20000 .f32) (arg2 : FVec F S_ .f32) : FVec F S20000 .f32 :=
  let v0 : FVec F S_ .f32 := id arg2
  let v1 : FVec F S20000 .f32 := broadcastInDim S20000 ![] bcast_S_S20000 v0
  let v2 : FVec F S20000 .f32 := select arg0 arg1 v1
  v2

def fn_part2 {F : FTy → Type} [FloatOps F] (main_arg3 : FVec F S128 .f32) (main_arg5 : FVec F S9 .f32) (main_v22 : FVec F S20000 .f32) (main_v31 : IVec S20000 1) (main_v34 : FVec F S20000 .f32) (main_v37 : FVec F S20000 .f32) : IVec S_ 1 :=
  let main_v38 : IVec S20000 1 := cmpf .une main_v34 main_v37
  let main_v39 : IVec S20000 1 := ori main_v31 main_v38
  let main_cst_7 : FVec F S_ .f32 := constant S_ .f32 0x00000000#32
  let main_v40 : FVec F S128 .f32 := broadcastInDim S128 ![] bcast_S_S128 main_cst_7
  let main_v41 : IVec S128 1 := cmpf .oeq main_arg3 main_v40
  let main_c : IVec S_ 1 := constantI S_ 1 1#1
  let main_v42 : IVec S_ 1 := (fun x v => Host.reduce IntOp.andi x v reducesTo_S128_S_d0 h_S_) main_v41 main_c
  let main_cst_8 : FVec F S_ .f32 := constant S_ .f32 0x00000000#32
  let main_v43 : FVec F S9 .f32 := broadcastInDim S9 ![] bcast_S_S9 main_cst_8
  let main_v44 : IVec S9 1 := cmpf .oeq main_arg5 main_v43
  let main_c_9 : IVec S_ 1 := constantI S_ 1 1#1
  let main_v45 : IVec S_ 1 := (fun x v => Host.reduce IntOp.andi x v reducesTo_S9_S_d0 h_S_) main_v44 main_c_9
  let main_v46 : IVec S_ 1 := andi main_v42 main_v45
  let main_cst_10 : FVec F S_ .f32 := constant S_ .f32 0xFF800000#32
  let main_v47 : FVec F S_ .f32 := (fun x v => Host.reduce FloatOps.maximumf x v reducesTo_S20000_S_d0 h_S_) main_v22 main_cst_10
  let main_cst_11 : FVec F S_ .f32 := constant S_ .f32 0x00000000#32
  let main_v48 : IVec S_ 1 := cmpf .oge main_v47 main_cst_11
  let main_v49 : IVec S_ 1 := andi main_v46 main_v48
  let main_c_12 : IVec S_ 1 := constantI S_ 1 1#1
  let main_v50 : IVec S_ 1 := (fun x v => Host.reduce IntOp.andi x v reducesTo_S20000_S_d0 h_S_) main_v39 main_c_12
  let main_v51 : IVec S_ 1 := andi main_v49 main_v50
  main_v51

def fn_part1 {F : FTy → Type} [FloatOps F] (main_arg3 : FVec F S128 .f32) (main_arg5 : FVec F S9 .f32) (main_v20 : FVec F S20000x2 .f32) : IVec S_ 1 :=
  let main_v21 : FVec F S20000x1 .f32 := (extractStridedSlice S20000x1 ![0, 1] · slices_S20000x2_S20000x1_0_1) main_v20
  let main_v22 : FVec F S20000 .f32 := shapeCast S20000 main_v21 shapeCasts_S20000x1_S20000
  let main_cst_2 : FVec F S_ .f32 := constant S_ .f32 0xFF800000#32
  let main_v23 : FVec F S_ .f32 := (fun x v => Host.reduce FloatOps.maximumf x v reducesTo_S20000_S_d0 h_S_) main_v22 main_cst_2
  let main_cst_3 : FVec F S_ .f32 := constant S_ .f32 0x3F000000#32
  let main_v24 : FVec F S_ .f32 := minimumf main_cst_3 main_v23
  let main_v25 : FVec F S20000 .f32 := broadcastInDim S20000 ![] bcast_S_S20000 main_v24
  let main_v26 : IVec S20000 1 := cmpf .oge main_v22 main_v25
  let main_cst_4 : FVec F S_ .f32 := constant S_ .f32 0xFF800000#32
  let main_v27 : FVec F S20000 .f32 := fn_where (F := F) main_v26 main_v22 main_cst_4
  let main_values : FVec F S512 .f32 := (fun x => (Host.topK S512 0 (FloatOps.cmpfTotal .gt) x sliceFits_S20000_S512).1) main_v27
  let main_indices : IVec S512 32 := (fun x => (Host.topK S512 0 (FloatOps.cmpfTotal .gt) x sliceFits_S20000_S512).2) main_v27
  let main_v28 : FVec F S1 .f32 := (extractStridedSlice S1 ![511] · slices_S512_S1_511) main_values
  let main_v29 : FVec F S_ .f32 := shapeCast S_ main_v28 shapeCasts_S1_S_
  let main_v30 : FVec F S20000 .f32 := broadcastInDim S20000 ![] bcast_S_S20000 main_v29
  let main_v31 : IVec S20000 1 := cmpf .oeq main_v27 main_v30
  let main_cst_5 : FVec F S_ .f32 := constant S_ .f32 0x4B800000#32
  let main_v32 : FVec F S20000 .f32 := broadcastInDim S20000 ![] bcast_S_S20000 main_cst_5
  let main_v33 : FVec F S20000 .f32 := mulf main_v27 main_v32
  let main_v34 : FVec F S20000 .f32 := Host.floor main_v33
  let main_cst_6 : FVec F S_ .f32 := constant S_ .f32 0x4B800000#32
  let main_v35 : FVec F S_ .f32 := mulf main_v29 main_cst_6
  let main_v36 : FVec F S_ .f32 := Host.floor main_v35
  let main_v37 : FVec F S20000 .f32 := broadcastInDim S20000 ![] bcast_S_S20000 main_v36
  fn_part2 (F := F) main_arg3 main_arg5 main_v22 main_v31 main_v34 main_v37

def fn {F : FTy → Type} [FloatOps F] (main_arg0 : FVec F S20000x128 .f32) (main_arg1 : FVec F S20000x3 .f32) (main_arg2 : FVec F S128x128 .f32) (main_arg3 : FVec F S128 .f32) (main_arg4 : FVec F S128x9 .f32) (main_arg5 : FVec F S9 .f32) : IVec S_ 1 :=
  let main_v0 : FVec F S20000x128 .f32 := (fun l r => Host.dotGeneral dot_S20000x128_S128x128_S20000x128_1_0_0_1_n_n none l r) main_arg0 main_arg2
  let main_v1 : FVec F S1x128 .f32 := broadcastInDim S1x128 ![1] bcast_S128_S1x128_1 main_arg3
  let main_v2 : FVec F S20000x128 .f32 := broadcastInDim S20000x128 ![0, 1] bcast_S1x128_S20000x128_0_1 main_v1
  let main_v3 : FVec F S20000x128 .f32 := addf main_v0 main_v2
  let main_v4 : FVec F S20000x128 .f32 := fn_relu (F := F) main_v3
  let main_v5 : FVec F S20000x9 .f32 := (fun l r => Host.dotGeneral dot_S20000x128_S128x9_S20000x9_1_0_0_1_n_n none l r) main_v4 main_arg4
  let main_v6 : FVec F S1x9 .f32 := broadcastInDim S1x9 ![1] bcast_S9_S1x9_1 main_arg5
  let main_v7 : FVec F S20000x9 .f32 := broadcastInDim S20000x9 ![0, 1] bcast_S1x9_S20000x9_0_1 main_v6
  let main_v8 : FVec F S20000x9 .f32 := addf main_v5 main_v7
  let main_v9 : FVec F S20000x2 .f32 := (extractStridedSlice S20000x2 ![0, 0] · slices_S20000x9_S20000x2_0_0) main_v8
  let main_cst : FVec F S_ .f32 := constant S_ .f32 0xFF800000#32
  let main_v10 : FVec F S20000 .f32 := (fun x v => Host.reduce FloatOps.maximumf x v reducesTo_S20000x2_S20000_d1 h_S_) main_v9 main_cst
  let main_cst_0 : FVec F S_ .f32 := constant S_ .f32 0xFF800000#32
  let main_v11 : FVec F S20000 .f32 := broadcastInDim S20000 ![] bcast_S_S20000 main_cst_0
  let main_v12 : FVec F S20000 .f32 := maximumf main_v11 main_v10
  let main_v13 : FVec F S20000x1 .f32 := broadcastInDim S20000x1 ![0] bcast_S20000_S20000x1_0 main_v12
  let main_v14 : FVec F S20000x2 .f32 := broadcastInDim S20000x2 ![0, 1] bcast_S20000x1_S20000x2_0_1 main_v13
  let main_v15 : FVec F S20000x2 .f32 := subf main_v9 main_v14
  let main_v16 : FVec F S20000x2 .f32 := Host.exp main_v15
  let main_cst_1 : FVec F S_ .f32 := constant S_ .f32 0x00000000#32
  let main_v17 : FVec F S20000 .f32 := (fun x v => Host.reduceAdd x v reducesTo_S20000x2_S20000_d1 h_S_) main_v16 main_cst_1
  let main_v18 : FVec F S20000x1 .f32 := broadcastInDim S20000x1 ![0] bcast_S20000_S20000x1_0 main_v17
  let main_v19 : FVec F S20000x2 .f32 := broadcastInDim S20000x2 ![0, 1] bcast_S20000x1_S20000x2_0_1 main_v18
  let main_v20 : FVec F S20000x2 .f32 := Host.divf main_v16 main_v19
  fn_part1 (F := F) main_arg3 main_arg5 main_v20
-- ==== Pre_zero_biases.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S9 : S_.BroadcastsInDim S9 (![] : Fin 0 → Fin S9.rank)
  reducesTo_S9_S_d0 : S9.ReducesTo [0] S_

variable [Facts]

def fn {F : FTy → Type} [FloatOps F] (main_arg0 : FVec F S20000x128 .f32) (main_arg1 : FVec F S20000x3 .f32) (main_arg2 : FVec F S128x128 .f32) (main_arg3 : FVec F S128 .f32) (main_arg4 : FVec F S128x9 .f32) (main_arg5 : FVec F S9 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg3 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S9 .f32 := broadcastInDim S9 ![] bcast_S_S9 main_cst_0
  let main_v4 : IVec S9 1 := cmpf .oeq main_arg5 main_v3
  let main_c_1 : IVec S_ 1 := constantI S_ 1 1#1
  let main_v5 : IVec S_ 1 := (fun x v => Host.reduce IntOp.andi x v reducesTo_S9_S_d0 h_S_) main_v4 main_c_1
  let main_v6 : IVec S_ 1 := andi main_v2 main_v5
  main_v6
-- ==== Kernel.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S_ : Shape := ⟨0, ![]⟩
abbrev S8x20480 : Shape := ⟨2, ![8, 20480]⟩
abbrev S3x20000 : Shape := ⟨2, ![3, 20000]⟩
abbrev S1 : Shape := ⟨1, ![1]⟩
abbrev S2 : Shape := ⟨1, ![2]⟩
abbrev S16x128 : Shape := ⟨2, ![16, 128]⟩
abbrev S9x128 : Shape := ⟨2, ![9, 128]⟩
abbrev S20x1x1024 : Shape := ⟨3, ![20, 1, 1024]⟩
abbrev S1024x128 : Shape := ⟨2, ![1024, 128]⟩
abbrev S8x1024 : Shape := ⟨2, ![8, 1024]⟩
abbrev S1x1x1024 : Shape := ⟨3, ![1, 1, 1024]⟩
abbrev S128x1024 : Shape := ⟨2, ![128, 1024]⟩
abbrev S16x1024 : Shape := ⟨2, ![16, 1024]⟩
abbrev S1x1024 : Shape := ⟨2, ![1, 1024]⟩
abbrev S3x1024 : Shape := ⟨2, ![3, 1024]⟩

abbrev nBuf : Space → Nat
  | .hbm => 24
  | .vmem => 10
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S128x128, .f32⟩
  | .hbm, ⟨3, _⟩ => ⟨S128, .f32⟩
  | .hbm, ⟨4, _⟩ => ⟨S128x9, .f32⟩
  | .hbm, ⟨5, _⟩ => ⟨S9, .f32⟩
  | .hbm, ⟨6, _⟩ => ⟨S_, .f32⟩
  | .hbm, ⟨7, _⟩ => ⟨S8x20480, .f32⟩
  | .hbm, ⟨8, _⟩ => ⟨S3x20000, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S8x20480, .f32⟩
  | .hbm, ⟨15, _⟩ => ⟨S128x128, .f32⟩
  | .hbm, ⟨16, _⟩ => ⟨S_, .f32⟩
  | .hbm, ⟨17, _⟩ => ⟨S16x128, .f32⟩
  | .hbm, ⟨18, _⟩ => ⟨S9x128, .f32⟩
  | .hbm, ⟨19, _⟩ => ⟨S_, .i32⟩
  | .hbm, ⟨20, _⟩ => ⟨S1, .i32⟩
  | .hbm, ⟨21, _⟩ => ⟨S16x128, .f32⟩
  | .hbm, ⟨22, _⟩ => ⟨S8x20480, .f32⟩
  | .hbm, ⟨23, _⟩ => ⟨S20x1x1024, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S16x128, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1x1024, .f32⟩
  | .local _ .vmem, ⟨9, _⟩ => ⟨S1x1x1024, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S1x128 : Shape := ⟨2, ![1, 128]⟩
abbrev S_ : Shape := ⟨0, ![]⟩
abbrev S20000x9 : Shape := ⟨2, ![20000, 9]⟩
abbrev S1x9 : Shape := ⟨2, ![1, 9]⟩
abbrev S20000x2 : Shape := ⟨2, ![20000, 2]⟩
abbrev S20000 : Shape := ⟨1, ![20000]⟩
abbrev S20000x1 : Shape := ⟨2, ![20000, 1]⟩
abbrev S20000x8 : Shape := ⟨2, ![20000, 8]⟩
abbrev S480x8 : Shape := ⟨2, ![480, 8]⟩
abbrev S20480x8 : Shape := ⟨2, ![20480, 8]⟩
abbrev S8x20480 : Shape := ⟨2, ![8, 20480]⟩
abbrev S480 : Shape := ⟨1, ![480]⟩
abbrev S20480 : Shape := ⟨1, ![20480]⟩
abbrev S20x1x1024 : Shape := ⟨3, ![20, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S128x128, .f32⟩
  | .hbm, ⟨3, _⟩ => ⟨S128, .f32⟩
  | .hbm, ⟨4, _⟩ => ⟨S128x9, .f32⟩
  | .hbm, ⟨5, _⟩ => ⟨S9, .f32⟩
  | .hbm, ⟨6, _⟩ => ⟨S20000x128, .f32⟩
  | .hbm, ⟨7, _⟩ => ⟨S1x128, .f32⟩
  | .hbm, ⟨8, _⟩ => ⟨S20000x128, .f32⟩
  | .hbm, ⟨9, _⟩ => ⟨S20000x128, .f32⟩
  | .hbm, ⟨10, _⟩ => ⟨S_, .f32⟩
  | .hbm, ⟨11, _⟩ => ⟨S20000x128, .f32⟩
  | .hbm, ⟨12, _⟩ => ⟨S20000x128, .f32⟩
  | .hbm, ⟨13, _⟩ => ⟨S20000x9, .f32⟩
  | .hbm, ⟨14, _⟩ => ⟨S1x9, .f32⟩
  | .hbm, ⟨15, _⟩ => ⟨S20000x9, .f32⟩
  | .hbm, ⟨16, _⟩ => ⟨S20000x9, .f32⟩
  | .hbm, ⟨17, _⟩ => ⟨S20000x2, .f32⟩
  | .hbm, ⟨18, _⟩ => ⟨S_, .f32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S20000x1, .f32⟩
  | .hbm, ⟨24, _⟩ => ⟨S20000x2, .f32⟩
  | .hbm, ⟨25, _⟩ => ⟨S20000x2, .f32⟩
  | .hbm, ⟨26, _⟩ => ⟨S20000x2, .f32⟩
  | .hbm, ⟨27, _⟩ => ⟨S_, .f32⟩
  | .hbm, ⟨28, _⟩ => ⟨S20000, .f32⟩
  | .hbm, ⟨29, _⟩ => ⟨S20000x1, .f32⟩
  | .hbm, ⟨30, _⟩ => ⟨S20000x2, .f32⟩
  | .hbm, ⟨31, _⟩ => ⟨S20000x2, .f32⟩
  | .hbm, ⟨32, _⟩ => ⟨S20000x1, .f32⟩
  | .hbm, ⟨33, _⟩ => ⟨S20000, .f32⟩
  | .hbm, ⟨34, _⟩ => ⟨S20000x3, .f32⟩
  | .hbm, ⟨35, _⟩ => ⟨S20000x3, .f32⟩
  | .hbm, ⟨36, _⟩ => ⟨S20000x3, .f32⟩
  | .hbm, ⟨37, _⟩ => ⟨S20000x3, .f32⟩
  | .hbm, ⟨38, _⟩ => ⟨S_, .f32⟩
  | .hbm, ⟨39, _⟩ => ⟨S20000x3, .f32⟩
  | .hbm, ⟨40, _⟩ => ⟨S20000x3, .f32⟩
  | .hbm, ⟨41, _⟩ => ⟨S20000x3, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S20000x3, .f32⟩
  | .hbm, ⟨46, _⟩ => ⟨S20000x3, .f32⟩
  | .hbm, ⟨47, _⟩ => ⟨S_, .f32⟩
  | .hbm, ⟨48, _⟩ => ⟨S20000x3, .f32⟩
  | .hbm, ⟨49, _⟩ => ⟨S20000x3, .f32⟩
  | .hbm, ⟨50, _⟩ => ⟨S20000x3, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S20000x3, .f32⟩
  | .hbm, ⟨55, _⟩ => ⟨S20000x3, .f32⟩
  | .hbm, ⟨56, _⟩ => ⟨S_, .f32⟩
  | .hbm, ⟨57, _⟩ => ⟨S20000x3, .f32⟩
  | .hbm, ⟨58, _⟩ => ⟨S20000x3, .f32⟩
  | .hbm, ⟨59, _⟩ => ⟨S20000x1, .f32⟩
  | .hbm, ⟨60, _⟩ => ⟨S_, .f32⟩
  | .hbm, ⟨61, _⟩ => ⟨S20000x1, .f32⟩
  | .hbm, ⟨62, _⟩ => ⟨S20000x8, .f32⟩
  | .hbm, ⟨63, _⟩ => ⟨S_, .f32⟩
  | .hbm, ⟨64, _⟩ => ⟨S480x8, .f32⟩
  | .hbm, ⟨65, _⟩ => ⟨S20480x8, .f32⟩
  | .hbm, ⟨66, _⟩ => ⟨S8x20480, .f32⟩
  | .hbm, ⟨67, _⟩ => ⟨S_, .f32⟩
  | .hbm, ⟨68, _⟩ => ⟨S480, .f32⟩
  | .hbm, ⟨69, _⟩ => ⟨S20480, .f32⟩
  | .hbm, ⟨70, _⟩ => ⟨S20x1x1024, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_cst_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel2.lean ====
abbrev S8x20480 : Shape := ⟨2, ![8, 20480]⟩
abbrev S20x1x1024 : Shape := ⟨3, ![20, 1, 1024]⟩
abbrev S512x7 : Shape := ⟨2, ![512, 7]⟩
abbrev S512x512 : Shape := ⟨2, ![512, 512]⟩
abbrev S20x1024 : Shape := ⟨2, ![20, 1024]⟩
abbrev S1x20x1024 : Shape := ⟨3, ![1, 20, 1024]⟩
abbrev S1 : Shape := ⟨1, ![1]⟩
abbrev S1x1x1 : Shape := ⟨3, ![1, 1, 1]⟩
abbrev S1024x1024 : Shape := ⟨2, ![1024, 1024]⟩
abbrev S20x20 : Shape := ⟨2, ![20, 20]⟩
abbrev S20x1 : Shape := ⟨2, ![20, 1]⟩
abbrev S512x1 : Shape := ⟨2, ![512, 1]⟩
abbrev S512x10 : Shape := ⟨2, ![512, 10]⟩
abbrev S10x512 : Shape := ⟨2, ![10, 512]⟩
abbrev S8x1024 : Shape := ⟨2, ![8, 1024]⟩
abbrev S1x1024 : Shape := ⟨2, ![1, 1024]⟩
abbrev S10x1024 : Shape := ⟨2, ![10, 1024]⟩
abbrev S512x1024 : Shape := ⟨2, ![512, 1024]⟩
abbrev S1x512 : Shape := ⟨2, ![1, 512]⟩
abbrev S512 : Shape := ⟨1, ![512]⟩
abbrev S1x1x512 : Shape := ⟨3, ![1, 1, 512]⟩
abbrev S512x3 : Shape := ⟨2, ![512, 3]⟩
abbrev S512x6 : Shape := ⟨2, ![512, 6]⟩

abbrev nBuf : Space → Nat
  | .hbm => 3
  | .vmem => 4
  | .smem => 0
  | _ => 0

abbrev bufTy : (tb : Table) → Fin (tcTables nBuf tb) → BufTy
  | .hbm, ⟨0, _⟩ => ⟨S8x20480, .f32⟩
  | .hbm, ⟨1, _⟩ => ⟨S20x1x1024, .f32⟩
  | .hbm, ⟨2, _⟩ => ⟨S512x7, .f32⟩
  | .local _ .vmem, ⟨0, _⟩ => ⟨S8x20480, .f32⟩
  | .local _ .vmem, ⟨1, _⟩ => ⟨S20x1x1024, .f32⟩
  | .local _ .vmem, ⟨2, _⟩ => ⟨S512x7, .f32⟩
  | .local _ .vmem, ⟨3, _⟩ => ⟨S512x512, .f32⟩
  | _, _ => ⟨S8x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c31_i32 : BitVec 32 := 31#32
  let v23 : BitVec 32 := Scalar.addi c0_i32_6 c31_i32
  let c1_i32 : BitVec 32 := 1#32
  ⟨c0_i32_6, v23, c1_i32⟩
@[reducible] def k0_t2_loop : Scf.Loop 32 :=
  let c0_i32_99 : BitVec 32 := 0#32
  let c512_i32_100 : BitVec 32 := 512#32
  let v554 : BitVec 32 := Scalar.addi c0_i32_99 c512_i32_100
  let c1_i32_101 : BitVec 32 := 1#32
  ⟨c0_i32_99, v554, c1_i32_101⟩
def k0_off1 (k0_t2 : Fin k0_t2_loop.trips) : Fin 2 → Nat :=
  let c0_i32_99 : BitVec 32 := 0#32
  let c1_i32_101 : BitVec 32 := 1#32
  let arg4 : BitVec 32 := Scf.iv c0_i32_99 c1_i32_101 k0_t2
  let v579 : Index := Scalar.indexCast arg4
  let c0_108 : Index := 0#32
  ![v579.toNat, 0]
abbrev stage0_0 : Fin 1 → Memref sig .tc .vmem S8x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference2Ideal.lean ====
abbrev S8x20480 : Shape := ⟨2, ![8, 20480]⟩
abbrev S20x1x1024 : Shape := ⟨3, ![20, 1, 1024]⟩
abbrev S20480 : Shape := ⟨1, ![20480]⟩
abbrev S20000 : Shape := ⟨1, ![20000]⟩
abbrev S_ : Shape := ⟨0, ![]⟩
abbrev S512 : Shape := ⟨1, ![512]⟩
abbrev S6x20000 : Shape := ⟨2, ![6, 20000]⟩
abbrev S20000x6 : Shape := ⟨2, ![20000, 6]⟩
abbrev S512x1 : Shape := ⟨2, ![512, 1]⟩
abbrev S512x6 : Shape := ⟨2, ![512, 6]⟩
abbrev S512x3 : Shape := ⟨2, ![512, 3]⟩
abbrev S512x1x3 : Shape := ⟨3, ![512, 1, 3]⟩
abbrev S1x512x3 : Shape := ⟨3, ![1, 512, 3]⟩
abbrev S512x512x3 : Shape := ⟨3, ![512, 512, 3]⟩
abbrev S512x512x1 : Shape := ⟨3, ![512, 512, 1]⟩
abbrev S512x512 : Shape := ⟨2, ![512, 512]⟩
abbrev S1x512 : Shape := ⟨2, ![1, 512]⟩
abbrev S1 : Shape := ⟨1, ![1]⟩
abbrev S512x7 : Shape := ⟨2, ![512, 7]⟩

abbrev nBuf : Space → Nat
  | .hbm => 141
  | .vmem => 0
  | .smem => 0
  | _ => 0

abbrev hbmTy0_0 (i : Nat) : BufTy := match i % 128 with
  | 0 => ⟨S8x20480, .f32⟩
  | 1 => ⟨S20x1x1024, .f32⟩
  | 2 => ⟨S20480, .f32⟩
  | 3 => ⟨S20000, .f32⟩
  | 4 => ⟨S_, .f32⟩
  | 5 => ⟨S_, .f32⟩
  | 6 => ⟨S_, .f32⟩
  | 7 => ⟨S_, .f32⟩
  | 8 => ⟨S20000, .f32⟩
  | 9 => ⟨S20000, .i1⟩
  | 10 => ⟨S_, .f32⟩
  | 11 => ⟨S_, .f32⟩
  | 12 => ⟨S20000, .f32⟩
  | 13 => ⟨S20000, .f32⟩
  | 14 => ⟨S512, .f32⟩
  | 15 => ⟨S512, .i32⟩
  | 16 => ⟨S6x20000, .f32⟩
  | 17 => ⟨S20000x6, .f32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S512x6, .f32⟩
  | 27 => ⟨S512, .f32⟩
  | 28 => ⟨S_, .f32⟩
  | 29 => ⟨S512, .f32⟩
  | 30 => ⟨S512, .i1⟩
  | 31 => ⟨S_, .f32⟩
  | 32 => ⟨S_, .f32⟩
  | 33 => ⟨S512, .f32⟩
  | 34 => ⟨S512, .f32⟩
  | 35 => ⟨S512x3, .f32⟩
  | 36 => ⟨S512x3, .f32⟩
  | 37 => ⟨S512x3, .f32⟩
  | 38 => ⟨S_, .f32⟩
  | 39 => ⟨S512x3, .f32⟩
  | 40 => ⟨S512x3, .f32⟩
  | 41 => ⟨S512x1, .f32⟩
  | 42 => ⟨S512, .f32⟩
  | 43 => ⟨S512x1, .f32⟩
  | 44 => ⟨S512, .f32⟩
  | 45 => ⟨S512, .f32⟩
  | 46 => ⟨S512x1, .f32⟩
  | 47 => ⟨S512, .f32⟩
  | 48 => ⟨S512, .f32⟩
  | 49 => ⟨S512x1x3, .f32⟩
  | 50 => ⟨S1x512x3, .f32⟩
  | 51 => ⟨S512x512x3, .f32⟩
  | 52 => ⟨S512x512x3, .f32⟩
  | 53 => ⟨S512x512x3, .f32⟩
  | 54 => ⟨S512x1x3, .f32⟩
  | 55 => ⟨S1x512x3, .f32⟩
  | 56 => ⟨S512x512x3, .f32⟩
  | 57 => ⟨S512x512x3, .f32⟩
  | 58 => ⟨S512x512x3, .f32⟩
  | 59 => ⟨S512x512x3, .f32⟩
  | 60 => ⟨S_, .f32⟩
  | 61 => ⟨S512x512x3, .f32⟩
  | 62 => ⟨S512x512x3, .f32⟩
  | 63 => ⟨S512x512x1, .f32⟩
  | 64 => ⟨S512x512, .f32⟩
  | 65 => ⟨S512x512x1, .f32⟩
  | 66 => ⟨S512x512, .f32⟩
  | 67 => ⟨S512x512, .f32⟩
  | 68 => ⟨S512x512x1, .f32⟩
  | 69 => ⟨S512x512, .f32⟩
  | 70 => ⟨S512x512, .f32⟩
  | 71 => ⟨S512x1, .f32⟩
  | 72 => ⟨S1x512, .f32⟩
  | 73 => ⟨S512x512, .f32⟩
  | 74 => ⟨S512x512, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S512x512, .f32⟩
  | 81 => ⟨S512, .i32⟩
  | 82 => ⟨S_, .i1⟩
  | 83 => ⟨S512, .i1⟩
  | 84 => ⟨S_, .i32⟩
  | 85 => ⟨S512, .i32⟩
  | 86 => ⟨S512, .i32⟩
  | 87 => ⟨S512x512, .f32⟩
  | 88 => ⟨S_, .i32⟩
  | 89 => ⟨S512, .i1⟩
  | 90 => ⟨S_, .i32⟩
  | 91 => ⟨S_, .i1⟩
  | 92 => ⟨S1, .i32⟩
  | 93 => ⟨S_, .i32⟩
  | 94 => ⟨S512, .i32⟩
  | 95 => ⟨S512, .i1⟩
  | 96 => ⟨S512, .i1⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x512, .f32⟩
  | 111 => ⟨S512, .f32⟩
  | 112 => ⟨S_, .f32⟩
  | 113 => ⟨S512, .f32⟩
  | 114 => ⟨S512, .i1⟩
  | 115 => ⟨S512, .i1⟩
  | 116 => ⟨S_, .i1⟩
  | 117 => ⟨S_, .i1⟩
  | 118 => ⟨S_, .i1⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S512, .i1⟩
  | 126 => ⟨S_, .i32⟩
  | 127 => ⟨S_, .i32⟩
  | _ => ⟨S8x20480, .f32⟩

abbrev hbmTy0_1 (i : Nat) : BufTy := match i % 128 with
  | 0 => ⟨S512x3, .f32⟩
  | 1 => ⟨S512x3, .f32⟩
  | 2 => ⟨S512x3, .f32⟩
  | 3 => ⟨S_, .f32⟩
  | 4 => ⟨S512x3, .f32⟩
  | 5 => ⟨S512x3, .i1⟩
  | 6 => ⟨S_, .i1⟩
  | 7 => ⟨S512, .i1⟩
  | 8 => ⟨S512, .i1⟩
  | 9 => ⟨S512, .f32⟩
  | 10 => ⟨S512, .f32⟩
  | 11 => ⟨S512x1, .f32⟩
  | 12 => ⟨S512x7, .f32⟩
  | _ => ⟨S8x20480, .f32⟩

abbrev hbmTy (i : Nat) : BufTy := match i / 128 with
  | 0 => hbmTy0_0 i
  | 1 => hbmTy0_1 i
  | _ => ⟨S8x20480, .f32⟩

abbrev bufTy : (tb : Table) → Fin (tcTables nBuf tb) → BufTy
  | .hbm, ⟨i, _⟩ => hbmTy i
  | _, _ => ⟨S8x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_c_9 : Ref sig .tc := ⟨.hbm, 84, rfl⟩
abbrev main_v65_0 : Ref sig .tc := ⟨.hbm, 85, rfl⟩
abbrev main_v65_1 : Ref sig .tc := ⟨.hbm, 86, rfl⟩
abbrev main_v65_2 : Ref sig .tc := ⟨.hbm, 87, rfl⟩
abbrev main_v65_3 : Ref sig .tc := ⟨.hbm, 88, rfl⟩
abbrev main_v65_4 : Ref sig .tc := ⟨.hbm, 89, rfl⟩
abbrev main_while0c_c_16 : Ref sig .tc := ⟨.hbm, 90, rfl⟩
abbrev main_while0c_v77 : Ref sig .tc := ⟨.hbm, 91, rfl⟩
abbrev main_while0b_call2_v0 : Ref sig .tc := ⟨.hbm, 92, rfl⟩
abbrev main_while0b_v77 : Ref sig .tc := ⟨.hbm, 93, rfl⟩
abbrev main_while0b_v78 : Ref sig .tc := ⟨.hbm, 94, rfl⟩
abbrev main_while0b_v79 : Ref sig .tc := ⟨.hbm, 95, rfl⟩
abbrev main_while0b_v80 : Ref sig .tc := ⟨.hbm, 96, rfl⟩
abbrev main_while0b_c_16 : Ref sig .tc := ⟨.hbm, 97, rfl⟩
abbrev main_while0b_v81 : Ref sig .tc := ⟨.hbm, 98, rfl⟩
abbrev main_while0b_c_17 : Ref sig .tc := ⟨.hbm, 99, rfl⟩
abbrev main_while0b_v82 : Ref sig .tc := ⟨.hbm, 100, rfl⟩
abbrev main_while0b_v83 : Ref sig .tc := ⟨.hbm, 101, rfl⟩
abbrev main_while0b_c_18 : Ref sig .tc := ⟨.hbm, 102, rfl⟩
abbrev main_while0b_c_19 : Ref sig .tc := ⟨.hbm, 103, rfl⟩
abbrev main_while0b_v84 : Ref sig .tc := ⟨.hbm, 104, rfl⟩
abbrev main_while0b_c_20 : Ref sig .tc := ⟨.hbm, 105, rfl⟩
abbrev main_while0b_c_21 : Ref sig .tc := ⟨.hbm, 106, rfl⟩
abbrev main_while0b_v85 : Ref sig .tc := ⟨.hbm, 107, rfl⟩
abbrev main_while0b_c_22 : Ref sig .tc := ⟨.hbm, 108, rfl⟩
abbrev main_while0b_v86 : Ref sig .tc := ⟨.hbm, 109, rfl⟩
abbrev main_while0b_v87 : Ref sig .tc := ⟨.hbm, 110, rfl⟩
abbrev main_while0b_v88 : Ref sig .tc := ⟨.hbm, 111, rfl⟩
abbrev main_while0b_cst_23 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_c_24 : Ref sig .tc := ⟨.hbm, 116, rfl⟩
abbrev main_while0b_v92 : Ref sig .tc := ⟨.hbm, 117, rfl⟩
abbrev main_while0b_v93 : Ref sig .tc := ⟨.hbm, 118, rfl⟩
abbrev main_while0b_c_25 : Ref sig .tc := ⟨.hbm, 119, rfl⟩
abbrev main_while0b_v94 : Ref sig .tc := ⟨.hbm, 120, rfl⟩
abbrev main_while0b_c_26 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_c_27 : Ref sig .tc := ⟨.hbm, 126, rfl⟩
abbrev main_while0b_v99 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_10 : Ref sig .tc := ⟨.hbm, 131, rfl⟩
abbrev main_v69 : Ref sig .tc := ⟨.hbm, 132, rfl⟩
abbrev main_v70 : Ref sig .tc := ⟨.hbm, 133, rfl⟩
abbrev main_c_11 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩

abbrev nD : Nat := 1
abbrev τ : Topo := Topo.v7x

variable {F : FTy → Type} [FloatOps F]

abbrev main_while0_count : Scf.Loop 32 := ⟨0#32, 512#32, 1#32⟩
-- ==== WholeIdeal.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S_ : Shape := ⟨0, ![]⟩
abbrev S8x20480 : Shape := ⟨2, ![8, 20480]⟩
abbrev S3x20000 : Shape := ⟨2, ![3, 20000]⟩
abbrev S1 : Shape := ⟨1, ![1]⟩
abbrev S2 : Shape := ⟨1, ![2]⟩
abbrev S16x128 : Shape := ⟨2, ![16, 128]⟩
abbrev S9x128 : Shape := ⟨2, ![9, 128]⟩
abbrev S20x1x1024 : Shape := ⟨3, ![20, 1, 1024]⟩
abbrev S1024x128 : Shape := ⟨2, ![1024, 128]⟩
abbrev S8x1024 : Shape := ⟨2, ![8, 1024]⟩
abbrev S1x1x1024 : Shape := ⟨3, ![1, 1, 1024]⟩
abbrev S128x1024 : Shape := ⟨2, ![128, 1024]⟩
abbrev S16x1024 : Shape := ⟨2, ![16, 1024]⟩
abbrev S1x1024 : Shape := ⟨2, ![1, 1024]⟩
abbrev S3x1024 : Shape := ⟨2, ![3, 1024]⟩
abbrev S512x7 : Shape := ⟨2, ![512, 7]⟩
abbrev S512x512 : Shape := ⟨2, ![512, 512]⟩
abbrev S20x1024 : Shape := ⟨2, ![20, 1024]⟩
abbrev S1x20x1024 : Shape := ⟨3, ![1, 20, 1024]⟩
abbrev S1x1x1 : Shape := ⟨3, ![1, 1, 1]⟩
abbrev S1024x1024 : Shape := ⟨2, ![1024, 1024]⟩
abbrev S20x20 : Shape := ⟨2, ![20, 20]⟩
abbrev S20x1 : Shape := ⟨2, ![20, 1]⟩
abbrev S512x1 : Shape := ⟨2, ![512, 1]⟩
abbrev S512x10 : Shape := ⟨2, ![512, 10]⟩
abbrev S10x512 : Shape := ⟨2, ![10, 512]⟩
abbrev S10x1024 : Shape := ⟨2, ![10, 1024]⟩
abbrev S512x1024 : Shape := ⟨2, ![512, 1024]⟩
abbrev S1x512 : Shape := ⟨2, ![1, 512]⟩
abbrev S512 : Shape := ⟨1, ![512]⟩
abbrev S1x1x512 : Shape := ⟨3, ![1, 1, 512]⟩
abbrev S512x3 : Shape := ⟨2, ![512, 3]⟩
abbrev S512x6 : Shape := ⟨2, ![512, 6]⟩

abbrev nBuf : Space → Nat
  | .hbm => 25
  | .vmem => 14
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S128x128, .f32⟩
  | .hbm, ⟨3, _⟩ => ⟨S128, .f32⟩
  | .hbm, ⟨4, _⟩ => ⟨S128x9, .f32⟩
  | .hbm, ⟨5, _⟩ => ⟨S9, .f32⟩
  | .hbm, ⟨6, _⟩ => ⟨S_, .f32⟩
  | .hbm, ⟨7, _⟩ => ⟨S8x20480, .f32⟩
  | .hbm, ⟨8, _⟩ => ⟨S3x20000, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S8x20480, .f32⟩
  | .hbm, ⟨15, _⟩ => ⟨S128x128, .f32⟩
  | .hbm, ⟨16, _⟩ => ⟨S_, .f32⟩
  | .hbm, ⟨17, _⟩ => ⟨S16x128, .f32⟩
  | .hbm, ⟨18, _⟩ => ⟨S9x128, .f32⟩
  | .hbm, ⟨19, _⟩ => ⟨S_, .i32⟩
  | .hbm, ⟨20, _⟩ => ⟨S1, .i32⟩
  | .hbm, ⟨21, _⟩ => ⟨S16x128, .f32⟩
  | .hbm, ⟨22, _⟩ => ⟨S8x20480, .f32⟩
  | .hbm, ⟨23, _⟩ => ⟨S20x1x1024, .f32⟩
  | .hbm, ⟨24, _⟩ => ⟨S512x7, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S16x128, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1x1024, .f32⟩
  | .local _ .vmem, ⟨9, _⟩ => ⟨S1x1x1024, .f32⟩
  | .local _ .vmem, ⟨10, _⟩ => ⟨S8x20480, .f32⟩
  | .local _ .vmem, ⟨11, _⟩ => ⟨S20x1x1024, .f32⟩
  | .local _ .vmem, ⟨12, _⟩ => ⟨S512x7, .f32⟩
  | .local _ .vmem, ⟨13, _⟩ => ⟨S512x512, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32_6 : BitVec 32 := 0#32
  let c31_i32 : BitVec 32 := 31#32
  let v23 : BitVec 32 := Scalar.addi c0_i32_6 c31_i32
  let c1_i32 : BitVec 32 := 1#32
  ⟨c0_i32_6, v23, c1_i32⟩
@[reducible] def k1_t2_loop : Scf.Loop 32 :=
  let c0_i32_99 : BitVec 32 := 0#32
  let c512_i32_100 : BitVec 32 := 512#32
  let v574 : BitVec 32 := Scalar.addi c0_i32_99 c512_i32_100
  let c1_i32_101 : BitVec 32 := 1#32
  ⟨c0_i32_99, v574, c1_i32_101⟩
def k1_off1 (k1_t2 : Fin k1_t2_loop.trips) : Fin 2 → Nat :=
  let c0_i32_99 : BitVec 32 := 0#32
  let c1_i32_101 : BitVec 32 := 1#32
  let arg4 : BitVec 32 := Scf.iv c0_i32_99 c1_i32_101 k1_t2
  let v599 : Index := Scalar.indexCast arg4
  let c0_108 : Index := 0#32
  ![v599.toNat, 0]
abbrev stage1_0 : Fin 1 → Memref sig .tc .vmem S8x20480 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S20x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== WholeReferenceIdeal.lean ====
abbrev S20000x128 : Shape := ⟨2, ![20000, 128]⟩
abbrev S20000x3 : Shape := ⟨2, ![20000, 3]⟩
abbrev S128x128 : Shape := ⟨2, ![128, 128]⟩
abbrev S128 : Shape := ⟨1, ![128]⟩
abbrev S128x9 : Shape := ⟨2, ![128, 9]⟩
abbrev S9 : Shape := ⟨1, ![9]⟩
abbrev S1x128 : Shape := ⟨2, ![1, 128]⟩
abbrev S_ : Shape := ⟨0, ![]⟩
abbrev S20000x9 : Shape := ⟨2, ![20000, 9]⟩
abbrev S1x9 : Shape := ⟨2, ![1, 9]⟩
abbrev S20000x2 : Shape := ⟨2, ![20000, 2]⟩
abbrev S20000 : Shape := ⟨1, ![20000]⟩
abbrev S20000x1 : Shape := ⟨2, ![20000, 1]⟩
abbrev S512 : Shape := ⟨1, ![512]⟩
abbrev S20000x6 : Shape := ⟨2, ![20000, 6]⟩
abbrev S512x1 : Shape := ⟨2, ![512, 1]⟩
abbrev S512x6 : Shape := ⟨2, ![512, 6]⟩
abbrev S512x3 : Shape := ⟨2, ![512, 3]⟩
abbrev S512x1x3 : Shape := ⟨3, ![512, 1, 3]⟩
abbrev S1x512x3 : Shape := ⟨3, ![1, 512, 3]⟩
abbrev S512x512x3 : Shape := ⟨3, ![512, 512, 3]⟩
abbrev S512x512x1 : Shape := ⟨3, ![512, 512, 1]⟩
abbrev S512x512 : Shape := ⟨2, ![512, 512]⟩
abbrev S1x512 : Shape := ⟨2, ![1, 512]⟩
abbrev S1 : Shape := ⟨1, ![1]⟩
abbrev S512x7 : Shape := ⟨2, ![512, 7]⟩

abbrev nBuf : Space → Nat
  | .hbm => 195
  | .vmem => 0
  | .smem => 0
  | _ => 0

abbrev hbmTy0_0 (i : Nat) : BufTy := match i % 128 with
  | 0 => ⟨S20000x128, .f32⟩
  | 1 => ⟨S20000x3, .f32⟩
  | 2 => ⟨S128x128, .f32⟩
  | 3 => ⟨S128, .f32⟩
  | 4 => ⟨S128x9, .f32⟩
  | 5 => ⟨S9, .f32⟩
  | 6 => ⟨S20000x128, .f32⟩
  | 7 => ⟨S1x128, .f32⟩
  | 8 => ⟨S20000x128, .f32⟩
  | 9 => ⟨S20000x128, .f32⟩
  | 10 => ⟨S_, .f32⟩
  | 11 => ⟨S20000x128, .f32⟩
  | 12 => ⟨S20000x128, .f32⟩
  | 13 => ⟨S20000x9, .f32⟩
  | 14 => ⟨S1x9, .f32⟩
  | 15 => ⟨S20000x9, .f32⟩
  | 16 => ⟨S20000x9, .f32⟩
  | 17 => ⟨S20000x2, .f32⟩
  | 18 => ⟨S_, .f32⟩
  | 19 => ⟨S20000, .f32⟩
  | 20 => ⟨S_, .f32⟩
  | 21 => ⟨S20000, .f32⟩
  | 22 => ⟨S20000, .f32⟩
  | 23 => ⟨S20000x1, .f32⟩
  | 24 => ⟨S20000x2, .f32⟩
  | 25 => ⟨S20000x2, .f32⟩
  | 26 => ⟨S20000x2, .f32⟩
  | 27 => ⟨S_, .f32⟩
  | 28 => ⟨S20000, .f32⟩
  | 29 => ⟨S20000x1, .f32⟩
  | 30 => ⟨S20000x2, .f32⟩
  | 31 => ⟨S20000x2, .f32⟩
  | 32 => ⟨S20000x1, .f32⟩
  | 33 => ⟨S20000, .f32⟩
  | 34 => ⟨S_, .f32⟩
  | 35 => ⟨S_, .f32⟩
  | 36 => ⟨S_, .f32⟩
  | 37 => ⟨S_, .f32⟩
  | 38 => ⟨S20000, .f32⟩
  | 39 => ⟨S20000, .i1⟩
  | 40 => ⟨S_, .f32⟩
  | 41 => ⟨S_, .f32⟩
  | 42 => ⟨S20000, .f32⟩
  | 43 => ⟨S20000, .f32⟩
  | 44 => ⟨S512, .f32⟩
  | 45 => ⟨S512, .i32⟩
  | 46 => ⟨S20000x3, .f32⟩
  | 47 => ⟨S20000x3, .f32⟩
  | 48 => ⟨S20000x3, .f32⟩
  | 49 => ⟨S20000x3, .f32⟩
  | 50 => ⟨S_, .f32⟩
  | 51 => ⟨S20000x3, .f32⟩
  | 52 => ⟨S20000x3, .f32⟩
  | 53 => ⟨S20000x3, .f32⟩
  | 54 => ⟨S_, .f32⟩
  | 55 => ⟨S_, .f32⟩
  | 56 => ⟨S_, .f32⟩
  | 57 => ⟨S20000x3, .f32⟩
  | 58 => ⟨S20000x3, .f32⟩
  | 59 => ⟨S_, .f32⟩
  | 60 => ⟨S20000x3, .f32⟩
  | 61 => ⟨S20000x3, .f32⟩
  | 62 => ⟨S20000x3, .f32⟩
  | 63 => ⟨S_, .f32⟩
  | 64 => ⟨S_, .f32⟩
  | 65 => ⟨S_, .f32⟩
  | 66 => ⟨S20000x3, .f32⟩
  | 67 => ⟨S20000x3, .f32⟩
  | 68 => ⟨S_, .f32⟩
  | 69 => ⟨S20000x3, .f32⟩
  | 70 => ⟨S20000x3, .f32⟩
  | 71 => ⟨S20000x6, .f32⟩
  | 72 => ⟨S_, .i32⟩
  | 73 => ⟨S512, .i32⟩
  | 74 => ⟨S512, .i1⟩
  | 75 => ⟨S_, .i32⟩
  | 76 => ⟨S512, .i32⟩
  | 77 => ⟨S512, .i32⟩
  | 78 => ⟨S512, .i32⟩
  | 79 => ⟨S512x1, .i32⟩
  | 80 => ⟨S512x6, .f32⟩
  | 81 => ⟨S512, .f32⟩
  | 82 => ⟨S_, .f32⟩
  | 83 => ⟨S512, .f32⟩
  | 84 => ⟨S512, .i1⟩
  | 85 => ⟨S_, .f32⟩
  | 86 => ⟨S_, .f32⟩
  | 87 => ⟨S512, .f32⟩
  | 88 => ⟨S512, .f32⟩
  | 89 => ⟨S512x3, .f32⟩
  | 90 => ⟨S512x3, .f32⟩
  | 91 => ⟨S512x3, .f32⟩
  | 92 => ⟨S_, .f32⟩
  | 93 => ⟨S512x3, .f32⟩
  | 94 => ⟨S512x3, .f32⟩
  | 95 => ⟨S512x1, .f32⟩
  | 96 => ⟨S512, .f32⟩
  | 97 => ⟨S512x1, .f32⟩
  | 98 => ⟨S512, .f32⟩
  | 99 => ⟨S512, .f32⟩
  | 100 => ⟨S512x1, .f32⟩
  | 101 => ⟨S512, .f32⟩
  | 102 => ⟨S512, .f32⟩
  | 103 => ⟨S512x1x3, .f32⟩
  | 104 => ⟨S1x512x3, .f32⟩
  | 105 => ⟨S512x512x3, .f32⟩
  | 106 => ⟨S512x512x3, .f32⟩
  | 107 => ⟨S512x512x3, .f32⟩
  | 108 => ⟨S512x1x3, .f32⟩
  | 109 => ⟨S1x512x3, .f32⟩
  | 110 => ⟨S512x512x3, .f32⟩
  | 111 => ⟨S512x512x3, .f32⟩
  | 112 => ⟨S512x512x3, .f32⟩
  | 113 => ⟨S512x512x3, .f32⟩
  | 114 => ⟨S_, .f32⟩
  | 115 => ⟨S512x512x3, .f32⟩
  | 116 => ⟨S512x512x3, .f32⟩
  | 117 => ⟨S512x512x1, .f32⟩
  | 118 => ⟨S512x512, .f32⟩
  | 119 => ⟨S512x512x1, .f32⟩
  | 120 => ⟨S512x512, .f32⟩
  | 121 => ⟨S512x512, .f32⟩
  | 122 => ⟨S512x512x1, .f32⟩
  | 123 => ⟨S512x512, .f32⟩
  | 124 => ⟨S512x512, .f32⟩
  | 125 => ⟨S512x1, .f32⟩
  | 126 => ⟨S1x512, .f32⟩
  | 127 => ⟨S512x512, .f32⟩
  | _ => ⟨S20000x128, .f32⟩

abbrev hbmTy0_1 (i : Nat) : BufTy := match i % 128 with
  | 0 => ⟨S512x512, .f32⟩
  | 1 => ⟨S512x512, .f32⟩
  | 2 => ⟨S512x512, .f32⟩
  | 3 => ⟨S_, .f32⟩
  | 4 => ⟨S512x512, .f32⟩
  | 5 => ⟨S512x512, .f32⟩
  | 6 => ⟨S512x512, .f32⟩
  | 7 => ⟨S512, .i32⟩
  | 8 => ⟨S_, .i1⟩
  | 9 => ⟨S512, .i1⟩
  | 10 => ⟨S_, .i32⟩
  | 11 => ⟨S512, .i32⟩
  | 12 => ⟨S512, .i32⟩
  | 13 => ⟨S512x512, .f32⟩
  | 14 => ⟨S_, .i32⟩
  | 15 => ⟨S512, .i1⟩
  | 16 => ⟨S_, .i32⟩
  | 17 => ⟨S_, .i1⟩
  | 18 => ⟨S1, .i32⟩
  | 19 => ⟨S_, .i32⟩
  | 20 => ⟨S512, .i32⟩
  | 21 => ⟨S512, .i1⟩
  | 22 => ⟨S512, .i1⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1x512, .f32⟩
  | 37 => ⟨S512, .f32⟩
  | 38 => ⟨S_, .f32⟩
  | 39 => ⟨S512, .f32⟩
  | 40 => ⟨S512, .i1⟩
  | 41 => ⟨S512, .i1⟩
  | 42 => ⟨S_, .i1⟩
  | 43 => ⟨S_, .i1⟩
  | 44 => ⟨S_, .i1⟩
  | 45 => ⟨S_, .i32⟩
  | 46 => ⟨S_, .i1⟩
  | 47 => ⟨S_, .i32⟩
  | 48 => ⟨S_, .i32⟩
  | 49 => ⟨S_, .i32⟩
  | 50 => ⟨S1, .i32⟩
  | 51 => ⟨S512, .i1⟩
  | 52 => ⟨S_, .i32⟩
  | 53 => ⟨S_, .i32⟩
  | 54 => ⟨S512x3, .f32⟩
  | 55 => ⟨S512x3, .f32⟩
  | 56 => ⟨S512x3, .f32⟩
  | 57 => ⟨S_, .f32⟩
  | 58 => ⟨S512x3, .f32⟩
  | 59 => ⟨S512x3, .i1⟩
  | 60 => ⟨S_, .i1⟩
  | 61 => ⟨S512, .i1⟩
  | 62 => ⟨S512, .i1⟩
  | 63 => ⟨S512, .f32⟩
  | 64 => ⟨S512, .f32⟩
  | 65 => ⟨S512x1, .f32⟩
  | 66 => ⟨S512x7, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_values : Ref sig .tc := ⟨.hbm, 44, rfl⟩
abbrev main_indices : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_cst_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v37 : Ref sig .tc := ⟨.hbm, 70, rfl⟩
abbrev main_v38 : Ref sig .tc := ⟨.hbm, 71, rfl⟩
abbrev main_c : Ref sig .tc := ⟨.hbm, 72, rfl⟩
abbrev main_v39 : Ref sig .tc := ⟨.hbm, 73, rfl⟩
abbrev main_v40 : Ref sig .tc := ⟨.hbm, 74, rfl⟩
abbrev main_c_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_v48 : Ref sig .tc := ⟨.hbm, 84, rfl⟩
abbrev main_cst_12 : Ref sig .tc := ⟨.hbm, 85, rfl⟩
abbrev main_call4_v0 : Ref sig .tc := ⟨.hbm, 86, rfl⟩
abbrev main_call4_v1 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_16 : Ref sig .tc := ⟨.hbm, 136, rfl⟩
abbrev main_v94 : Ref sig .tc := ⟨.hbm, 137, rfl⟩
abbrev main_c_17 : Ref sig .tc := ⟨.hbm, 138, rfl⟩
abbrev main_v95_0 : Ref sig .tc := ⟨.hbm, 139, rfl⟩
abbrev main_v95_1 : Ref sig .tc := ⟨.hbm, 140, rfl⟩
abbrev main_v95_2 : Ref sig .tc := ⟨.hbm, 141, rfl⟩
abbrev main_v95_3 : Ref sig .tc := ⟨.hbm, 142, rfl⟩
abbrev main_v95_4 : Ref sig .tc := ⟨.hbm, 143, rfl⟩
abbrev main_while0c_c_24 : Ref sig .tc := ⟨.hbm, 144, rfl⟩
abbrev main_while0c_v107 : Ref sig .tc := ⟨.hbm, 145, rfl⟩
abbrev main_while0b_call5_v0 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_c_24 : Ref sig .tc := ⟨.hbm, 151, rfl⟩
abbrev main_while0b_v111 : Ref sig .tc := ⟨.hbm, 152, rfl⟩
abbrev main_while0b_c_25 : Ref sig .tc := ⟨.hbm, 153, rfl⟩
abbrev main_while0b_v112 : Ref sig .tc := ⟨.hbm, 154, rfl⟩
abbrev main_while0b_v113 : Ref sig .tc := ⟨.hbm, 155, rfl⟩
abbrev main_while0b_c_26 : Ref sig .tc := ⟨.hbm, 156, rfl⟩
abbrev main_while0b_c_27 : Ref sig .tc := ⟨.hbm, 157, rfl⟩
abbrev main_while0b_v114 : Ref sig .tc := ⟨.hbm, 158, rfl⟩
abbrev main_while0b_c_28 : Ref sig .tc := ⟨.hbm, 159, rfl⟩
abbrev main_while0b_c_29 : Ref sig .tc := ⟨.hbm, 160, rfl⟩
abbrev main_while0b_v115 : Ref sig .tc := ⟨.hbm, 161, rfl⟩
abbrev main_while0b_c_30 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_cst_31 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_c_32 : Ref sig .tc := ⟨.hbm, 170, rfl⟩
abbrev main_while0b_v122 : Ref sig .tc := ⟨.hbm, 171, rfl⟩
abbrev main_while0b_v123 : Ref sig .tc := ⟨.hbm, 172, rfl⟩
abbrev main_while0b_c_33 : Ref sig .tc := ⟨.hbm, 173, rfl⟩
abbrev main_while0b_v124 : Ref sig .tc := ⟨.hbm, 174, rfl⟩
abbrev main_while0b_c_34 : Ref sig .tc := ⟨.hbm, 175, rfl⟩
abbrev main_while0b_v125 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_c_35 : Ref sig .tc := ⟨.hbm, 180, rfl⟩
abbrev main_while0b_v129 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_18 : Ref sig .tc := ⟨.hbm, 185, rfl⟩
abbrev main_v99 : Ref sig .tc := ⟨.hbm, 186, rfl⟩
abbrev main_v100 : Ref sig .tc := ⟨.hbm, 187, rfl⟩
abbrev main_c_19 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩

abbrev nD : Nat := 1
abbrev τ : Topo := Topo.v7x

variable {F : FTy → Type} [FloatOps F]

abbrev main_while0_count : Scf.Loop 32 := ⟨0#32, 512#32, 1#32⟩
-- ==== Proof.PointBody.lean ====
/-
  The point head's kernel body and the frame of its program. The grid has twenty points; at each, the body reads its four
  input blocks whole (of the padded coordinates only the three used rows) and overwrites both output blocks. The last block
  of `x` overhangs the array, so its buffer's tail rows hold unspecified contents: the frame says nothing of the outputs.
-/
module

public import proofs.«01_k».proof.Proof.Gen.Kernel.Frame
public import proofs.«01_k».proof.Proof.Gen.Kernel.Skeleton

@[expose] public section

set_option maxRecDepth 16384

noncomputable section

namespace Cert.Kernel.PointHead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The body -/

abbrev rx : Rect S1024x128 := Rect.unit (s := S1024x128) ![0, 0] S1024x128.size inb_S1024x128_S1024x128_0_0
abbrev rw1 : Rect S128x128 := Rect.unit (s := S128x128) ![0, 0] S128x128.size inb_S128x128_S128x128_0_0
abbrev rw2 : Rect S16x128 := Rect.unit (s := S16x128) ![0, 0] S16x128.size inb_S16x128_S16x128_0_0
abbrev rct : Rect S8x1024 := Rect.unit (s := S8x1024) ![0, 0] S3x1024.size inb_S8x1024_S3x1024_0_0
abbrev rball : Rect S8x1024 := Rect.unit (s := S8x1024) ![0, 0] S8x1024.size inb_S8x1024_S8x1024_0_0
abbrev rconf : Rect S1x1x1024 := Rect.unit (s := S1x1x1024) ![0, 0, 0] S1x1x1024.size inb_S1x1x1024_S1x1x1024_0_0_0

/-- What the body stores to the table's block, of its four input blocks. -/
def ballW (i : grid0.Coords) (x : Vec F S1024x128 .f32) (w1 : Vec F S128x128 .f32) (w2 : Vec F S16x128 .f32) (ct : Vec F S8x1024 .f32) : Vec F S8x1024 .f32 :=
  k0_pay1 (k0_pay4 (View.ld x rx) (View.ld w1 rw1) (View.ld w2 rw2))
    (k0_pay7 (View.ld x rx) (View.ld w1 rw1) (View.ld w2 rw2) (View.ld ct rct))
    (k0_pay8 (View.ld x rx) (View.ld w1 rw1) (View.ld w2 rw2)) (k0_pay9 (F := F) i)
    (k0_pay10 (View.ld x rx) (View.ld w1 rw1) (View.ld w2 rw2) (View.ld ct rct)) (k0_pay11 (F := F))

/-- What the body stores to the scores' block. -/
def confW (i : grid0.Coords) (x : Vec F S1024x128 .f32) (w1 : Vec F S128x128 .f32) (w2 : Vec F S16x128 .f32) : Vec F S1x1x1024 .f32 :=
  k0_pay2 (k0_pay6 i (View.ld x rx) (View.ld w1 rw1) (View.ld w2 rw2))

/-- The table block's buffer after the body: one store of the whole block. -/
def ballOut (i : grid0.Coords) (x : Vec F S1024x128 .f32) (w1 : Vec F S128x128 .f32) (w2 : Vec F S16x128 .f32) (ct : Vec F S8x1024 .f32) : Vec F S8x1024 .f32 :=
  View.canon [⟨rball, ballW i x w1 w2 ct⟩]

/-- The scores block's buffer after the body. -/
def confOut (i : grid0.Coords) (x : Vec F S1024x128 .f32) (w1 : Vec F S128x128 .f32) (w2 : Vec F S16x128 .f32) : Vec F S1x1x1024 .f32 :=
  View.canon [⟨rconf, confW i x w1 w2⟩]

/-- The one store covers the table's block, -/
theorem ball_covers (p : Vec F S8x1024 .f32) (y : S8x1024.Idx) :
    ∃ pc ∈ ([⟨rball, p⟩] : List (View.Piece (Elt F) S8x1024 .f32)), y ∈ pc.1.set :=
  View.cover_of_tiled [⟨rball, p⟩] S8x1024.size (by rfl) y

/-- and the one store the scores' block. -/
theorem conf_covers (p : Vec F S1x1x1024 .f32) (y : S1x1x1024.Idx) :
    ∃ pc ∈ ([⟨rconf, p⟩] : List (View.Piece (Elt F) S1x1x1024 .f32)), y ∈ pc.1.set :=
  View.cover_of_tiled [⟨rconf, p⟩] S1x1x1024.size (by rfl) y

set_option maxHeartbeats 1000000 in
/-- The body on whole staging memrefs: the inputs are kept, the outputs end at `ballOut` and `confOut` of them. -/
theorem body_spec (c : Dev nD) (E : Set ℕ) (i : grid0.Coords)
    (a1 : Memref sig .tc .vmem S1024x128 .f32) (h1 : a1.IsWhole) (a2 : Memref sig .tc .vmem S128x128 .f32) (h2 : a2.IsWhole)
    (a3 : Memref sig .tc .vmem S16x128 .f32) (h3 : a3.IsWhole) (a4 : Memref sig .tc .vmem S8x1024 .f32) (h4 : a4.IsWhole)
    (a5 : Memref sig .tc .vmem S8x1024 .f32) (h5 : a5.IsWhole) (a6 : Memref sig .tc .vmem S1x1x1024 .f32) (h6 : a6.IsWhole)
    (x : Vec F S1024x128 .f32) (w1 : Vec F S128x128 .f32) (w2 : Vec F S16x128 .f32) (ct : Vec F S8x1024 .f32) (K : PUnit → sProp 𝕄) :
    iprop(owns (c : Thread nD τ) a1 fullShare x ∗ owns (c : Thread nD τ) a2 fullShare w1 ∗ owns (c : Thread nD τ) a3 fullShare w2
        ∗ owns (c : Thread nD τ) a4 fullShare ct ∗ (∃ d, owns (c : Thread nD τ) a5 fullShare d) ∗ (∃ d, owns (c : Thread nD τ) a6 fullShare d)
        ∗ (iprop(owns (c : Thread nD τ) a1 fullShare x ∗ owns (c : Thread nD τ) a2 fullShare w1 ∗ owns (c : Thread nD τ) a3 fullShare w2
            ∗ owns (c : Thread nD τ) a4 fullShare ct ∗ owns (c : Thread nD τ) a5 fullShare (ballOut i x w1 w2 ct)
            ∗ owns (c : Thread nD τ) a6 fullShare (confOut i x w1 w2)) -∗ K ⟨⟩))
      ⊢ wp frame (wpE (defs₀ (F := F)) Variants.none c none) E (cc0__mlp_kernel i a1 h1 a2 h2 a3 h3 a4 h4 a5 h5 a6 h6) K := by
  simp only [cc0__mlp_kernel_eq_skeleton]; unfold cc0__mlp_kernel_skel
  simp only [k0_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (ball_covers _)
  iexists _; isplitr
  swap; · iexact H6
  ipureintro
  exact View.read_writes_eq_canon _ _ _ (conf_covers _)

/-! ## The input blocks -/

variable (m : (ℓ : Loc nD τ sig) → Buf (Elt F) ℓ) (ρ : Dev nD → PrngReg)

/-- A default for the rows of `x`'s buffer past the array's end. -/
def pad : S1024x128.Idx → Elt F .f32 := fun _ => Scalar.ofBits .f32 0x0#32

/-- `x`'s staging buffer after point `t`'s fetch over contents `d`: the block's rows inside the array, `d` past its end. -/
def xbuf (c : Dev nD) (t : Fin cfg0.N) (d : S1024x128.Idx → Elt F .f32) : S1024x128.Idx → Elt F .f32 :=
  (cfg0.win 0).fill (cfg0.grid.coords t) d (iblk m c 0 t)

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-! ## The proof data, the two outputs forgotten -/

/-- The windows nothing is claimed of: the two outputs. -/
def outs (w : Fin cfg0.W) : Bool := match w with | ⟨4, _⟩ => true | ⟨5, _⟩ => true | _ => false

def dats (_ : Fin 1) (c : Dev nD) : Dat τ (Elt F) Unit ℕ (UR sig nD τ) ℕ cfg0 c where
  A w := V m c (Pipeline.arrRef spec0 w)
  after w t := match w with
    | ⟨0, _⟩ => xbuf m c t pad
    | ⟨1, _⟩ => iblk m c 1 t
    | ⟨2, _⟩ => iblk m c 2 t
    | ⟨3, _⟩ => iblk m c 3 t
    | ⟨4, _⟩ => ballOut (grid0.coords t) (xbuf m c t pad) (iblk m c 1 t) (iblk m c 2 t) (iblk m c 3 t)
    | ⟨5, _⟩ => confOut (grid0.coords t) (xbuf m c t pad) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = xbuf m c t pad := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- `x` is fetched at every point, so its buffer holds the block over whatever the buffer held before. -/
theorem before_0 (c : Dev nD) (t : Fin cfg0.N) (d) : (dats m 0 c).before 0 t d = xbuf m c t d := by
  unfold Dat.before; rw [if_pos (fetch0_0 t)]; rfl
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- The body obligation: `x`'s buffer is handed back as fetched, the weights' and coordinates' at their blocks, the
    outputs' at whatever was stored. -/
theorem body_ok (c : Dev nD) : BodyObligationLoose (dats (F := F) m 0 c) (defs₀ (F := F)) Variants.none () Set.univ outs := fun t => by
  rw [bigSep_W0, bigSep_W0, body_row]
  simp only [show outs 0 = false from rfl, show outs 1 = false from rfl, show outs 2 = false from rfl, show outs 3 = false from rfl,
    show outs 4 = true from rfl, show outs 5 = true from rfl]
  rw [show (dats m 0 c).Φ t.succ = (dats m 0 c).Φ t.castSucc from rfl,
    show (dats m 0 c).owesAt () t.succ = (dats m 0 c).owesAt () t.castSucc from rfl, after_0, after_1, after_2, after_3]
  simp only [before_0, before_1, before_2, before_3]
  unfold bodyAt0
  iintro ⟨HΦ, Ho, ⟨%d0, H0⟩, ⟨%d1, H1⟩, ⟨%d2, H2⟩, ⟨%d3, H3⟩, H4, H5⟩
  iapply (body_spec c Set.univ (grid0.coords t) _ _ _ _ _ _ _ _ _ _ _ _ (xbuf m c t d0) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0
    rw [show (cfg0.win 0).cut (cfg0.grid.coords t) (xbuf m c t pad) = iblk m c 0 t from Window.cut_fill _ _ _ _]
    iexact H0
  isplitl [H1]; · iexact H1
  isplitl [H2]; · iexact H2
  isplitl [H3]; · iexact H3
  isplitl [H4]; · iexists _; iexact H4
  iexists _; iexact H5

/-! ## The run and the frame -/

set_option backward.isDefEq.respectTransparency.types false in
set_option maxHeartbeats 800000 in
/-- The launch terminates, every input's array and every buffer outside the pipeline as the region found it, the
    semaphore counters at zero. -/
theorem run_forget : θ_run defs (onTc (τ := τ) (main (F := F))) (s₀ m ρ)
    (fun r => Pipeline.RDat.FramePost (cfgs 0) (fun c => (dats m 0 c).toRForget outs) (V m) r ∧ r.2.sem = fun _ => 0) :=
  Pipeline.θ_run_frame_forget (Q' := _) cfgs (dats m) (0 : Fin 1) launch0 defs₀ Variants.none outs m ρ main
    (hbody := body_ok m) (hshare := fun c => (dats m 0 c).share_full fun _ => rfl)
    (howed := fun _ _ => rfl) (V := V m) (hmain := hmain m Variants.none) (hA := dats_A m) (hΦ := fun _ _ => rfl)

/-- The frame: the six argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    have hrest := fun b hb => ((h.1 c).2 b hb)
    refine ⟨(h.1.arr_in c 0 rfl).trans ((dats_A m c 0).trans (V_main_arg0 m c)), ?_, ?_, ?_, ?_, ?_⟩
    · exact (hrest main_arg1 (Pipeline.mem_restRefs_of main_arg1 (by decide) (by decide))).trans (V_main_arg1 m c)
    · exact (hrest main_arg2 (Pipeline.mem_restRefs_of main_arg2 (by decide) (by decide))).trans (V_main_arg2 m c)
    · exact (hrest main_arg3 (Pipeline.mem_restRefs_of main_arg3 (by decide) (by decide))).trans (V_main_arg3 m c)
    · exact (hrest main_arg4 (Pipeline.mem_restRefs_of main_arg4 (by decide) (by decide))).trans (V_main_arg4 m c)
    · exact (hrest main_arg5 (Pipeline.mem_restRefs_of main_arg5 (by decide) (by decide))).trans (V_main_arg5 m c), h.2⟩)
    (run_forget m ρ)

end Cert.Kernel.PointHead

end
-- ==== Proof.IdealBody.lean ====
/-
  The point head's kernel body for the program read over the extended reals: the same body, proved to leave in its two output
  blocks the stored functions of its four input blocks.
-/
module

public import proofs.«01_k».proof.Proof.Gen.KernelIdeal.Frame
public import proofs.«01_k».proof.Proof.Gen.KernelIdeal.Skeleton

@[expose] public section

set_option maxRecDepth 16384

noncomputable section

namespace Cert.KernelIdeal.PointHead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The body -/

abbrev rx : Rect S1024x128 := Rect.unit (s := S1024x128) ![0, 0] S1024x128.size inb_S1024x128_S1024x128_0_0
abbrev rw1 : Rect S128x128 := Rect.unit (s := S128x128) ![0, 0] S128x128.size inb_S128x128_S128x128_0_0
abbrev rw2 : Rect S16x128 := Rect.unit (s := S16x128) ![0, 0] S16x128.size inb_S16x128_S16x128_0_0
abbrev rct : Rect S8x1024 := Rect.unit (s := S8x1024) ![0, 0] S3x1024.size inb_S8x1024_S3x1024_0_0
abbrev rball : Rect S8x1024 := Rect.unit (s := S8x1024) ![0, 0] S8x1024.size inb_S8x1024_S8x1024_0_0
abbrev rconf : Rect S1x1x1024 := Rect.unit (s := S1x1x1024) ![0, 0, 0] S1x1x1024.size inb_S1x1x1024_S1x1x1024_0_0_0

/-- What the body stores to the table's block, of its four input blocks. -/
def ballW (i : grid0.Coords) (x : Vec F S1024x128 .f32) (w1 : Vec F S128x128 .f32) (w2 : Vec F S16x128 .f32) (ct : Vec F S8x1024 .f32) : Vec F S8x1024 .f32 :=
  k0_pay1 (k0_pay4 (View.ld x rx) (View.ld w1 rw1) (View.ld w2 rw2))
    (k0_pay7 (View.ld x rx) (View.ld w1 rw1) (View.ld w2 rw2) (View.ld ct rct))
    (k0_pay8 (View.ld x rx) (View.ld w1 rw1) (View.ld w2 rw2)) (k0_pay9 (F := F) i)
    (k0_pay10 (View.ld x rx) (View.ld w1 rw1) (View.ld w2 rw2) (View.ld ct rct)) (k0_pay11 (F := F))

/-- What the body stores to the scores' block. -/
def confW (i : grid0.Coords) (x : Vec F S1024x128 .f32) (w1 : Vec F S128x128 .f32) (w2 : Vec F S16x128 .f32) : Vec F S1x1x1024 .f32 :=
  k0_pay2 (k0_pay6 i (View.ld x rx) (View.ld w1 rw1) (View.ld w2 rw2))

/-- The table block's buffer after the body: one store of the whole block. -/
def ballOut (i : grid0.Coords) (x : Vec F S1024x128 .f32) (w1 : Vec F S128x128 .f32) (w2 : Vec F S16x128 .f32) (ct : Vec F S8x1024 .f32) : Vec F S8x1024 .f32 :=
  View.canon [⟨rball, ballW i x w1 w2 ct⟩]

/-- The scores block's buffer after the body. -/
def confOut (i : grid0.Coords) (x : Vec F S1024x128 .f32) (w1 : Vec F S128x128 .f32) (w2 : Vec F S16x128 .f32) : Vec F S1x1x1024 .f32 :=
  View.canon [⟨rconf, confW i x w1 w2⟩]

/-- The one store covers the table's block, -/
theorem ball_covers (p : Vec F S8x1024 .f32) (y : S8x1024.Idx) :
    ∃ pc ∈ ([⟨rball, p⟩] : List (View.Piece (Elt F) S8x1024 .f32)), y ∈ pc.1.set :=
  View.cover_of_tiled [⟨rball, p⟩] S8x1024.size (by rfl) y

/-- and the one store the scores' block. -/
theorem conf_covers (p : Vec F S1x1x1024 .f32) (y : S1x1x1024.Idx) :
    ∃ pc ∈ ([⟨rconf, p⟩] : List (View.Piece (Elt F) S1x1x1024 .f32)), y ∈ pc.1.set :=
  View.cover_of_tiled [⟨rconf, p⟩] S1x1x1024.size (by rfl) y

set_option maxHeartbeats 1000000 in
/-- The body on whole staging memrefs: the inputs are kept, the outputs end at `ballOut` and `confOut` of them. -/
theorem body_spec (c : Dev nD) (E : Set ℕ) (i : grid0.Coords)
    (a1 : Memref sig .tc .vmem S1024x128 .f32) (h1 : a1.IsWhole) (a2 : Memref sig .tc .vmem S128x128 .f32) (h2 : a2.IsWhole)
    (a3 : Memref sig .tc .vmem S16x128 .f32) (h3 : a3.IsWhole) (a4 : Memref sig .tc .vmem S8x1024 .f32) (h4 : a4.IsWhole)
    (a5 : Memref sig .tc .vmem S8x1024 .f32) (h5 : a5.IsWhole) (a6 : Memref sig .tc .vmem S1x1x1024 .f32) (h6 : a6.IsWhole)
    (x : Vec F S1024x128 .f32) (w1 : Vec F S128x128 .f32) (w2 : Vec F S16x128 .f32) (ct : Vec F S8x1024 .f32) (K : PUnit → sProp 𝕄) :
    iprop(owns (c : Thread nD τ) a1 fullShare x ∗ owns (c : Thread nD τ) a2 fullShare w1 ∗ owns (c : Thread nD τ) a3 fullShare w2
        ∗ owns (c : Thread nD τ) a4 fullShare ct ∗ (∃ d, owns (c : Thread nD τ) a5 fullShare d) ∗ (∃ d, owns (c : Thread nD τ) a6 fullShare d)
        ∗ (iprop(owns (c : Thread nD τ) a1 fullShare x ∗ owns (c : Thread nD τ) a2 fullShare w1 ∗ owns (c : Thread nD τ) a3 fullShare w2
            ∗ owns (c : Thread nD τ) a4 fullShare ct ∗ owns (c : Thread nD τ) a5 fullShare (ballOut i x w1 w2 ct)
            ∗ owns (c : Thread nD τ) a6 fullShare (confOut i x w1 w2)) -∗ K ⟨⟩))
      ⊢ wp frame (wpE (defs₀ (F := F)) Variants.none c none) E (cc0__mlp_kernel i a1 h1 a2 h2 a3 h3 a4 h4 a5 h5 a6 h6) K := by
  simp only [cc0__mlp_kernel_eq_skeleton]; unfold cc0__mlp_kernel_skel
  simp only [k0_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (ball_covers _)
  iexists _; isplitr
  swap; · iexact H6
  ipureintro
  exact View.read_writes_eq_canon _ _ _ (conf_covers _)

end Cert.KernelIdeal.PointHead

end
-- ==== Proof.Point.lean ====
/-
  The mathematics of one point, shared by the kernel's side and the reference's: the two-layer head of a feature row, the
  score from its first two entries, and the point's column of the table.
-/
module

public import Idealize.ShloMosaic.Lib.Pointwise

@[expose] public section

noncomputable section

namespace Cert.Point

open Idealize.ShloMosaic

/-- One output of the head: the hidden layer of the features `x` under the weights `w1`, clipped at zero, against one row
    `w` of the second layer. -/
def head (x : Fin 128 → EReal) (w1 : Fin 128 → Fin 128 → EReal) (w : Fin 128 → EReal) : EReal :=
  ∑ k, max (∑ d, x d * w1 k d) 0 * w k

/-- The second class's share of a two-class softmax. -/
def score (a b : EReal) : EReal := Ideal.div (Ideal.exp (b - max a b)) (Ideal.exp (a - max a b) + Ideal.exp (b - max a b))

/-- A coordinate clipped to the volume. -/
def clip (v : EReal) : EReal := min ((191 : ℝ) : EReal) (max 0 v)

/-- The half-width from a head output. -/
def radius (v : EReal) : EReal := max v (-v) + 1

/-- Entry `r` of the point's column of the table: three lower corners, three upper corners, the score, a zero. -/
def cell (g : Fin 9 → EReal) (co : Fin 3 → EReal) (r : Fin 8) : EReal :=
  match r with
  | 0 => clip (g 2 + co 0 - radius (g 5))
  | 1 => clip (g 3 + co 1 - radius (g 6))
  | 2 => clip (g 4 + co 2 - radius (g 7))
  | 3 => clip (g 2 + co 0 + radius (g 5))
  | 4 => clip (g 3 + co 1 + radius (g 6))
  | 5 => clip (g 4 + co 2 + radius (g 7))
  | 6 => score (g 0) (g 1)
  | 7 => 0

/-! ## The two results, of the arrays -/

section
variable (x : FVec Ideal ⟨2, ![20000, 128]⟩ .f32) (co : FVec Ideal ⟨2, ![20000, 3]⟩ .f32) (w1 : FVec Ideal ⟨2, ![128, 128]⟩ .f32)
  (w2 : FVec Ideal ⟨2, ![128, 9]⟩ .f32)

/-- Head output `j` of point `p`. -/
def out (p : Fin 20000) (j : Fin 9) : EReal :=
  head (fun d => x (ix2 p d)) (fun k d => w1 (ix2 d k)) (fun k => w2 (ix2 k j))

/-- The table at row `r` and column `p`: the point's column, zero past the last point. -/
def tableAt (r : Fin 8) (p : ℕ) : EReal :=
  if h : p < 20000 then cell (out x w1 w2 ⟨p, h⟩) (fun a => co (ix2 (⟨p, h⟩ : Fin 20000) a)) r else 0

/-- The scores at position `p`: the point's score, minus infinity past the last point. -/
def scoreAt (p : ℕ) : EReal :=
  if h : p < 20000 then score (out x w1 w2 ⟨p, h⟩ 0) (out x w1 w2 ⟨p, h⟩ 1) else ⊥

/-- The whole table. -/
def table : FVec Ideal ⟨2, ![8, 20480]⟩ .f32 := fun j => tableAt x co w1 w2 (j 0) (j 1).val

/-- The whole array of scores, twenty rows of 1024. -/
def scores : FVec Ideal ⟨3, ![20, 1, 1024]⟩ .f32 := fun j => scoreAt x w1 w2 (1024 * (j 0).val + (j 2).val)
end

/-! ## The constants -/

theorem ofBits_191 : Ideal.ofBits .f32 0x433F0000#32 = ((191 : ℝ) : EReal) := by
  simp [Ideal.ofBits, Ideal.ieee, -EReal.coe_mul]; norm_num

theorem ofBits_20000 : Ideal.ofBits .f32 0x469C4000#32 = ((20000 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.Point

end
-- ==== Proof.Rows.lean ====
/-
  The kernel body's two outputs read at an entry, over the extended reals: lane `l` of a block is the point's mathematics
  (`Cert.Point`) of row `l` of the features' block, where the point's number is below 20000, and the masked value elsewhere.
-/
module

public import proofs.«01_k».proof.Proof.IdealBody
public import proofs.«01_k».proof.Proof.Point

@[expose] public section

set_option maxRecDepth 16384

noncomputable section

namespace Cert.KernelIdeal.PointHead

open Idealize.ShloMosaic Idealize.ShloMosaic.TcCoe
open Cert.KernelIdeal Cert.KernelIdeal.Gen Cert.Point

/-! ## The loads are the whole blocks -/

theorem ld_x (x : Vec Ideal S1024x128 .f32) : View.ld x rx = x :=
  View.ld_unit_zero (funext fun a => by fin_cases a <;> rfl) _ _
theorem ld_w1 (w : Vec Ideal S128x128 .f32) : View.ld w rw1 = w :=
  View.ld_unit_zero (funext fun a => by fin_cases a <;> rfl) _ _
theorem ld_w2 (w : Vec Ideal S16x128 .f32) : View.ld w rw2 = w :=
  View.ld_unit_zero (funext fun a => by fin_cases a <;> rfl) _ _

/-- Row `a` of the three used coordinate rows. -/
theorem ld_ct (ct : Vec Ideal S8x1024 .f32) (a : Fin 3) (l : Fin 1024) :
    View.ld ct rct (ix2 a l) = ct (ix2 (⟨a.val, by omega⟩ : Fin 8) l) := by
  show ct _ = ct _
  congr 1
  funext k; fin_cases k <;> apply Fin.ext
  · show 0 + 1 * a.val = a.val; omega
  · show 0 + 1 * l.val = l.val; omega

variable (i : grid0.Coords) (x : Vec Ideal S1024x128 .f32) (w1 : Vec Ideal S128x128 .f32) (w2 : Vec Ideal S16x128 .f32)
  (ct : Vec Ideal S8x1024 .f32)

/-- Head output `r` of lane `l`. -/
def lane (r : Fin 16) (l : Fin 1024) : EReal :=
  head (fun d => x (ix2 l d)) (fun k d => w1 (ix2 k d)) (fun k => w2 (ix2 r k))

theorem pay3_apply (r : Fin 16) (l : Fin 1024) : k0_pay3 x w1 w2 (ix2 r l) = lane x w1 w2 r l := by
  pointwise [k0_pay3]
  unfold lane head
  refine Finset.sum_congr rfl fun k _ => ?_
  rw [mul_comm]
  congr 2
  exact Finset.sum_congr rfl fun d _ => mul_comm _ _

theorem pay4_apply (l : Fin 1024) : k0_pay4 x w1 w2 (ix2 0 l) = score (lane x w1 w2 0 l) (lane x w1 w2 1 l) := by
  pointwise [k0_pay4]
  simp only [pay3_apply]
  rfl

theorem pay7_apply (a : Fin 3) (l : Fin 1024) : k0_pay7 x w1 w2 (View.ld ct rct) (ix2 a l)
    = lane x w1 w2 ⟨a.val + 2, by omega⟩ l + ct (ix2 (⟨a.val, by omega⟩ : Fin 8) l) := by
  pointwise [k0_pay7]
  simp only [pay3_apply, ld_ct]
  fin_cases a <;> rfl

theorem pay8_apply (a : Fin 3) (l : Fin 1024) : k0_pay8 x w1 w2 (ix2 a l) = radius (lane x w1 w2 ⟨a.val + 5, by omega⟩ l) := by
  pointwise [k0_pay8]
  simp only [pay3_apply, Ideal.ofBits_one_f32]
  fin_cases a <;> rfl

/-- The point's number as a 32-bit word is the number. -/
theorem number_toInt (l : Fin 1024) :
    (IntOp.addi (BitVec.ofNat 32 l.val) (Scalar.muli (BitVec.ofNat 32 (i 0).val) 1024#32)).toInt = ((1024 * (i 0).val + l.val : ℕ) : ℤ) := by
  have hi : (i 0).val < 20 := (i 0).isLt
  have hl := l.isLt
  show (BitVec.ofNat 32 l.val + BitVec.ofNat 32 (i 0).val * 1024#32).toInt = _
  rw [BitVec.toInt_eq_toNat_of_lt] <;>
    simp only [BitVec.toNat_add, BitVec.toNat_mul, BitVec.toNat_ofNat] <;> omega

/-- The mask: the point's number `1024 i + l` is below 20000. -/
theorem number_lt (l : Fin 1024) : k0_pay5 (F := Ideal) i (ix2 0 l) < Ideal.ofBits .f32 0x469C4000#32
    ↔ 1024 * (i 0).val + l.val < 20000 := by
  rw [ofBits_20000, show k0_pay5 (F := Ideal) i (ix2 0 l) = (((1024 * (i 0).val + l.val : ℕ) : ℝ) : EReal) from ?_, EReal.coe_lt_coe_iff]
  · exact_mod_cast Iff.rfl
  · pointwise [k0_pay5]
    show (((IntOp.addi _ _).toInt : ℝ) : EReal) = _
    rw [number_toInt]; rfl

theorem mask_apply (l : Fin 1024) : k0_pay9 (F := Ideal) i (ix2 0 l)
    = if 1024 * (i 0).val + l.val < 20000 then 1#1 else 0#1 := by
  show BitVec.ofBool (decide (k0_pay5 (F := Ideal) i (ix2 0 l) < Ideal.ofBits .f32 0x469C4000#32)) = _
  by_cases h : 1024 * (i 0).val + l.val < 20000
  · rw [if_pos h, decide_eq_true ((number_lt i l).2 h)]; rfl
  · rw [if_neg h, decide_eq_false (fun h' => h ((number_lt i l).1 h'))]; rfl

/-- The stored scores at lane `l`. -/
theorem confW_apply (l : Fin 1024) : confW i x w1 w2 (ix3 0 0 l)
    = if 1024 * (i 0).val + l.val < 20000 then score (lane x w1 w2 0 l) (lane x w1 w2 1 l) else ⊥ := by
  unfold confW
  rw [ld_x, ld_w1, ld_w2]
  pointwise [k0_pay2, k0_pay6]
  simp only [number_lt, pay4_apply, ofBits_neg_inf]

/-- The stored table at row `r`, lane `l`. -/
theorem ballW_apply (r : Fin 8) (l : Fin 1024) : ballW i x w1 w2 ct (ix2 r l)
    = if 1024 * (i 0).val + l.val < 20000
      then cell (fun j => lane x w1 w2 ⟨j.val, by omega⟩ l) (fun a => ct (ix2 (⟨a.val, by omega⟩ : Fin 8) l)) r
      else 0 := by
  unfold ballW
  rw [ld_x, ld_w1, ld_w2]
  fin_cases r <;> pointwise [k0_pay1, k0_pay10, k0_pay11] <;>
    (try simp only [mask_apply, pay4_apply, pay7_apply, pay8_apply, ofBits_191]) <;> split_ifs <;> rfl

/-- The table block's buffer after the body, read at an entry. -/
theorem ballOut_apply (r : Fin 8) (l : Fin 1024) : ballOut i x w1 w2 ct (ix2 r l)
    = if 1024 * (i 0).val + l.val < 20000
      then cell (fun j => lane x w1 w2 ⟨j.val, by omega⟩ l) (fun a => ct (ix2 (⟨a.val, by omega⟩ : Fin 8) l)) r
      else 0 := by
  unfold ballOut
  rw [View.canon_unit_zero (funext fun a => by fin_cases a <;> rfl)]
  exact ballW_apply i x w1 w2 ct r l

/-- The scores block's buffer after the body, read at an entry. -/
theorem confOut_apply (l : Fin 1024) : confOut i x w1 w2 (ix3 0 0 l)
    = if 1024 * (i 0).val + l.val < 20000 then score (lane x w1 w2 0 l) (lane x w1 w2 1 l) else ⊥ := by
  unfold confOut
  rw [View.canon_unit_zero (funext fun a => by fin_cases a <;> rfl)]
  exact confW_apply i x w1 w2 l

end Cert.KernelIdeal.PointHead

end
-- ==== Proof.IdealRun.lean ====
/-
  The point head's program run over the extended reals, its outputs exact: a lane of an output block depends only on the
  matching row of the features' buffer, and only where that row lies inside the array, so what the last block's buffer holds
  past the array's end never reaches an output.
-/
module

public import proofs.«01_k».proof.Proof.Rows

@[expose] public section

set_option maxRecDepth 16384

noncomputable section

namespace Cert.KernelIdeal.PointHead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Point

variable (m : (ℓ : Loc nD τ sig) → Buf (Elt Ideal) ℓ) (ρ : Dev nD → PrngReg)

/-! ## The features' buffer -/

/-- A default for the rows of `x`'s buffer past the array's end. -/
def pad : S1024x128.Idx → Elt Ideal .f32 := fun _ => (0 : EReal)

/-- `x`'s staging buffer after point `t`'s fetch over contents `d`: the block's rows inside the array, `d` past its end. -/
def xbuf (c : Dev nD) (t : Fin cfg0.N) (d : S1024x128.Idx → Elt Ideal .f32) : S1024x128.Idx → Elt Ideal .f32 :=
  (cfg0.win 0).fill (cfg0.grid.coords t) d (iblk m c 0 t)

theorem coords_val : ∀ t : Fin cfg0.N, (grid0.coords t 0).val = t.val := by decide +kernel

/-- How many rows of block `t` lie inside the array. -/
theorem xsize_rows : ∀ t : Fin cfg0.N, (cfg0.win 0).xsize (cfg0.grid.coords t) 0 = min 1024 (20000 - 1024 * t.val) := by decide +kernel
theorem xsize_cols : ∀ t : Fin cfg0.N, (cfg0.win 0).xsize (cfg0.grid.coords t) 1 = 128 := by decide +kernel

theorem xindex_rows : ∀ t : Fin cfg0.N, (cfg0.win 0).index t 0 = t.val := by decide +kernel
theorem xindex_cols : ∀ t : Fin cfg0.N, (cfg0.win 0).index t 1 = 0 := by decide +kernel

/-- A row of the buffer that lies inside the array is the array's row, whatever the buffer held. -/
theorem xbuf_apply (c : Dev nD) (t : Fin cfg0.N) (d) (l : Fin 1024) (e : Fin 128) (h : 1024 * t.val + l.val < 20000) :
    xbuf m c t d (ix2 l e) = m ((c : Thread nD τ).loc main_arg0) (ix2 (⟨1024 * t.val + l.val, h⟩ : Fin 20000) e) := by
  have hm : (cfg0.win 0).moved (cfg0.grid.coords t) (ix2 l e) = true := by
    rw [Window.moved_iff]
    intro a; fin_cases a
    · show l.val < (cfg0.win 0).xsize (cfg0.grid.coords t) 0
      rw [xsize_rows]; have := l.isLt; omega
    · show e.val < (cfg0.win 0).xsize (cfg0.grid.coords t) 1
      rw [xsize_cols]; exact e.isLt
  unfold xbuf Window.fill
  rw [dif_pos hm, ← V_main_arg0 m c]
  refine congrArg (V m c main_arg0) (?_ : ((cfg0.win 0).rect t).emb _ = _)
  funext a; apply Fin.ext
  refine (Window.rect_emb_val (cfg0.win 0) t _ a rfl).trans ?_
  fin_cases a
  · refine (congrArg (· * 1024 + l.val) (xindex_rows t)).trans ?_
    show t.val * 1024 + l.val = 1024 * t.val + l.val
    omega
  · refine (congrArg (· * 128 + e.val) (xindex_cols t)).trans ?_
    show 0 * 128 + e.val = e.val
    omega

/-- A lane whose point lies inside the array does not depend on what the buffer held. -/
theorem lane_xbuf (c : Dev nD) (t : Fin cfg0.N) (d) (w1 w2) (r : Fin 16) (l : Fin 1024) (h : 1024 * t.val + l.val < 20000) :
    lane (xbuf m c t d) w1 w2 r l
      = head (fun e => m ((c : Thread nD τ).loc main_arg0) (ix2 (⟨1024 * t.val + l.val, h⟩ : Fin 20000) e)) (fun k e => w1 (ix2 k e)) (fun k => w2 (ix2 r k)) := by
  unfold lane
  congr 1
  funext e
  exact xbuf_apply m c t d l e h

theorem ballOut_xbuf (c : Dev nD) (t : Fin cfg0.N) (d) (w1 w2 ct) :
    ballOut (grid0.coords t) (xbuf m c t d) w1 w2 ct = ballOut (grid0.coords t) (xbuf m c t pad) w1 w2 ct := by
  funext j
  obtain ⟨r, l, rfl⟩ : ∃ (r : Fin 8) (l : Fin 1024), j = ix2 r l := ⟨j 0, j 1, eq_ix2 j⟩
  rw [ballOut_apply, ballOut_apply]
  by_cases h : 1024 * (grid0.coords t 0).val + l.val < 20000
  · rw [if_pos h, if_pos h]
    rw [coords_val] at h
    simp only [lane_xbuf m c t _ w1 w2 _ _ h]
  · rw [if_neg h, if_neg h]

/-- An index of the scores' block is its lane. -/
theorem conf_idx (j : S1x1x1024.Idx) : ∃ l : Fin 1024, j = ix3 0 0 l :=
  ⟨j 2, funext fun a => by
    fin_cases a
    · exact Subsingleton.elim (α := Fin 1) _ _
    · exact Subsingleton.elim (α := Fin 1) _ _
    · rfl⟩

theorem confOut_xbuf (c : Dev nD) (t : Fin cfg0.N) (d) (w1 w2) :
    confOut (grid0.coords t) (xbuf m c t d) w1 w2 = confOut (grid0.coords t) (xbuf m c t pad) w1 w2 := by
  funext j
  obtain ⟨l, rfl⟩ := conf_idx j
  rw [confOut_apply, confOut_apply]
  by_cases h : 1024 * (grid0.coords t 0).val + l.val < 20000
  · rw [if_pos h, if_pos h]
    rw [coords_val] at h
    simp only [lane_xbuf m c t _ w1 w2 _ _ h]
  · rw [if_neg h, if_neg h]

/-- The body table's row at point `t`'s slots is the body as `bodyAt0` spells it. -/
theorem body_row (t : Fin cfg0.N) :
    defs₀ (F := Ideal) .tc cfg0.body (cfg0.bodyArgs t (cfg0.slots t)) = bodyAt0 t := by
  unfold defs₀; rw [Defs.onTc_tc]

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => xbuf m c t pad
    | ⟨1, _⟩ => iblk m c 1 t
    | ⟨2, _⟩ => iblk m c 2 t
    | ⟨3, _⟩ => iblk m c 3 t
    | ⟨4, _⟩ => ballOut (grid0.coords t) (xbuf m c t pad) (iblk m c 1 t) (iblk m c 2 t) (iblk m c 3 t)
    | ⟨5, _⟩ => confOut (grid0.coords t) (xbuf m c t pad) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = xbuf m c t pad := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = ballOut (grid0.coords t) (xbuf m c t pad) (iblk m c 1 t) (iblk m c 2 t) (iblk m c 3 t) := by dsimp only [dats]
theorem after_5 (c : Dev nD) (t : Fin cfg0.N) : (dats m 0 c).after 5 t
    = confOut (grid0.coords t) (xbuf m c t pad) (iblk m c 1 t) (iblk m c 2 t) := by dsimp only [dats]

/-- `x` is fetched at every point, so its buffer holds the block over whatever the buffer held before. -/
theorem before_0 (c : Dev nD) (t : Fin cfg0.N) (d) : (dats m 0 c).before 0 t d = xbuf m c t d := by
  unfold Dat.before; rw [if_pos (fetch0_0 t)]; rfl
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- The body obligation: `x`'s buffer is handed back as fetched, the weights' and coordinates' at their blocks, the
    outputs' at the stored functions of the blocks. -/
theorem body_ok (c : Dev nD) : BodyObligationLoose (dats m 0 c) (defs₀ (F := Ideal)) Variants.none () Set.univ := fun t => by
  rw [bigSep_W0, bigSep_W0, body_row]
  rw [show (dats m 0 c).Φ t.succ = (dats m 0 c).Φ t.castSucc from rfl,
    show (dats m 0 c).owesAt () t.succ = (dats m 0 c).owesAt () t.castSucc from rfl, after_0, after_1, after_2, after_3, after_4, after_5]
  simp only [before_0, before_1, before_2, before_3]
  unfold bodyAt0
  iintro ⟨HΦ, Ho, ⟨%d0, H0⟩, ⟨%d1, H1⟩, ⟨%d2, H2⟩, ⟨%d3, H3⟩, ⟨%d4, H4⟩, ⟨%d5, H5⟩⟩
  iapply (body_spec c Set.univ (grid0.coords t) _ _ _ _ _ _ _ _ _ _ _ _ (xbuf m c t d0) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  rw [ballOut_xbuf m c t d0, confOut_xbuf m c t d0]
  iintro ⟨H0, H1, H2, H3, H4, H5⟩
  isplitl [HΦ]; · iexact HΦ
  isplitl [Ho]; · iexact Ho
  isplitl [H0]
  · iexists d0
    rw [show (cfg0.win 0).cut (cfg0.grid.coords t) (xbuf m c t pad) = iblk m c 0 t from Window.cut_fill _ _ _ _]
    iexact H0
  isplitl [H1]; · iexact H1
  isplitl [H2]; · iexact H2
  isplitl [H3]; · iexact H3
  isplitl [H4]; · iexact H4
  iexact H5

set_option backward.isDefEq.respectTransparency.types false in
set_option maxHeartbeats 800000 in
/-- The run: every array as the write-backs leave it, every other buffer as the region found it, the semaphore counters
    at zero. -/
theorem run_exact : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_ok m) (hshare := fun c => (dats m 0 c).share_full fun _ => rfl)
    (howed := fun _ _ => rfl) (V := V m) (hmain := hmain m Variants.none) (hA := dats_A m) (hΦ := fun _ _ => rfl)

end Cert.KernelIdeal.PointHead

end
-- ==== Proof.HostReads.lean ====
/-
  What the host lines before the call leave in its operands: the first layer's weights transposed, the second layer's
  transposed and set into sixteen rows of zeros, the coordinates transposed and set into eight rows of 20480 zeros.
-/
module

public import proofs.«01_k».proof.Proof.IdealRun
public import Idealize.ShloMosaic.Lib.StableHlo.Run
public import Idealize.ShloMosaic.Lib.Routing.OpsSet
public import Idealize.ShloMosaic.Lib.Routing.OpsPair

@[expose] public section

set_option maxRecDepth 16384

noncomputable section

namespace Cert.KernelIdeal.PointHead

open Idealize.ShloMosaic Idealize.ShloMosaic.TcCoe Idealize.ShloMosaic.Tactic
open Cert.KernelIdeal Cert.KernelIdeal.Gen Cert.Point

/-! ## Updates set at the origin -/

/-- A scatter whose start is zero on both axes sets update `(a, b)` at `(a, b)` of a matrix. -/
theorem set_origin {α : Type} {R C R' C' w : Nat} {si : Shape} (d : ScatterDims ⟨2, ![R, C]⟩ si ⟨2, ![R', C']⟩)
    (hwin : ∀ (k : (⟨2, ![R', C']⟩ : Shape).Idx), d.window k 0 = (k 0).val ∧ d.window k 1 = (k 1).val)
    (x : (⟨2, ![R, C]⟩ : Shape).Idx → α) (idx : IVec si w) (hidx : ∀ i, (idx i).toInt = 0)
    (upd : (⟨2, ![R', C']⟩ : Shape).Idx → α) (a : Fin R') (b : Fin C') (ha : a.val < R) (hb : b.val < C) :
    Host.scatter d (fun _ b => b) x idx upd (ix2 (⟨a.val, ha⟩ : Fin R) (⟨b.val, hb⟩ : Fin C)) = upd (ix2 a b) := by
  have hs : ∀ k t, d.start k idx t = 0 := fun k t => by
    unfold ScatterDims.start; split
    · exact hidx _
    · rfl
  have key : ∀ k, d.resultIdx? k idx = some (ix2 (⟨a.val, ha⟩ : Fin R) (⟨b.val, hb⟩ : Fin C)) ↔ (k 0).val = a.val ∧ (k 1).val = b.val := fun k => by
    have h := Routing.resultIdx?_ix2 (R := R) (C := C) d k idx ⟨a.val, ha⟩ ⟨b.val, hb⟩
    rw [hs, hs, (hwin k).1, (hwin k).2] at h
    refine Iff.trans h ?_
    constructor
    · rintro ⟨h1, h2⟩; exact ⟨by simpa using h1, by simpa using h2⟩
    · rintro ⟨h1, h2⟩; exact ⟨by simp [h1], by simp [h2]⟩
  refine Routing.scatter_set_hit d x idx upd _ _ (fun k hk => ?_) (ix2 a b) ((key _).2 ⟨rfl, rfl⟩)
  obtain ⟨h1, h2⟩ := (key k).1 hk
  congr 1
  rw [eq_ix2 k]
  congr 1 <;> exact Fin.ext (by assumption)

variable (m : (ℓ : Loc nD τ sig) → Buf (Elt Ideal) ℓ)

theorem V_w1 (c : Dev nD) (k d : Fin 128) : V m c main_v6 (ix2 k d) = m ((c : Thread nD τ).loc main_arg2) (ix2 d k) := by
  have h : V m c main_v6 = transpose S128x128 [1, 0] (m ((c : Thread nD τ).loc main_arg2)) transposes_S128x128_S128x128_1_0 := by
    show StableHlo.after hostOps0 _ _ = _
    after_results
  rw [h]
  pointwise []

theorem V_w2 (c : Dev nD) (r : Fin 9) (k : Fin 128) :
    V m c main_v10 (ix2 (⟨r.val, by omega⟩ : Fin 16) k) = m ((c : Thread nD τ).loc main_arg4) (ix2 k r) := by
  have h : V m c main_v10 = Host.scatter scatter_S16x128_S1_S9x128_01_n_0_0 (fun _ b => b)
      (broadcastInDim S16x128 ![] bcast_S_S16x128 (constant (F := Ideal) S_ .f32 0x00000000#32))
      (broadcastInDim S1 ![] bcast_S_S1 (constantI S_ 32 0#32))
      (transpose S9x128 [1, 0] (m ((c : Thread nD τ).loc main_arg4)) transposes_S128x9_S9x128_1_0) := by
    show StableHlo.after hostOps0 _ _ = _
    after_results
  rw [h]
  refine (set_origin scatter_S16x128_S1_S9x128_01_n_0_0 (fun k => ⟨rfl, rfl⟩) _ _ (fun _ => rfl) _ r k _ k.isLt).trans ?_
  pointwise []

theorem V_ct (c : Dev nD) (a : Fin 3) (p : Fin 20000) :
    V m c main_v5 (ix2 (⟨a.val, by omega⟩ : Fin 8) (⟨p.val, by omega⟩ : Fin 20480)) = m ((c : Thread nD τ).loc main_arg1) (ix2 p a) := by
  have h : V m c main_v5 = Host.scatter scatter_S8x20480_S2_S3x20000_01_n_01_0 (fun _ b => b)
      (broadcastInDim S8x20480 ![] bcast_S_S8x20480 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (transpose S3x20000 [1, 0] (m ((c : Thread nD τ).loc main_arg1)) transposes_S20000x3_S3x20000_1_0) := by
    show StableHlo.after hostOps0 _ _ = _
    after_results
  rw [h]
  refine (set_origin scatter_S8x20480_S2_S3x20000_01_n_01_0 (fun k => ⟨rfl, rfl⟩) _ _ (fun i => ?_) _ a p _ _).trans ?_
  · obtain ⟨i, rfl⟩ : ∃ k : Fin 2, i = ix1 k := ⟨i 0, eq_ix1 i⟩
    fin_cases i <;> rfl
  pointwise []

/-! ## The blocks -/

theorem blk_w1 (c : Dev nD) (t : Fin cfg0.N) (k d : Fin 128) :
    iblk m c 1 t (ix2 k d) = m ((c : Thread nD τ).loc main_arg2) (ix2 d k) := by
  refine Eq.trans ?_ (V_w1 m c k d)
  refine congrArg (V m c main_v6) (?_ : ((cfg0.win 1).rect t).emb _ = _)
  funext a; apply Fin.ext
  refine (Pipeline.Window.rect_emb_val_of_index_zero (cfg0.win 1) t a ?_ _).trans ?_
  · fin_cases a <;> rfl
  · fin_cases a <;> rfl

theorem blk_w2 (c : Dev nD) (t : Fin cfg0.N) (r : Fin 9) (k : Fin 128) :
    iblk m c 2 t (ix2 (⟨r.val, by omega⟩ : Fin 16) k) = m ((c : Thread nD τ).loc main_arg4) (ix2 k r) := by
  refine Eq.trans ?_ (V_w2 m c r k)
  refine congrArg (V m c main_v10) (?_ : ((cfg0.win 2).rect t).emb _ = _)
  funext a; apply Fin.ext
  refine (Pipeline.Window.rect_emb_val_of_index_zero (cfg0.win 2) t a ?_ _).trans ?_
  · fin_cases a <;> rfl
  · fin_cases a <;> rfl

theorem ctindex_rows : ∀ t : Fin cfg0.N, (cfg0.win 3).index t 0 = 0 := by decide +kernel
theorem ctindex_cols : ∀ t : Fin cfg0.N, (cfg0.win 3).index t 1 = t.val := by decide +kernel

theorem blk_ct (c : Dev nD) (t : Fin cfg0.N) (a : Fin 3) (l : Fin 1024) (h : 1024 * t.val + l.val < 20000) :
    iblk m c 3 t (ix2 (⟨a.val, by omega⟩ : Fin 8) l) = m ((c : Thread nD τ).loc main_arg1) (ix2 (⟨1024 * t.val + l.val, h⟩ : Fin 20000) a) := by
  refine Eq.trans ?_ (V_ct m c a ⟨1024 * t.val + l.val, h⟩)
  refine congrArg (V m c main_v5) (?_ : ((cfg0.win 3).rect t).emb _ = _)
  funext b; apply Fin.ext
  refine (Pipeline.Window.rect_emb_val (cfg0.win 3) t _ b rfl).trans ?_
  fin_cases b
  · refine (congrArg (· * 8 + a.val) (ctindex_rows t)).trans ?_
    show 0 * 8 + a.val = a.val
    omega
  · refine (congrArg (· * 1024 + l.val) (ctindex_cols t)).trans ?_
    show t.val * 1024 + l.val = 1024 * t.val + l.val
    omega

end Cert.KernelIdeal.PointHead

end
-- ==== Proof.Final.lean ====
/-
  The arrays the point head's program ends with, over the extended reals: the table and the scores of the mathematics in
  `Cert.Point`, of the arguments as launched.
-/
module

public import proofs.«01_k».proof.Proof.HostReads

@[expose] public section

set_option maxRecDepth 16384

noncomputable section

namespace Cert.KernelIdeal.PointHead

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.Point

variable (m : (ℓ : Loc nD τ sig) → Buf (Elt Ideal) ℓ) (ρ : Dev nD → PrngReg)

/-- The table of the arguments as launched. -/
def tableOf (c : Dev nD) : FVec Ideal S8x20480 .f32 :=
  table (m ((c : Thread nD τ).loc main_arg0)) (m ((c : Thread nD τ).loc main_arg1)) (m ((c : Thread nD τ).loc main_arg2)) (m ((c : Thread nD τ).loc main_arg4))

/-- The scores of the arguments as launched. -/
def scoresOf (c : Dev nD) : FVec Ideal S20x1x1024 .f32 :=
  scores (m ((c : Thread nD τ).loc main_arg0)) (m ((c : Thread nD τ).loc main_arg2)) (m ((c : Thread nD τ).loc main_arg4))

/-! ## A lane is its point -/

theorem lane_out (c : Dev nD) (t : Fin cfg0.N) (l : Fin 1024) (h : 1024 * t.val + l.val < 20000) (j : Fin 9) :
    lane (xbuf m c t pad) (iblk m c 1 t) (iblk m c 2 t) (⟨j.val, by omega⟩ : Fin 16) l
      = out (m ((c : Thread nD τ).loc main_arg0)) (m ((c : Thread nD τ).loc main_arg2)) (m ((c : Thread nD τ).loc main_arg4)) ⟨1024 * t.val + l.val, h⟩ j := by
  rw [lane_xbuf m c t _ _ _ _ l h]
  unfold out
  congr 1
  · funext k e; exact blk_w1 m c t k e
  · funext k; exact blk_w2 m c t j k

theorem ball_lane (c : Dev nD) (t : Fin cfg0.N) (r : Fin 8) (l : Fin 1024) :
    ballOut (grid0.coords t) (xbuf m c t pad) (iblk m c 1 t) (iblk m c 2 t) (iblk m c 3 t) (ix2 r l)
      = tableAt (m ((c : Thread nD τ).loc main_arg0)) (m ((c : Thread nD τ).loc main_arg1)) (m ((c : Thread nD τ).loc main_arg2)) (m ((c : Thread nD τ).loc main_arg4))
          r (1024 * t.val + l.val) := by
  rw [ballOut_apply, coords_val]
  unfold tableAt
  by_cases h : 1024 * t.val + l.val < 20000
  · rw [if_pos h, dif_pos h]
    exact congrArg₂ (fun g co => cell g co r) (funext fun j => lane_out m c t l h j) (funext fun a => blk_ct m c t a l h)
  · rw [if_neg h, dif_neg h]

theorem conf_lane (c : Dev nD) (t : Fin cfg0.N) (l : Fin 1024) :
    confOut (grid0.coords t) (xbuf m c t pad) (iblk m c 1 t) (iblk m c 2 t) (ix3 0 0 l)
      = scoreAt (m ((c : Thread nD τ).loc main_arg0)) (m ((c : Thread nD τ).loc main_arg2)) (m ((c : Thread nD τ).loc main_arg4)) (1024 * t.val + l.val) := by
  rw [confOut_apply, coords_val]
  unfold scoreAt
  by_cases h : 1024 * t.val + l.val < 20000
  · rw [if_pos h, dif_pos h]
    exact congrArg₂ score (lane_out m c t l h 0) (lane_out m c t l h 1)
  · rw [if_neg h, dif_neg h]

/-! ## The table's array -/

theorem ball_rows : ∀ t : Fin cfg0.N, (cfg0.win 4).index t 0 = 0 := by decide +kernel
theorem ball_cols : ∀ t : Fin cfg0.N, (cfg0.win 4).index t 1 = t.val := by decide +kernel
theorem conf_major : ∀ t : Fin cfg0.N, (cfg0.win 5).index t 0 = t.val := by decide +kernel
theorem conf_mid : ∀ t : Fin cfg0.N, (cfg0.win 5).index t 1 = 0 := by decide +kernel
theorem conf_minor : ∀ t : Fin cfg0.N, (cfg0.win 5).index t 2 = 0 := by decide +kernel

/-- Entry `(r, l)` of point `t`'s block is entry `(r, 1024 t + l)` of the array. -/
theorem ball_emb (t : Fin cfg0.N) (r : Fin 8) (l : Fin 1024) (h : 1024 * t.val + l.val < 20480) :
    ((cfg0.win 4).rect t).emb (ix2 r l) = ix2 r (⟨1024 * t.val + l.val, h⟩ : Fin 20480) := by
  funext b; apply Fin.ext
  refine (Pipeline.Window.rect_emb_val (cfg0.win 4) t _ b rfl).trans ?_
  fin_cases b
  · refine (congrArg (· * 8 + r.val) (ball_rows t)).trans ?_
    show 0 * 8 + r.val = r.val
    omega
  · refine (congrArg (· * 1024 + l.val) (ball_cols t)).trans ?_
    show t.val * 1024 + l.val = 1024 * t.val + l.val
    omega

/-- Lane `l` of point `t`'s block is lane `l` of row `t` of the array. -/
theorem conf_emb (t : Fin cfg0.N) (l : Fin 1024) (h : t.val < 20) :
    ((cfg0.win 5).rect t).emb (ix3 0 0 l) = ix3 (⟨t.val, h⟩ : Fin 20) 0 l := by
  funext b; apply Fin.ext
  refine (Pipeline.Window.rect_emb_val (cfg0.win 5) t _ b rfl).trans ?_
  fin_cases b
  · refine (congrArg (· * 1 + 0) (conf_major t)).trans ?_
    show t.val * 1 + 0 = t.val
    omega
  · refine (congrArg (· * 1 + 0) (conf_mid t)).trans ?_
    rfl
  · refine (congrArg (· * 1024 + l.val) (conf_minor t)).trans ?_
    show 0 * 1024 + l.val = l.val
    omega

theorem flushed_ball (c : Dev nD) (t : Fin cfg0.N) :
    (dats m 0 c).flushed 4 t = ((cfg0.win 4).blk t).view.read (Elt Ideal) (tableOf m c) := by
  show (cfg0.win 4).cut (grid0.coords t) ((dats m 0 c).after 4 t) = _
  rw [after_4]
  funext y
  obtain ⟨r, l, rfl⟩ : ∃ (r : Fin 8) (l : Fin 1024), y = ix2 r l := ⟨y 0, y 1, eq_ix2 y⟩
  have ht : t.val < 20 := t.isLt
  have hl : 1024 * t.val + l.val < 20480 := by have := l.isLt; omega
  refine (ball_lane m c t r l).trans ?_
  exact (congrArg (tableOf m c) (ball_emb t r l hl)).symm

theorem flushed_conf (c : Dev nD) (t : Fin cfg0.N) :
    (dats m 0 c).flushed 5 t = ((cfg0.win 5).blk t).view.read (Elt Ideal) (scoresOf m c) := by
  show (cfg0.win 5).cut (grid0.coords t) ((dats m 0 c).after 5 t) = _
  rw [after_5]
  funext y
  obtain ⟨l, rfl⟩ := conf_idx y
  have ht : t.val < 20 := t.isLt
  refine (conf_lane m c t l).trans ?_
  exact (congrArg (scoresOf m c) (conf_emb t l ht)).symm

theorem mem_of_emb {s : Shape} (r : Rect s) (y : r.shape.Idx) : r.emb y ∈ r.set := by
  rw [← Rect.map_emb_univ]; exact Finset.mem_map_of_mem _ (Finset.mem_univ y)

theorem cover_ball (i : S8x20480.Idx) :
    ∃ t : Fin cfg0.N, (cfg0.win 4).flush t = true ∧ i ∈ ((cfg0.win 4).blk t).view.set := by
  obtain ⟨r, p, rfl⟩ : ∃ (r : Fin 8) (p : Fin 20480), i = ix2 r p := ⟨i 0, i 1, eq_ix2 i⟩
  have hp := p.isLt
  refine ⟨⟨p.val / 1024, by show _ < 20; omega⟩, flush0_4 _, ?_⟩
  show _ ∈ ((View.whole main_v11_0).slice ((cfg0.win 4).rect _)).set
  rw [View.set_slice_whole]
  have h := ball_emb ⟨p.val / 1024, by show _ < 20; omega⟩ r ⟨p.val % 1024, by omega⟩ (by show 1024 * (p.val / 1024) + p.val % 1024 < _; omega)
  have e : ix2 r (⟨1024 * (p.val / 1024) + p.val % 1024, by omega⟩ : Fin 20480) = ix2 r p :=
    congrArg (ix2 r) (Fin.ext (by show 1024 * (p.val / 1024) + p.val % 1024 = p.val; omega))
  rw [← e]
  exact h ▸ mem_of_emb _ _

theorem cover_conf (i : S20x1x1024.Idx) :
    ∃ t : Fin cfg0.N, (cfg0.win 5).flush t = true ∧ i ∈ ((cfg0.win 5).blk t).view.set := by
  obtain ⟨a, l, rfl⟩ : ∃ (a : Fin 20) (l : Fin 1024), i = ix3 a 0 l := ⟨i 0, i 2, funext fun b => by
    fin_cases b
    · rfl
    · exact Subsingleton.elim (α := Fin 1) _ _
    · rfl⟩
  refine ⟨⟨a.val, a.isLt⟩, flush0_5 _, ?_⟩
  show _ ∈ ((View.whole main_v11_1).slice ((cfg0.win 5).rect _)).set
  rw [View.set_slice_whole]
  exact conf_emb ⟨a.val, a.isLt⟩ l a.isLt ▸ mem_of_emb _ _

theorem final_ball (c : Dev nD) : (dats m 0 c).arrAt 4 cfg0.N = tableOf m c :=
  (dats m 0 c).arrAt_eq_of_cover 4 (tableOf m c) (fun t _ => flushed_ball m c t) cover_ball

theorem final_conf (c : Dev nD) : (dats m 0 c).arrAt 5 cfg0.N = scoresOf m c :=
  (dats m 0 c).arrAt_eq_of_cover 5 (scoresOf m c) (fun t _ => flushed_conf m c t) cover_conf

/-! ## The run -/

/-- The program ends with the table and the scores of its arguments, the arguments unchanged, the counters at zero. -/
theorem run_value : θ_run defs (onTc (τ := τ) (main (F := Ideal))) ⟨m, fun _ => 0, ρ⟩ (fun r => (∀ c : Dev nD,
      r.2.mem ((c.tc : Thread nD τ).loc main_v11_0) = tableOf m c
      ∧ r.2.mem ((c.tc : Thread nD τ).loc main_v11_1) = scoresOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    have hrest := fun b hb => ((h.1 c).2 b hb)
    refine ⟨((h.1 c).1 4).trans (final_ball m c), ((h.1 c).1 5).trans (final_conf m c),
      ((h.1 c).1 0).trans (((dats m 0 c).arrAt_in 0 rfl _).trans ((dats_A m c 0).trans (V_main_arg0 m c))), ?_, ?_, ?_, ?_, ?_⟩
    · exact (hrest main_arg1 (Pipeline.mem_restRefs_of main_arg1 (by decide) (by decide))).trans (V_main_arg1 m c)
    · exact (hrest main_arg2 (Pipeline.mem_restRefs_of main_arg2 (by decide) (by decide))).trans (V_main_arg2 m c)
    · exact (hrest main_arg3 (Pipeline.mem_restRefs_of main_arg3 (by decide) (by decide))).trans (V_main_arg3 m c)
    · exact (hrest main_arg4 (Pipeline.mem_restRefs_of main_arg4 (by decide) (by decide))).trans (V_main_arg4 m c)
    · exact (hrest main_arg5 (Pipeline.mem_restRefs_of main_arg5 (by decide) (by decide))).trans (V_main_arg5 m c), h.2⟩)
    (run_exact m ρ)

end Cert.KernelIdeal.PointHead

end
-- ==== Proof.RefValue.lean ====
/-
  The reference read at an entry, over the extended reals: with zero biases its two results are the table and the scores of
  the mathematics in `Cert.Point`.
-/
module

public import proofs.«01_k».proof.Proof.Gen.ReferenceIdeal.Run
public import proofs.«01_k».proof.Proof.Gen.ReferenceIdeal.Read
public import proofs.«01_k».proof.Proof.Point

@[expose] public section

set_option maxRecDepth 16384

noncomputable section

namespace Cert.ReferenceIdeal.PointHead

open Idealize.ShloMosaic Idealize.ShloMosaic.TcCoe
open Cert.ReferenceIdeal Cert.ReferenceIdeal.Gen Cert.ReferenceIdeal.Value Cert.ReferenceIdeal.Read Cert.Point

variable (x0 : FVec Ideal S20000x128 .f32) (x1 : FVec Ideal S20000x3 .f32) (x2 : FVec Ideal S128x128 .f32)
  (x3 : FVec Ideal S128 .f32) (x4 : FVec Ideal S128x9 .f32) (x5 : FVec Ideal S9 .f32)

/-- The head's outputs. -/
theorem head_apply (h3 : ∀ k : Fin 128, x3 (ix1 k) = 0) (h5 : ∀ j : Fin 9, x5 (ix1 j) = 0) (p : Fin 20000) (j : Fin 9) :
    val_main_v8 (F := Ideal) x0 x2 x3 x4 x5 (ix2 p j) = out x0 x2 x4 p j := by
  pointwise [val_main_v8, val_main_v7, val_main_v6, val_main_v5, val_main_v4, val_main_v3, val_main_v2, val_main_v1, val_main_v0,
    val_main_call0_v0, val_main_call0_cst]
  simp only [h3, h5, add_zero]
  rfl

/-- The greater of the first two outputs. -/
theorem top_apply (p : Fin 20000) : val_main_v12 (F := Ideal) x0 x2 x3 x4 x5 (ix1 p)
    = max (val_main_v8 (F := Ideal) x0 x2 x3 x4 x5 (ix2 p 0)) (val_main_v8 (F := Ideal) x0 x2 x3 x4 x5 (ix2 p 1)) := by
  pointwise [val_main_v12, val_main_v11, val_main_v10, val_main_v9, val_main_cst, val_main_cst_0]
  rw [ofBits_neg_inf, show (Finset.univ : Finset (Fin 2)) = {0, 1} from rfl, Finset.fold_insert (by decide), Finset.fold_singleton]
  rw [max_bot_left, max_bot_right]
  rfl

/-- The score. -/
theorem score_apply (p : Fin 20000) : val_main_v22 (F := Ideal) x0 x2 x3 x4 x5 (ix1 p)
    = score (val_main_v8 (F := Ideal) x0 x2 x3 x4 x5 (ix2 p 0)) (val_main_v8 (F := Ideal) x0 x2 x3 x4 x5 (ix2 p 1)) := by
  pointwise [val_main_v22, val_main_v21, val_main_v20, val_main_v19, val_main_v18, val_main_v17, val_main_v16, val_main_v15, val_main_v14, val_main_v13,
    val_main_v9, val_main_cst_1]
  simp only [top_apply]
  rw [Fin.sum_univ_two]
  rfl

/-- The clipped corners. -/
theorem lo_apply (p : Fin 20000) (a : Fin 3) : val_main_v30 (F := Ideal) x0 x1 x2 x3 x4 x5 (ix2 p a)
    = clip (val_main_v8 (F := Ideal) x0 x2 x3 x4 x5 (ix2 p ⟨2 + a.val, by omega⟩) + x1 (ix2 p a)
        - radius (val_main_v8 (F := Ideal) x0 x2 x3 x4 x5 (ix2 p ⟨5 + a.val, by omega⟩))) := by
  pointwise [val_main_v30, val_main_call1_v4, val_main_call1_v3, val_main_call1_v2, val_main_call1_v1, val_main_call1_v0, val_main_v29, val_main_v28, val_main_v27, val_main_v26, val_main_v25,
    val_main_v24, val_main_v23, val_main_cst_2, val_main_cst_3, val_main_cst_4]
  rw [show id (constant (F := Ideal) S_ .f32 1128202240#32) ix0 = ((191 : ℝ) : EReal) from ofBits_191,
    show id (constant (F := Ideal) S_ .f32 0#32) ix0 = (0 : EReal) from Ideal.ofBits_zero_f32]
  rfl

theorem hi_apply (p : Fin 20000) (a : Fin 3) : val_main_v32 (F := Ideal) x0 x1 x2 x3 x4 x5 (ix2 p a)
    = clip (val_main_v8 (F := Ideal) x0 x2 x3 x4 x5 (ix2 p ⟨2 + a.val, by omega⟩) + x1 (ix2 p a)
        + radius (val_main_v8 (F := Ideal) x0 x2 x3 x4 x5 (ix2 p ⟨5 + a.val, by omega⟩))) := by
  pointwise [val_main_v32, val_main_call2_v4, val_main_call2_v3, val_main_call2_v2, val_main_call2_v1, val_main_call2_v0, val_main_v31, val_main_v28, val_main_v27, val_main_v26, val_main_v25,
    val_main_v24, val_main_v23, val_main_cst_2, val_main_cst_5, val_main_cst_6]
  rw [show id (constant (F := Ideal) S_ .f32 1128202240#32) ix0 = ((191 : ℝ) : EReal) from ofBits_191,
    show id (constant (F := Ideal) S_ .f32 0#32) ix0 = (0 : EReal) from Ideal.ofBits_zero_f32]
  rfl

/-- A point's row of the untransposed table. -/
theorem row_apply (h3 : ∀ k : Fin 128, x3 (ix1 k) = 0) (h5 : ∀ j : Fin 9, x5 (ix1 j) = 0) (p : Fin 20000) (r : Fin 8) :
    val_main_v35 (F := Ideal) x0 x1 x2 x3 x4 x5 (ix2 p r) = cell (out x0 x2 x4 p) (fun a => x1 (ix2 p a)) r := by
  fin_cases r <;> pointwise [val_main_v35, val_main_v34, val_main_v33, val_main_cst_7] <;>
    (try simp only [lo_apply, hi_apply, score_apply, head_apply x0 x2 x3 x4 x5 h3 h5]) <;> rfl

/-- The first result: the table. -/
theorem table_eq (h3 : ∀ k : Fin 128, x3 (ix1 k) = 0) (h5 : ∀ j : Fin 9, x5 (ix1 j) = 0) :
    val_main_v38 (F := Ideal) x0 x1 x2 x3 x4 x5 = table x0 x1 x2 x4 := by
  funext i
  obtain ⟨r, p, rfl⟩ : ∃ (r : Fin 8) (p : Fin 20480), i = ix2 r p := ⟨i 0, i 1, eq_ix2 i⟩
  show _ = tableAt x0 x1 x2 x4 r p.val
  unfold tableAt
  pointwise [val_main_v38, val_main_v37, val_main_v36, val_main_cst_8]
  by_cases h : p.val < 20000
  · rw [dif_pos h, dif_pos h]
    exact row_apply x0 x1 x2 x3 x4 x5 h3 h5 ⟨p.val, h⟩ r
  · rw [dif_neg h, dif_neg h]

/-- The second result: the scores. -/
theorem scores_eq (h3 : ∀ k : Fin 128, x3 (ix1 k) = 0) (h5 : ∀ j : Fin 9, x5 (ix1 j) = 0) :
    val_main_v41 (F := Ideal) x0 x2 x3 x4 x5 = scores x0 x2 x4 := by
  funext i
  obtain ⟨a, l, rfl⟩ : ∃ (a : Fin 20) (l : Fin 1024), i = ix3 a 0 l := ⟨i 0, i 2, funext fun b => by
    fin_cases b
    · rfl
    · exact Subsingleton.elim (α := Fin 1) _ _
    · rfl⟩
  show _ = scoreAt x0 x2 x4 (1024 * a.val + l.val)
  unfold scoreAt
  pointwise [val_main_v41, val_main_v40, val_main_v39, val_main_cst_9]
  rw [ofBits_neg_inf]
  by_cases h : 1024 * a.val + l.val < 20000
  · rw [dif_pos h, dif_pos (by omega), score_apply, head_apply x0 x2 x3 x4 x5 h3 h5, head_apply x0 x2 x3 x4 x5 h3 h5]
    have e : (⟨a.val * 1024 + l.val, by omega⟩ : Fin 20000) = ⟨1024 * a.val + l.val, h⟩ := Fin.ext (by show a.val * 1024 + l.val = 1024 * a.val + l.val; omega)
    rw [e]
  · rw [dif_neg h, dif_neg (by omega)]

end Cert.ReferenceIdeal.PointHead

end
-- ==== Proof.Claims.lean ====
/-
  The point head's claims: the precondition read as the two bias arrays being zero, the reference's run, and the equation
  between the two programs' results.
-/
module

public import proofs.«01_k».proof.Defs
public import proofs.«01_k».proof.Proof.PointBody
public import proofs.«01_k».proof.Proof.Final
public import proofs.«01_k».proof.Proof.RefValue
public import proofs.«01_k».proof.Proof.Gen.ReferenceIdeal.Run
public import proofs.«01_k».proof.Proof.Gen.Pre_zero_biases
public import Idealize.ShloMosaic.Lib.ReduceAll
public import Idealize.ShloMosaic.Lib.Quiescent
public import Idealize.ShloMosaic.Lib.Pointwise

@[expose] public section

noncomputable section

namespace Cert.PointClaims

open Idealize.ShloMosaic Idealize.ShloMosaic.TcCoe Idealize.SL.Sem

/-! ## The precondition -/

instance : Subsingleton (Cert.Pre_zero_biases.S_).Idx := ⟨fun _ _ => funext fun a => a.elim0⟩

/-- A comparison for equality that is one compares equal numbers. -/
theorem eq_of_cmp {x y : EReal} (h : (Ideal.cmp .oeq x y : BitVec 1) = 1#1) : x = y := by
  by_contra hn
  have : (Ideal.cmp .oeq x y : BitVec 1) = 0#1 := by simp [Ideal.cmp, hn]
  rw [this] at h
  exact absurd h (by decide)

/-- Both bias arrays are zero. -/
theorem zero_of_pre [Cert.Pre_zero_biases.Facts] {x0 : FVec Ideal Cert.Pre_zero_biases.S20000x128 .f32}
    {x1 : FVec Ideal Cert.Pre_zero_biases.S20000x3 .f32} {x2 : FVec Ideal Cert.Pre_zero_biases.S128x128 .f32}
    {x3 : FVec Ideal Cert.Pre_zero_biases.S128 .f32} {x4 : FVec Ideal Cert.Pre_zero_biases.S128x9 .f32}
    {x5 : FVec Ideal Cert.Pre_zero_biases.S9 .f32} (h : Cert.Pre_zero_biases.fn (F := Ideal) x0 x1 x2 x3 x4 x5 = fun _ => 1#1) :
    (∀ k : Fin 128, x3 (ix1 k) = 0) ∧ ∀ j : Fin 9, x5 (ix1 j) = 0 := by
  have h0 := congrFun h ix0
  simp only [Cert.Pre_zero_biases.fn] at h0
  obtain ⟨ha, hb⟩ := IntOp.andi_eq_one.1 h0
  refine ⟨fun k => ?_, fun j => ?_⟩
  · have e := Host.reduce_andi_all _ _ _ _ _ ha (ix1 k)
    exact (eq_of_cmp e).trans Ideal.ofBits_zero_f32
  · have e := Host.reduce_andi_all _ _ _ _ _ hb (ix1 j)
    exact (eq_of_cmp e).trans Ideal.ofBits_zero_f32

/-! ## The frames -/

theorem frame_kernel : Cert.quiescent_Kernel := fun m ρ _ => Cert.Kernel.PointHead.frame m ρ

theorem frame_ideal : Cert.quiescent_KernelIdeal := fun m ρ _ =>
  (θ_run Cert.KernelIdeal.defs _ _).mono (fun _ h => ⟨fun c => (h.1 c).2.2, h.2⟩) (Cert.KernelIdeal.PointHead.run_value m ρ)

theorem frame_ideal_pre : Cert.quiescent_KernelIdeal_pre_zero_biases := fun m ρ _ => frame_ideal m ρ trivial

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

theorem frame_reference_pre : Cert.quiescent_ReferenceIdeal_pre_zero_biases := fun m ρ _ => frame_reference m ρ trivial

/-! ## The values -/

/-- Over the extended reals, with zero biases, the kernel's table and scores are the reference's. -/
theorem algebraic : Cert.algebraic_KernelIdeal_ReferenceIdeal_pre_zero_biases := by
  intro m ρ m' ρ' hpre hagree
  refine ⟨fun c => Cert.KernelIdeal.PointHead.tableOf m c, fun c => Cert.KernelIdeal.PointHead.scoresOf m c,
    (θ_run Cert.KernelIdeal.defs _ _).mono (fun _ h => h.1) (Cert.KernelIdeal.PointHead.run_value m ρ), ?_⟩
  refine (θ_run Cert.ReferenceIdeal.defs _ _).mono
    (fun _ h c => ⟨(h c).1.trans ?_, (h c).2.1.trans ?_, (h c).2.2⟩) (Cert.ReferenceIdeal.Value.run (F := Ideal) m' ρ')
  · obtain ⟨h0, h1, h2, h3, h4, h5⟩ := hagree c
    obtain ⟨z3, z5⟩ := zero_of_pre (hpre c)
    refine (Cert.ReferenceIdeal.Read.val_main_v38_eq m' c).trans ?_
    rw [h0, h1, h2, h3, h4, h5]
    exact Cert.ReferenceIdeal.PointHead.table_eq _ _ _ _ _ _ z3 z5
  · obtain ⟨h0, h1, h2, h3, h4, h5⟩ := hagree c
    obtain ⟨z3, z5⟩ := zero_of_pre (hpre c)
    refine (Cert.ReferenceIdeal.Read.val_main_v41_eq m' c).trans ?_
    rw [h0, h2, h3, h4, h5]
    exact Cert.ReferenceIdeal.PointHead.scores_eq _ _ _ _ _ z3 z5

end Cert.PointClaims

end
-- ==== Proof.SelectFrame.lean ====
/-
  The selection's kernel body and the frame of its program. The grid has one point: the body reads the table chunk by
  chunk and the scores whole, keeps the pairwise overlaps in its scratch buffer, and overwrites the output block. The frame
  says nothing of the output.
-/
module

public import proofs.«01_k».proof.Proof.Gen.Kernel2.Frame
public import proofs.«01_k».proof.Proof.Gen.Kernel2.Skeleton
public import proofs.«01_k».proof.Proof.Gen.Kernel2.Loops

@[expose] public section

set_option maxRecDepth 16384

noncomputable section

namespace Cert.Kernel2.Select

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2 Cert.Kernel2.Gen

variable {F : FTy → Type} [FloatOps F]

local notation "𝕄" => MT nD τ sig Unit (Elt F) ℕ (UR sig nD τ) ℕ

/-! ## The body -/

set_option maxHeartbeats 4000000 in
/-- The body on whole memrefs: the inputs are kept, the output and the scratch end at something. -/
theorem body_spec (c : Dev nD) (E : Set ℕ)
    (a0 : Memref sig .tc .vmem S8x20480 .f32) (h0 : a0.IsWhole) (a1 : Memref sig .tc .vmem S20x1x1024 .f32) (h1 : a1.IsWhole)
    (a2 : Memref sig .tc .vmem S512x7 .f32) (h2 : a2.IsWhole) (a3 : Memref sig .tc .vmem S512x512 .f32) (h3 : a3.IsWhole)
    (B : Vec F S8x20480 .f32) (C : Vec F S20x1x1024 .f32) (K : PUnit → sProp 𝕄) :
    iprop(owns (c : Thread nD τ) a0 fullShare B ∗ owns (c : Thread nD τ) a1 fullShare C
        ∗ (∃ d, owns (c : Thread nD τ) a2 fullShare d) ∗ (∃ d, owns (c : Thread nD τ) a3 fullShare d)
        ∗ (iprop(owns (c : Thread nD τ) a0 fullShare B ∗ owns (c : Thread nD τ) a1 fullShare C
            ∗ (∃ d, owns (c : Thread nD τ) a2 fullShare d) ∗ (∃ d, owns (c : Thread nD τ) a3 fullShare d)) -∗ K ⟨⟩))
      ⊢ wp frame (wpE (defs₀ (F := F)) Variants.none c none) E (cc0__select_nms_kernel a0 h0 a1 h1 a2 h2 a3 h3) K := by
  simp only [cc0__select_nms_kernel_eq_skeleton]; unfold cc0__select_nms_kernel_skel
  unfold owns
  iintro ⟨⟨%f0, %e0, H0⟩, ⟨%f1, %e1, H1⟩, ⟨%d2, %f2, -, H2⟩, ⟨%d3, %f3, -, H3⟩, Hk⟩
  subst e0 e1
  sl_exec
  sl_step
  iapply Hk
  isplitl [H0]
  · iexists f0; isplitr; · ipureintro; rfl
    iexact H0
  isplitl [H1]
  · iexists f1; isplitr; · ipureintro; rfl
    iexact H1
  isplitl [H2]
  · iexists _; iexists _; isplitr
    swap; · iexact H2
    ipureintro; rfl
  iexists _; iexists _; isplitr
  swap; · iexact H3
  ipureintro; rfl

/-! ## The proof data, the output forgotten -/

variable (m : (ℓ : Loc nD τ sig) → Buf (Elt F) ℓ) (ρ : Dev nD → PrngReg)

/-- The body table's row at the one point's slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The window nothing is claimed of: the output. -/
def outs (w : Fin cfg0.W) : Bool := match w with | ⟨2, _⟩ => true | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The body obligation: the inputs' buffers are handed back as fetched; the scratch buffer is lent out of the region's
    own and handed back. -/
theorem body_ok (c : Dev nD) : BodyObligationLoose (dats (F := F) m 0 c) (defs₀ (F := F)) Variants.none () Set.univ outs := fun t => by
  rw [bigSep_W0, bigSep_W0, body_row]
  simp only [show outs 0 = false from rfl, show outs 1 = false from rfl, show outs 2 = true from rfl]
  rw [show (dats m 0 c).Φ t.succ = (dats m 0 c).Φ t.castSucc from rfl,
    show (dats m 0 c).owesAt () t.succ = (dats m 0 c).owesAt () t.castSucc from rfl, after_0, after_1]
  rw [show (dats m 0 c).Φ t.castSucc = Pipeline.ΦA spec0 c from rfl]
  simp only [before_0, before_1]
  unfold bodyAt0 Pipeline.ΦA
  rw [Gen.scopedRest0_eq]
  iintro ⟨⟨⟨%f, Hs⟩, Hr⟩, Ho, ⟨%d0, H0⟩, ⟨%d1, H1⟩, H2⟩
  iapply (body_spec c Set.univ _ _ _ _ _ _ _ _ (iblk m c 0 t) (iblk m c 1 t) _)
  simp only [owns_whole]
  isplitl [H0]; · iexact H0
  isplitl [H1]; · iexact H1
  isplitl [H2]; · iexact H2
  isplitl [Hs]; · iexists f; iexact Hs
  iintro ⟨H0, H1, H2, ⟨%f', Hs⟩⟩
  isplitl [Hs Hr]
  · isplitl [Hs]
    · iexists f'; iexact Hs
    iexact Hr
  isplitl [Ho]; · iexact Ho
  isplitl [H0]; · iexact H0
  isplitl [H1]; · iexact H1
  iexact H2

/-! ## The run and the frame -/

set_option backward.isDefEq.respectTransparency.types false in
set_option maxHeartbeats 800000 in
/-- The launch terminates, both inputs' arrays as the region found them, the semaphore counters at zero. -/
theorem run_forget : θ_run defs (onTc (τ := τ) (main (F := F))) (s₀ m ρ)
    (fun r => Pipeline.RDat.FramePost (cfgs 0) (fun c => (dats m 0 c).toRForget outs) (V m) r ∧ r.2.sem = fun _ => 0) :=
  Pipeline.θ_run_frame_forget (Q' := _) cfgs (dats m) (0 : Fin 1) launch0 defs₀ Variants.none outs m ρ main
    (hbody := body_ok m) (hshare := fun c => (dats m 0 c).share_full fun _ => rfl)
    (howed := fun _ _ => rfl) (V := V m) (hmain := hmain m Variants.none) (hA := dats_A m) (hΦ := fun _ _ => rfl)

/-- The frame: the table and the scores end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.arr_in c 0 rfl).trans ((dats_A m c 0).trans (V_main_arg0 m c)),
      (h.1.arr_in c 1 rfl).trans ((dats_A m c 1).trans (V_main_arg1 m c))⟩, h.2⟩)
    (run_forget m ρ)

end Cert.Kernel2.Select

end
-- ==== Proof.SelectBody.lean ====
/-
  The selection's kernel body, run to an explicit function of the table and the scores. The pieces of the function: the
  kept scores' integer keys and the threshold key found bit by bit, the selected positions and their places, the twenty
  one-hot products that gather the selected columns, the permutation by score, the pairwise overlaps, the greedy pass over
  them, the output rows.
-/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Select

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

/-! ## The function -/

/-- Chunk `k` of the table: its 1024 columns. -/
theorem chunk_inb (k : Fin 20) : ∀ a, (![0, 1024 * k.val] : Fin 2 → Nat) a + S8x1024.size a ≤ S8x20480.size a := by
  revert k; decide +kernel
abbrev rchunk (k : Fin 20) : Rect S8x20480 := Rect.unit (s := S8x20480) ![0, 1024 * k.val] S8x1024.size (chunk_inb k)
theorem row_slices (k : Fin 20) : S20x1024.Slices ![k.val, 0] S1x1024 := by
  revert k; decide +kernel
abbrev rscores : Rect S20x1x1024 := Rect.unit (s := S20x1x1024) ![0, 0, 0] S20x1x1024.size inb_S20x1x1024_S20x1x1024_0_0_0
abbrev rover : Rect S512x512 := Rect.unit (s := S512x512) ![0, 0] S512x512.size inb_S512x512_S512x512_0_0
abbrev rrow (k : Fin k0_t2_loop.trips) : Rect S512x512 := Rect.unit (s := S512x512) (k0_off1 k) S1x512.size (k0_off1_inb k)
abbrev rout : Rect S512x7 := Rect.unit (s := S512x7) ![0, 0] S512x7.size inb_S512x7_S512x7_0_0

/-- One bit of the threshold key: kept when at least 512 keys reach the candidate. -/
def bitStep (s : Vec F S20x1x1024 .f32) (k : Fin k0_t1_loop.trips) (t : BitVec 32) : BitVec 32 :=
  Scalar.select (Scalar.cmpi .sge (extractAt ![0, 0, 0] (k0_pay3 s k t) inpos_S1x1x1_p0_0_0) 512#32)
    (Scalar.addi t (Scalar.shrsi 1073741824#32 (Scf.iv 0#32 1#32 k))) t

/-- The threshold key. -/
def radix (s : Vec F S20x1x1024 .f32) : BitVec 32 := Scf.fold (bitStep s) 0#32

/-- Which positions are selected (a one or a zero each), -/
def selOf (s : Vec F S20x1x1024 .f32) : FVec F S20x1024 .f32 := k0_pay9 (k0_pay2 s) (k0_pay4 s (radix s)) (k0_pay5 s (radix s)) (k0_pay6 s (radix s))
/-- and how many selected positions come before each. -/
def posOf (s : Vec F S20x1x1024 .f32) : FVec F S20x1024 .f32 := k0_pay10 (k0_pay2 s) (k0_pay4 s (radix s)) (k0_pay5 s (radix s)) (k0_pay6 s (radix s))

/-- Chunk `k`'s one-hot matrix: row `r` marks the selected position whose place is `r`. -/
def oneHot (pos sel : FVec F S20x1024 .f32) (k : Fin 20) : FVec F S512x1024 .f32 :=
  mulf (sitofp .f32 (extui 32 (cmpf .oeq (broadcastTo S512x1024 (k0_pay13 (F := F)) broadcasts_S512x1_S512x1024)
      (broadcastTo S512x1024 (extractStridedSlice S1x1024 ![k.val, 0] pos (row_slices k)) broadcasts_S1x1024_S512x1024)) natLt_1_32))
    (broadcastTo S512x1024 (extractStridedSlice S1x1024 ![k.val, 0] sel (row_slices k)) broadcasts_S1x1024_S512x1024)

/-- Chunk `k`'s columns to gather: the table's eight rows, the kept flag, the position. -/
def cols (b : Vec F S8x20480 .f32) (s : Vec F S20x1x1024 .f32) (k : Fin 20) : FVec F S10x1024 .f32 :=
  concatenate S10x1024 0 [⟨S8x1024, View.ld b (rchunk k)⟩,
    ⟨S1x1024, extractStridedSlice S1x1024 ![k.val, 0] (k0_pay12 (F := F) (k0_pay2 s)) (row_slices k)⟩,
    ⟨S1x1024, extractStridedSlice S1x1024 ![k.val, 0] (k0_pay11 (F := F)) (row_slices k)⟩] concatenates_S8x1024_S1x1024_S1x1024_S10x1024_d0

/-- The chunks in order. -/
def chunks : List (Fin 20) := [0, 1, 2, 3, 4, 5, 6, 7, 8, 9, 10, 11, 12, 13, 14, 15, 16, 17, 18, 19]

/-- The gathered columns as rows, -/
def gathered (b : Vec F S8x20480 .f32) (s : Vec F S20x1x1024 .f32) : FVec F S512x10 .f32 :=
  chunks.foldl (fun acc k => addf acc (matmul dot_S512x1024_S10x1024_S512x10_1_1_0_0_n_n (some .fp32)
    (oneHot (posOf s) (selOf s) k) (cols b s k) (constant S512x10 .f32 0x00000000#32))) (k0_pay14 (F := F))
/-- and as columns. -/
def gatheredT (b : Vec F S8x20480 .f32) (s : Vec F S20x1x1024 .f32) : FVec F S10x512 .f32 :=
  chunks.foldl (fun acc k => addf acc (matmul dot_S10x1024_S512x1024_S10x512_1_1_0_0_n_n (some .fp32)
    (cols b s k) (oneHot (posOf s) (selOf s) k) (constant S10x512 .f32 0x00000000#32))) (k0_pay15 (F := F))

/-- Which gathered rows are kept scores. -/
def kept (g : FVec F S512x10 .f32) : IVec S512x1 1 :=
  cmpf .ogt (extractStridedSlice S512x1 ![0, 8] g slices_S512x10_o0_8_S512x1) (broadcast S512x1 (Scalar.ofBits .f32 0x3F000000#32))

/-- The rows sorted by score, -/
def ranked (g : FVec F S512x10 .f32) (gt : FVec F S10x512 .f32) : FVec F S512x10 .f32 :=
  k0_pay79 (k0_pay13 (F := F)) g gt (kept g) (extractStridedSlice S512x1 ![0, 6] g slices_S512x10_o0_6_S512x1) (k0_pay77 (F := F))
/-- and the same as columns. -/
def rankedT (g : FVec F S512x10 .f32) (gt : FVec F S10x512 .f32) : FVec F S10x512 .f32 :=
  k0_pay80 (k0_pay13 (F := F)) g gt (kept g) (extractStridedSlice S512x1 ![0, 6] g slices_S512x10_o0_6_S512x1) (k0_pay77 (F := F))
/-- The sorted boxes' volumes, down the rows. -/
def volume (g : FVec F S512x10 .f32) (gt : FVec F S10x512 .f32) : FVec F S512x1 .f32 :=
  k0_pay81 (k0_pay13 (F := F)) g gt (kept g) (extractStridedSlice S512x1 ![0, 6] g slices_S512x10_o0_6_S512x1) (k0_pay77 (F := F))

/-- The pairwise overlaps. -/
def overlap (g : FVec F S512x10 .f32) (gt : FVec F S10x512 .f32) : FVec F S512x512 .f32 :=
  k0_pay85 (volume g gt) (k0_pay82 (rankedT g gt)) (k0_pay83 (ranked g gt) (rankedT g gt)) (k0_pay84 (ranked g gt) (rankedT g gt))

/-- The scratch buffer once the overlaps are stored. -/
def scratch (g : FVec F S512x10 .f32) (gt : FVec F S10x512 .f32) : Vec F S512x512 .f32 := View.canon [⟨rover, overlap g gt⟩]

/-- The greedy pass over the overlaps `o` after its first `n` boxes. -/
def greedy (o : Vec F S512x512 .f32) : ℕ → FVec F S1x512 .f32
  | 0 => k0_pay86 (F := F)
  | n + 1 => if h : n < k0_t2_loop.trips then k0_pay87 ⟨n, h⟩ (greedy o n) (View.ld o (rrow ⟨n, h⟩)) else greedy o n

theorem greedy_succ (o : Vec F S512x512 .f32) (k : Fin k0_t2_loop.trips) :
    greedy o (k.val + 1) = k0_pay87 k (greedy o k.val) (View.ld o (rrow k)) := by
  rw [greedy]; exact dif_pos k.isLt

/-- The output rows of gathered rows. -/
def rowsOut (g : FVec F S512x10 .f32) (gt : FVec F S10x512 .f32) : FVec F S512x7 .f32 :=
  k0_pay1 (ranked g gt) (k0_pay88 (greedy (scratch g gt) k0_t2_loop.trips)) (k0_pay89 (ranked g gt)) (k0_pay90 (ranked g gt))

/-- The output block of the table and the scores. -/
def out (b : Vec F S8x20480 .f32) (s : Vec F S20x1x1024 .f32) : Vec F S512x7 .f32 :=
  View.canon [⟨rout, rowsOut (gathered b (View.ld s rscores)) (gatheredT b (View.ld s rscores))⟩]

theorem out_covers (p : Vec F S512x7 .f32) (y : S512x7.Idx) :
    ∃ pc ∈ ([⟨rout, p⟩] : List (View.Piece (Elt F) S512x7 .f32)), y ∈ pc.1.set :=
  View.cover_of_tiled [⟨rout, p⟩] S512x7.size (by rfl) y
theorem over_covers (p : Vec F S512x512 .f32) (y : S512x512.Idx) :
    ∃ pc ∈ ([⟨rover, p⟩] : List (View.Piece (Elt F) S512x512 .f32)), y ∈ pc.1.set :=
  View.cover_of_tiled [⟨rover, p⟩] S512x512.size (by rfl) y

/-! ## The greedy loop -/

set_option warn.classDefReducibility false in
/-- The greedy loop by its invariant: the scratch is only read, the carried row is `greedy`'s. -/
@[sl_loop] def greedyLoop (𝒱 : Variants) (c : Dev nD) (bd : Option 𝒱.V) (E : Set ℕ)
    (a0 : Memref sig .tc .vmem S8x20480 .f32) (h0 : a0.IsWhole) (a1 : Memref sig .tc .vmem S20x1x1024 .f32) (h1 : a1.IsWhole)
    (a2 : Memref sig .tc .vmem S512x7 .f32) (h2 : a2.IsWhole) (a3 : Memref sig .tc .vmem S512x512 .f32) (h3 : a3.IsWhole)
    (X : BufTy.Contents (Elt F) a3.view.ty) :
    LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok (k0_pay86 (F := F)) (k0_t2_body (F := F) a0 h0 a1 h1 a2 h2 a3 h3) where
  inv k acc := iprop((a3.view.loc (c : Thread nD τ) ↦[a3.view.set]{fullShare} X) ∗ ⌜acc = greedy (a3.view.read (Elt F) X) k⌝)
  step k acc := by
    have hk : k.val < 512 := Nat.lt_of_lt_of_le k.isLt k0_t2_abs.2.1
    iintro ⟨HX, %hacc⟩
    subst hacc
    unfold k0_t2_body
    sl_exec
    sl_step
    isplitl [HX]; · iexact HX
    ipureintro
    exact (greedy_succ _ k).symm

/-! ## The body -/

set_option maxHeartbeats 4000000 in
/-- The body on whole memrefs: the inputs are kept, the output ends at `out` of them, the scratch at something. -/
theorem body_spec (c : Dev nD) (E : Set ℕ)
    (a0 : Memref sig .tc .vmem S8x20480 .f32) (h0 : a0.IsWhole) (a1 : Memref sig .tc .vmem S20x1x1024 .f32) (h1 : a1.IsWhole)
    (a2 : Memref sig .tc .vmem S512x7 .f32) (h2 : a2.IsWhole) (a3 : Memref sig .tc .vmem S512x512 .f32) (h3 : a3.IsWhole)
    (B : Vec F S8x20480 .f32) (C : Vec F S20x1x1024 .f32) (K : PUnit → sProp 𝕄) :
    iprop(owns (c : Thread nD τ) a0 fullShare B ∗ owns (c : Thread nD τ) a1 fullShare C
        ∗ (∃ d, owns (c : Thread nD τ) a2 fullShare d) ∗ (∃ d, owns (c : Thread nD τ) a3 fullShare d)
        ∗ (iprop(owns (c : Thread nD τ) a0 fullShare B ∗ owns (c : Thread nD τ) a1 fullShare C
            ∗ owns (c : Thread nD τ) a2 fullShare (out B C) ∗ (∃ d, owns (c : Thread nD τ) a3 fullShare d)) -∗ K ⟨⟩))
      ⊢ wp frame (wpE (defs₀ (F := F)) Variants.none c none) E (cc0__select_nms_kernel a0 h0 a1 h1 a2 h2 a3 h3) K := by
  simp only [cc0__select_nms_kernel_eq_skeleton]; unfold cc0__select_nms_kernel_skel
  unfold owns
  iintro ⟨⟨%f0, %e0, H0⟩, ⟨%f1, %e1, H1⟩, ⟨%d2, %f2, -, H2⟩, ⟨%d3, %f3, -, H3⟩, Hk⟩
  subst e0 e1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (out_covers _)).trans ?_
    refine congrArg (fun p => View.canon [⟨rout, p⟩]) ?_
    refine (congrArg (fun o => k0_pay1 _ (k0_pay88 (greedy o k0_t2_loop.trips)) _ _) (View.read_writes_eq_canon a3.view _ _ (over_covers _))).trans ?_
    rfl
  iexists _; iexists _; isplitr
  swap; · iexact H3
  ipureintro; rfl

end Cert.Kernel2Ideal.Select

end
-- ==== Proof.SelectRun.lean ====
/-
  The selection's program run over any floats, its output exact: the one grid point's blocks are the whole arrays, so the
  output array ends at the body's function of the table and the scores.
-/
module

public import proofs.«01_k».proof.Proof.SelectBody
public import Idealize.ShloMosaic.Lib.Pipeline.Value

@[expose] public section

set_option maxRecDepth 16384

noncomputable section

namespace Cert.Kernel2Ideal.Select

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks are the arrays -/

theorem index_zero : ∀ t : Fin cfg0.N, (∀ a, (cfg0.win 0).index t a = 0) ∧ (∀ a, (cfg0.win 1).index t a = 0) ∧ ∀ a, (cfg0.win 2).index t a = 0 := by
  decide +kernel

theorem table_emb (t : Fin cfg0.N) (y : S8x20480.Idx) : ((cfg0.win 0).rect t).emb y = y := by
  funext a; apply Fin.ext
  refine (Window.rect_emb_val (cfg0.win 0) t _ a rfl).trans ?_
  rw [(index_zero t).1 a]; simp
theorem scores_emb (t : Fin cfg0.N) (y : S20x1x1024.Idx) : ((cfg0.win 1).rect t).emb y = y := by
  funext a; apply Fin.ext
  refine (Window.rect_emb_val (cfg0.win 1) t _ a rfl).trans ?_
  rw [(index_zero t).2.1 a]; simp
theorem out_emb (t : Fin cfg0.N) (y : S512x7.Idx) : ((cfg0.win 2).rect t).emb y = y := by
  funext a; apply Fin.ext
  refine (Window.rect_emb_val (cfg0.win 2) t _ a rfl).trans ?_
  rw [(index_zero t).2.2 a]; simp

theorem iblk_table (c : Dev nD) (t : Fin cfg0.N) : iblk m c 0 t = m ((c : Thread nD τ).loc main_arg0) := by
  funext y
  exact congrArg (m ((c : Thread nD τ).loc main_arg0)) (table_emb t y)
theorem iblk_scores (c : Dev nD) (t : Fin cfg0.N) : iblk m c 1 t = m ((c : Thread nD τ).loc main_arg1) := by
  funext y
  exact congrArg (m ((c : Thread nD τ).loc main_arg1)) (scores_emb t y)

/-! ## The proof data -/

/-- The output of the arguments as launched. -/
def outOf (c : Dev nD) : Vec F S512x7 .f32 := out (m ((c : Thread nD τ).loc main_arg0)) (m ((c : Thread nD τ).loc main_arg1))

/-- The body table's row at the one point's slots is the body as `bodyAt0` spells it. -/
theorem body_row (t : Fin cfg0.N) :
    defs₀ (F := F) .tc cfg0.body (cfg0.bodyArgs t (cfg0.slots t)) = bodyAt0 t := by
  unfold defs₀; rw [Defs.onTc_tc]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = out (iblk m c 0 t) (iblk m c 1 t) := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The body obligation: the inputs' buffers are handed back as fetched, the output's at `out` of them; the scratch buffer
    is lent out of the region's own and handed back. -/
theorem body_ok (c : Dev nD) : BodyObligationLoose (dats (F := F) m 0 c) (defs₀ (F := F)) Variants.none () Set.univ := fun t => by
  rw [bigSep_W0, bigSep_W0, body_row]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl]
  simp only [before_0, before_1]
  unfold bodyAt0 Pipeline.ΦA
  rw [Gen.scopedRest0_eq]
  iintro ⟨⟨⟨%f, Hs⟩, Hr⟩, Ho, ⟨%d0, H0⟩, ⟨%d1, H1⟩, ⟨%d2, H2⟩⟩
  iapply (body_spec c Set.univ _ _ _ _ _ _ _ _ (iblk m c 0 t) (iblk m c 1 t) _)
  simp only [owns_whole]
  isplitl [H0]; · iexact H0
  isplitl [H1]; · iexact H1
  isplitl [H2]; · iexists _; iexact H2
  isplitl [Hs]; · iexists f; iexact Hs
  iintro ⟨H0, H1, H2, ⟨%f', Hs⟩⟩
  isplitl [Hs Hr]
  · isplitl [Hs]
    · iexists f'; iexact Hs
    iexact Hr
  isplitl [Ho]; · iexact Ho
  isplitl [H0]; · iexact H0
  isplitl [H1]; · iexact H1
  iexact H2

set_option backward.isDefEq.respectTransparency.types false in
set_option maxHeartbeats 800000 in
/-- The run: every array as the write-back leaves it, every other buffer as the region found it, the semaphore counters
    at zero. -/
theorem run_exact : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_ok m) (hshare := fun c => (dats m 0 c).share_full fun _ => rfl)
    (howed := fun _ _ => rfl) (V := V m) (hmain := hmain m Variants.none) (hA := dats_A m) (hΦ := fun _ _ => rfl)

/-! ## The output's array -/

theorem flushed_out (c : Dev nD) (t : Fin cfg0.N) :
    (dats m 0 c).flushed 2 t = ((cfg0.win 2).blk t).view.read (Elt F) (outOf m c) := by
  show (cfg0.win 2).cut (grid0.coords t) ((dats m 0 c).after 2 t) = _
  rw [after_2, iblk_table, iblk_scores]
  funext y
  exact (congrArg (outOf m c) (out_emb t y)).symm

theorem cover_out (i : S512x7.Idx) : ∃ t : Fin cfg0.N, (cfg0.win 2).flush t = true ∧ i ∈ ((cfg0.win 2).blk t).view.set := by
  refine ⟨⟨0, by decide +kernel⟩, flush0_2 _, ?_⟩
  show _ ∈ ((View.whole main_v0).slice ((cfg0.win 2).rect _)).set
  rw [View.set_slice_whole, ← Rect.map_emb_univ]
  exact Finset.mem_map.2 ⟨i, Finset.mem_univ _, out_emb _ i⟩

theorem final_out (c : Dev nD) : (dats m 0 c).arrAt 2 cfg0.N = outOf m c :=
  (dats m 0 c).arrAt_eq_of_cover 2 (outOf m c) (fun t _ => flushed_out m c t) cover_out

/-- The program ends with the output of its arguments, the arguments unchanged, the counters at zero. -/
theorem run_value : θ_run defs (onTc (τ := τ) (main (F := F))) ⟨m, fun _ => 0, ρ⟩ (fun r => (∀ c : Dev nD,
      r.2.mem ((c.tc : Thread nD τ).loc main_v0) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 2).trans (final_out m c),
      ((h.1 c).1 0).trans (((dats m 0 c).arrAt_in 0 rfl _).trans ((dats_A m c 0).trans (V_main_arg0 m c))),
      ((h.1 c).1 1).trans (((dats m 0 c).arrAt_in 1 rfl _).trans ((dats_A m c 1).trans (V_main_arg1 m c)))⟩, h.2⟩)
    (run_exact m ρ)

end Cert.Kernel2Ideal.Select

end
-- ==== Proof.SelectRefRun.lean ====
/-
  What the reference's lines leave in their arrays: the top scores with their positions, the boxes there, their overlaps, the
  greedy loop's flags trip by trip, and the result.
-/
module

public import proofs.«01_k».proof.Proof.Gen.Reference2Ideal.Run
public import Idealize.ShloMosaic.Lib.StableHlo.Run
public import Idealize.ShloMosaic.PureOps.Ideal

@[expose] public section

set_option maxRecDepth 16384

noncomputable section

namespace Cert.Reference2Ideal.Select

open Idealize.ShloMosaic Idealize.ShloMosaic.TcCoe Idealize.ShloMosaic.Tactic Idealize.ShloMosaic.StableHlo
open Cert.Reference2Ideal Cert.Reference2Ideal.Gen Cert.Reference2Ideal.Value

/-- The scores of the points. -/
def points (s : Vec Ideal S20x1x1024 .f32) : FVec Ideal S20000 .f32 :=
  extractStridedSlice S20000 ![0] (shapeCast S20480 s shapeCasts_S20x1x1024_S20480) slices_S20480_S20000_0

/-- Which points' scores reach the threshold. -/
def reached (s : Vec Ideal S20x1x1024 .f32) : IVec S20000 1 :=
  cmpf .oge (points s) (broadcastInDim S20000 ![] bcast_S_S20000 (minimumf (constant (F := Ideal) S_ .f32 0x3F000000#32)
    (Host.reduce FloatOps.maximumf (points s) (constant (F := Ideal) S_ .f32 0xFF800000#32) reducesTo_S20000_S_d0 h_S_)))

/-- The scores that reach the threshold, the others least. -/
def scored (s : Vec Ideal S20x1x1024 .f32) : FVec Ideal S20000 .f32 :=
  select (reached s) (points s) (broadcastInDim S20000 ![] bcast_S_S20000 (id (constant (F := Ideal) S_ .f32 0xFF800000#32)))

/-- The top scores and their positions. -/
def values (s : Vec Ideal S20x1x1024 .f32) : FVec Ideal S512 .f32 :=
  (Host.topK S512 0 (FloatOps.cmpfTotal .gt) (scored s) sliceFits_S20000_S512).1
def places (s : Vec Ideal S20x1x1024 .f32) : IVec S512 32 :=
  (Host.topK S512 0 (FloatOps.cmpfTotal .gt) (scored s) sliceFits_S20000_S512).2

/-- The boxes at the positions `i`. -/
def boxesAt (b : Vec Ideal S8x20480 .f32) (i : IVec S512 32) : FVec Ideal S512x6 .f32 :=
  Host.gather gather_S20000x6_S512x1_S512x6_1_0_n_n_0_1_16
    (transpose S20000x6 [1, 0] (extractStridedSlice S6x20000 ![0, 0] b slices_S8x20480_S6x20000_0_0) transposes_S6x20000_S20000x6_1_0)
    (broadcastInDim S512x1 ![0] bcast_S512_S512x1_0
      (select (cmpi .slt i (broadcastInDim S512 ![] bcast_S_S512 (constantI S_ 32 0#32)))
        (addi i (broadcastInDim S512 ![] bcast_S_S512 (constantI S_ 32 20000#32))) i))

/-- The finite values, the others zero. -/
def finite (v : FVec Ideal S512 .f32) : FVec Ideal S512 .f32 :=
  select (cmpf .olt (Host.absf v) (broadcastInDim S512 ![] bcast_S_S512 (constant (F := Ideal) S_ .f32 0x7F800000#32))) v
    (broadcastInDim S512 ![] bcast_S_S512 (id (constant (F := Ideal) S_ .f32 0x00000000#32)))

/-- The boxes' volumes. -/
def volumes (g : FVec Ideal S512x6 .f32) : FVec Ideal S512 .f32 :=
  let d := maximumf (subf (extractStridedSlice S512x3 ![0, 3] g slices_S512x6_S512x3_0_3) (extractStridedSlice S512x3 ![0, 0] g slices_S512x6_S512x3_0_0))
    (broadcastInDim S512x3 ![] bcast_S_S512x3 (constant (F := Ideal) S_ .f32 0x00000000#32))
  mulf (mulf (shapeCast S512 (extractStridedSlice S512x1 ![0, 0] d slices_S512x3_S512x1_0_0) shapeCasts_S512x1_S512)
      (shapeCast S512 (extractStridedSlice S512x1 ![0, 1] d slices_S512x3_S512x1_0_1) shapeCasts_S512x1_S512))
    (shapeCast S512 (extractStridedSlice S512x1 ![0, 2] d slices_S512x3_S512x1_0_2) shapeCasts_S512x1_S512)

/-- The volumes that two boxes share. -/
def shared (g : FVec Ideal S512x6 .f32) : FVec Ideal S512x512 .f32 :=
  let lo := extractStridedSlice S512x3 ![0, 0] g slices_S512x6_S512x3_0_0
  let hi := extractStridedSlice S512x3 ![0, 3] g slices_S512x6_S512x3_0_3
  let l := maximumf (broadcastInDim S512x512x3 ![0, 1, 2] bcast_S512x1x3_S512x512x3_0_1_2 (broadcastInDim S512x1x3 ![0, 2] bcast_S512x3_S512x1x3_0_2 lo))
    (broadcastInDim S512x512x3 ![0, 1, 2] bcast_S1x512x3_S512x512x3_0_1_2 (broadcastInDim S1x512x3 ![1, 2] bcast_S512x3_S1x512x3_1_2 lo))
  let h := minimumf (broadcastInDim S512x512x3 ![0, 1, 2] bcast_S512x1x3_S512x512x3_0_1_2 (broadcastInDim S512x1x3 ![0, 2] bcast_S512x3_S512x1x3_0_2 hi))
    (broadcastInDim S512x512x3 ![0, 1, 2] bcast_S1x512x3_S512x512x3_0_1_2 (broadcastInDim S1x512x3 ![1, 2] bcast_S512x3_S1x512x3_1_2 hi))
  let d := maximumf (subf h l) (broadcastInDim S512x512x3 ![] bcast_S_S512x512x3 (constant (F := Ideal) S_ .f32 0x00000000#32))
  mulf (mulf (shapeCast S512x512 (extractStridedSlice S512x512x1 ![0, 0, 0] d slices_S512x512x3_S512x512x1_0_0_0) shapeCasts_S512x512x1_S512x512)
      (shapeCast S512x512 (extractStridedSlice S512x512x1 ![0, 0, 1] d slices_S512x512x3_S512x512x1_0_0_1) shapeCasts_S512x512x1_S512x512))
    (shapeCast S512x512 (extractStridedSlice S512x512x1 ![0, 0, 2] d slices_S512x512x3_S512x512x1_0_0_2) shapeCasts_S512x512x1_S512x512)

/-- The overlaps: the shared part of two boxes' union. -/
def overlaps (g : FVec Ideal S512x6 .f32) : FVec Ideal S512x512 .f32 :=
  Host.divf (shared g) (maximumf
    (subf (addf (broadcastInDim S512x512 ![0, 1] bcast_S512x1_S512x512_0_1 (broadcastInDim S512x1 ![0] bcast_S512_S512x1_0 (volumes g)))
      (broadcastInDim S512x512 ![0, 1] bcast_S1x512_S512x512_0_1 (broadcastInDim S1x512 ![1] bcast_S512_S1x512_1 (volumes g)))) (shared g))
    (broadcastInDim S512x512 ![] bcast_S_S512x512 (constant (F := Ideal) S_ .f32 0x358637BD#32)))

/-- The result rows. -/
def rows (g : FVec Ideal S512x6 .f32) (v : FVec Ideal S512 .f32) (keep : IVec S512 1) : FVec Ideal S512x7 .f32 :=
  concatenate S512x7 1 [⟨S512x6, g⟩, ⟨S512x1, broadcastInDim S512x1 ![0] bcast_S512_S512x1_0 (mulf v (uitofp .f32 (andi keep
    (Host.reduce IntOp.andi (cmpf .oge (subf (extractStridedSlice S512x3 ![0, 3] g slices_S512x6_S512x3_0_3)
      (extractStridedSlice S512x3 ![0, 0] g slices_S512x6_S512x3_0_0)) (broadcastInDim S512x3 ![] bcast_S_S512x3 (constant (F := Ideal) S_ .f32 0x40A00000#32)))
      (constantI S_ 1 1#1) reducesTo_S512x3_S512_d1 h_S_))))⟩] concatenates_S512x6_S512x1_S512x7_d1

/-! ## The lines before the loop -/

section lines
variable (V : Valuation τ sig (Elt Ideal))

theorem line_points : after hostOps0 V (Proc.devRef .tc main_v1) = points (V (Proc.devRef .tc main_arg1)) := by
  after_results
  rfl
theorem line_reached : after hostOps0 V (Proc.devRef .tc main_v5) = reached (V (Proc.devRef .tc main_arg1)) := by
  after_results
  rfl
theorem line_least : after hostOps0 V (Proc.devRef .tc main_cst_1) = constant (F := Ideal) S_ .f32 0xFF800000#32 := by
  after_results
theorem line_scored : after hostOps0_1 V (Proc.devRef .tc main_v6) = select (V (Proc.devRef .tc main_v5)) (V (Proc.devRef .tc main_v1))
    (broadcastInDim S20000 ![] bcast_S_S20000 (id (V (Proc.devRef .tc main_cst_1)))) := by
  after_results
  rfl
theorem line_values : after hostOps0_2 V (Proc.devRef .tc main_values) =
    (Host.topK S512 0 (FloatOps.cmpfTotal (F := Ideal) (φ := .f32) .gt) (V (Proc.devRef .tc main_v6)) sliceFits_S20000_S512).1 := by
  after_results
theorem line_boxes : after hostOps0_2 V (Proc.devRef .tc main_v15) = boxesAt (V (Proc.devRef .tc main_arg0))
    (Host.topK S512 0 (FloatOps.cmpfTotal (F := Ideal) (φ := .f32) .gt) (V (Proc.devRef .tc main_v6)) sliceFits_S20000_S512).2 := by
  after_results
  rfl
theorem line_below : after hostOps0_2 V (Proc.devRef .tc main_v18) = cmpf .olt (Host.absf ((Host.topK S512 0 (FloatOps.cmpfTotal (F := Ideal) (φ := .f32) .gt) (V (Proc.devRef .tc main_v6)) sliceFits_S20000_S512).1))
    (broadcastInDim S512 ![] bcast_S_S512 (constant (F := Ideal) S_ .f32 0x7F800000#32)) := by
  after_results
theorem line_zero : after hostOps0_2 V (Proc.devRef .tc main_cst_4) = constant (F := Ideal) S_ .f32 0x00000000#32 := by
  after_results
theorem line_finite : after hostOps0_3 V (Proc.devRef .tc main_v19) = select (V (Proc.devRef .tc main_v18)) (V (Proc.devRef .tc main_values))
    (broadcastInDim S512 ![] bcast_S_S512 (id (V (Proc.devRef .tc main_cst_4)))) := by
  after_results
  rfl
theorem line_overlaps : after hostOps0_4 V (Proc.devRef .tc main_v65_2) = id (overlaps (V (Proc.devRef .tc main_v15))) := by
  after_results
  rfl
theorem line_first : after hostOps0_4 V (Proc.devRef .tc main_v65_0) = id (iotaInDim S512 32 0) := by
  after_results
theorem line_second : after hostOps0_4 V (Proc.devRef .tc main_v65_1) = id (iotaInDim S512 32 0) := by
  after_results
theorem line_count : after hostOps0_4 V (Proc.devRef .tc main_v65_3) = id (constantI S_ 32 0#32) := by
  after_results
theorem line_keep : after hostOps0_4 V (Proc.devRef .tc main_v65_4) = id (broadcastInDim S512 ![] bcast_S_S512 (constantI S_ 1 0#1)) := by
  after_results
theorem line_rows : after hostOps0_5 V (Proc.devRef .tc main_v76) = rows (V (Proc.devRef .tc main_v15)) (V (Proc.devRef .tc main_v19)) (V (Proc.devRef .tc main_v65_4)) := by
  after_results
  rfl
end lines

end Cert.Reference2Ideal.Select

end
-- ==== Proof.Selection.lean ====
/-
  Selection by rank. Positions carry a score; one position beats another when its score is greater, or when the scores are
  equal and it comes first. A position's rank is the number of positions that beat it. The positions whose integer key
  passes a threshold, with as many of the equal ones as are wanted taken in order, are those of small rank; listed in
  order, each one's place is the number of selected positions before it.
-/
module

public import Mathlib.Data.Finset.Sort
public import Mathlib.Data.Fintype.Card
public import Mathlib.Data.EReal.Basic
public import Mathlib.Order.Interval.Finset.Fin

@[expose] public section

noncomputable section

open scoped Classical

namespace Cert.Rank

variable {n : ℕ} (s : Fin n → EReal)

/-- `p` comes before `q` in the order of decreasing scores, earlier positions first among equals. -/
def Beats (p q : Fin n) : Prop := s q < s p ∨ (s p = s q ∧ p < q)

/-- How many positions come before `p`. -/
def rank (p : Fin n) : ℕ := (Finset.univ.filter fun q => Beats s q p).card

theorem beats_irrefl (p : Fin n) : ¬ Beats s p p := by
  rintro (h | ⟨-, h⟩) <;> exact lt_irrefl _ h

theorem beats_trans {p q r : Fin n} (h : Beats s p q) (h' : Beats s q r) : Beats s p r := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem beats_total {p q : Fin n} (h : p ≠ q) : Beats s p q ∨ Beats s q p := by
  rcases lt_trichotomy (s p) (s q) with h' | h' | h'
  · exact .inr (.inl h')
  · rcases lt_or_gt_of_ne h with h'' | h''
    · exact .inl (.inr ⟨h', h''⟩)
    · exact .inr (.inr ⟨h'.symm, h''⟩)
  · exact .inl (.inl h')

theorem rank_lt_of_beats {p q : Fin n} (h : Beats s p q) : rank s p < rank s q := by
  refine Finset.card_lt_card (Finset.ssubset_iff_of_subset (fun x hx => ?_) |>.2 ⟨p, ?_, ?_⟩)
  · simp only [Finset.mem_filter, Finset.mem_univ, true_and] at hx ⊢
    exact beats_trans s hx h
  · simpa using h
  · simpa using beats_irrefl s p

theorem rank_injective : Function.Injective (rank s) := fun p q h => by
  by_contra hne
  rcases beats_total s hne with h' | h'
  · exact (rank_lt_of_beats s h').ne h
  · exact (rank_lt_of_beats s h').ne' h

theorem rank_lt (p : Fin n) : rank s p < n := by
  have : rank s p < (Finset.univ : Finset (Fin n)).card := by
    refine Finset.card_lt_card (Finset.ssubset_iff_of_subset (Finset.subset_univ _) |>.2 ⟨p, Finset.mem_univ _, ?_⟩)
    simpa using beats_irrefl s p
  simpa using this

/-- Every rank below `n` is some position's. -/
theorem exists_rank {r : ℕ} (h : r < n) : ∃ p, rank s p = r := by
  have hi : Function.Injective (fun p : Fin n => (⟨rank s p, rank_lt s p⟩ : Fin n)) := fun p q e =>
    rank_injective s (congrArg Fin.val e)
  obtain ⟨p, hp⟩ := (Finite.injective_iff_surjective.1 hi) ⟨r, h⟩
  exact ⟨p, congrArg Fin.val hp⟩

/-- The position of rank `r`. -/
def at' (r : ℕ) (h : r < n) : Fin n := (exists_rank s h).choose
theorem rank_at' (r : ℕ) (h : r < n) : rank s (at' s r h) = r := (exists_rank s h).choose_spec

/-- The positions of rank below `K`. -/
def top (K : ℕ) : Finset (Fin n) := Finset.univ.filter fun p => rank s p < K

theorem mem_top {K : ℕ} {p : Fin n} : p ∈ top s K ↔ rank s p < K := by simp [top]

theorem card_top {K : ℕ} (h : K ≤ n) : (top s K).card = K := by
  refine (Finset.card_bij (t := Finset.range K) (fun p _ => rank s p) ?_ ?_ ?_).trans (Finset.card_range K)
  · intro p hp; simpa using (mem_top s).1 hp
  · intro p _ q _ e; exact rank_injective s e
  · intro r hr
    have hr' := Finset.mem_range.1 hr
    exact ⟨at' s r (hr'.trans_le h), (mem_top s).2 (by rw [rank_at']; exact hr'), rank_at' s r _⟩

/-- The rank counted within the top positions. -/
theorem rank_in_top {K : ℕ} {p : Fin n} (h : rank s p < K) :
    ((top s K).filter fun q => Beats s q p).card = rank s p := by
  unfold rank
  congr 1
  ext q
  simp only [Finset.mem_filter, Finset.mem_univ, true_and, mem_top, and_iff_right_iff_imp]
  exact fun hq => (rank_lt_of_beats s hq).trans h

/-! ## In order of position -/

variable {K : ℕ} (hK : K ≤ n)

/-- The `i`-th top position in order of position. -/
def nth (i : Fin K) : Fin n := (top s K).orderEmbOfFin (card_top s hK) i

theorem nth_mem (i : Fin K) : nth s hK i ∈ top s K := Finset.orderEmbOfFin_mem _ _ _
theorem nth_lt {i j : Fin K} : nth s hK i < nth s hK j ↔ i < j := OrderEmbedding.lt_iff_lt _
theorem nth_injective : Function.Injective (nth s hK) := ((top s K).orderEmbOfFin (card_top s hK)).injective
theorem exists_nth {p : Fin n} (h : p ∈ top s K) : ∃ i, nth s hK i = p := by
  have : p ∈ Set.range ((top s K).orderEmbOfFin (card_top s hK)) := by rw [Finset.range_orderEmbOfFin]; exact h
  exact this

/-- The `i`-th has `i` top positions before it. -/
theorem count_nth (i : Fin K) : ((top s K).filter fun q => q < nth s hK i).card = i.val := by
  refine (Finset.card_bij (s := Finset.Iio i) (fun j _ => nth s hK j) ?_ ?_ ?_).symm.trans (Fin.card_Iio i)
  · intro j hj
    exact Finset.mem_filter.2 ⟨nth_mem s hK j, (nth_lt s hK).2 (Finset.mem_Iio.1 hj)⟩
  · intro a _ b _ e; exact nth_injective s hK e
  · intro q hq
    obtain ⟨hq, hlt⟩ := Finset.mem_filter.1 hq
    obtain ⟨j, rfl⟩ := exists_nth s hK hq
    exact ⟨j, Finset.mem_Iio.2 ((nth_lt s hK).1 hlt), rfl⟩

/-- A top position with `i` top positions before it is the `i`-th. -/
theorem eq_nth {p : Fin n} (h : p ∈ top s K) (i : Fin K) (hc : ((top s K).filter fun q => q < p).card = i.val) : p = nth s hK i := by
  obtain ⟨j, rfl⟩ := exists_nth s hK h
  rw [count_nth] at hc
  rw [Fin.ext hc]

/-- The rank counted over the list. -/
theorem rank_nth (j : Fin K) : (Finset.univ.filter fun i : Fin K => Beats s (nth s hK i) (nth s hK j)).card = rank s (nth s hK j) := by
  rw [← rank_in_top s ((mem_top s).1 (nth_mem s hK j))]
  refine Finset.card_bij (fun i _ => nth s hK i) ?_ ?_ ?_
  · intro i hi
    exact Finset.mem_filter.2 ⟨nth_mem s hK i, (Finset.mem_filter.1 hi).2⟩
  · intro a _ b _ e; exact nth_injective s hK e
  · intro q hq
    obtain ⟨hq, hb⟩ := Finset.mem_filter.1 hq
    obtain ⟨i, rfl⟩ := exists_nth s hK hq
    exact ⟨i, Finset.mem_filter.2 ⟨Finset.mem_univ _, hb⟩, rfl⟩

/-! ## By a threshold on keys -/

variable {s} (key : Fin n → ℤ) (t : ℤ)

/-- A key follows the scores: a greater key, a greater score. The threshold `t` has fewer than `K` keys above it and at least
    `K` from it on, and the positions whose key is that of the position of rank `K - 1` all have one score. Then a
    position's rank is below `K` exactly when its key is above `t`, or is `t` with fewer such positions before it than are
    wanted. -/
theorem rank_lt_iff (hkey : ∀ p q, key p < key q → s p < s q)
    (ha : (Finset.univ.filter fun q => t < key q).card < K) (hb : K ≤ (Finset.univ.filter fun q => t ≤ key q).card)
    (hsame : ∀ p q, rank s p + 1 = K → key q = key p → s q = s p) (p : Fin n) :
    rank s p < K ↔ t < key p ∨ (key p = t ∧ (Finset.univ.filter fun q => q < p ∧ key q = t).card + (Finset.univ.filter fun q => t < key q).card < K) := by
  have above : ∀ p, t < key p → rank s p < (Finset.univ.filter fun q => t < key q).card := by
    intro p hp
    refine Finset.card_lt_card (Finset.ssubset_iff_of_subset (fun q hq => ?_) |>.2 ⟨p, by simpa using hp, by simpa using beats_irrefl s p⟩)
    simp only [Finset.mem_filter, Finset.mem_univ, true_and] at hq ⊢
    by_contra hn
    have := hkey q p (lt_of_le_of_lt (not_lt.1 hn) hp)
    rcases hq with h | ⟨h, -⟩
    · exact lt_asymm h this
    · exact this.ne h
  have below : ∀ p, key p < t → K ≤ rank s p := by
    intro p hp
    refine hb.trans (Finset.card_le_card fun q hq => ?_)
    simp only [Finset.mem_filter, Finset.mem_univ, true_and] at hq ⊢
    exact .inl (hkey p q (hp.trans_le hq))
  -- the position of rank `K - 1` has the threshold's key, so all with that key have one score
  have hK0 : 0 < K := lt_of_le_of_lt (Nat.zero_le _) ha
  have hKn : K - 1 < n := by
    have : (Finset.univ.filter fun q => t ≤ key q).card ≤ n := by simpa using Finset.card_le_univ (Finset.univ.filter fun q : Fin n => t ≤ key q)
    omega
  obtain ⟨z, hz⟩ := exists_rank s hKn
  have hzt : key z = t := by
    rcases lt_trichotomy (key z) t with h | h | h
    · have := below z h; omega
    · exact h
    · have := above z h; omega
  have equal : ∀ q, key q = t → s q = s z := fun q hq => hsame z q (by omega) (hq.trans hzt.symm)
  rcases lt_trichotomy (key p) t with h | h | h
  · have := below p h
    constructor
    · intro; omega
    · rintro (h' | ⟨h', -⟩) <;> omega
  · have hr : rank s p = (Finset.univ.filter fun q => q < p ∧ key q = t).card + (Finset.univ.filter fun q => t < key q).card := by
      unfold rank
      rw [← Finset.card_union_of_disjoint]
      · congr 1
        ext q
        simp only [Finset.mem_filter, Finset.mem_univ, true_and, Finset.mem_union]
        constructor
        · rintro (hq | ⟨hq, hlt⟩)
          · right
            by_contra hn
            rcases lt_or_eq_of_le (not_lt.1 hn) with h' | h'
            · exact lt_asymm hq (hkey q p (h ▸ h'))
            · rw [equal q h', equal p h] at hq; exact lt_irrefl _ hq
          · rcases lt_trichotomy (key q) t with h' | h' | h'
            · exact absurd hq (hkey q p (h ▸ h')).ne
            · exact .inl ⟨hlt, h'⟩
            · exact .inr h'
        · rintro (⟨hlt, hq⟩ | hq)
          · exact .inr ⟨(equal q hq).trans (equal p h).symm, hlt⟩
          · exact .inl (hkey p q (h ▸ hq))
      · rw [Finset.disjoint_left]
        intro q hq hq'
        simp only [Finset.mem_filter, Finset.mem_univ, true_and] at hq hq'
        exact hq'.ne hq.2.symm
    rw [hr]
    constructor
    · intro h'; exact .inr ⟨h, h'⟩
    · rintro (h' | ⟨-, h'⟩)
      · exact absurd h' (by omega)
      · exact h'
  · have := above p h
    exact ⟨fun _ => .inl h, fun _ => this.trans ha⟩

end Cert.Rank

end
-- ==== Proof.SelectKeys.lean ====
/-
  The selection's keys over the extended reals: positions as rows and lanes, counts of flagged positions as words, the
  threshold key found bit by bit.
-/
module

public import proofs.«01_k».proof.Proof.SelectBody
public import proofs.«01_k».proof.Proof.Selection
public import Idealize.ShloMosaic.Lib.Pointwise
public import Idealize.ShloMosaic.Lib.IndicatorCount
public import Idealize.ShloMosaic.Lib.WordCmp

@[expose] public section

set_option maxRecDepth 16384

noncomputable section

open scoped Classical

namespace Cert.Kernel2Ideal.Select

open Idealize.ShloMosaic Idealize.ShloMosaic.TcCoe Idealize.ShloMosaic.WordCmp
open Cert.Kernel2Ideal Cert.Kernel2Ideal.Gen Cert.Rank

/-! ## Positions -/

/-- The position of lane `l` of row `r`. -/
def pos (r : Fin 20) (l : Fin 1024) : Fin 20480 := ⟨1024 * r.val + l.val, by omega⟩
/-- A position's row -/
def row (p : Fin 20480) : Fin 20 := ⟨p.val / 1024, by omega⟩
/-- and lane. -/
def lane (p : Fin 20480) : Fin 1024 := ⟨p.val % 1024, by omega⟩

theorem pos_row_lane (p : Fin 20480) : pos (row p) (lane p) = p := Fin.ext (by show 1024 * (p.val / 1024) + p.val % 1024 = p.val; omega)
theorem row_pos (r : Fin 20) (l : Fin 1024) : row (pos r l) = r := Fin.ext (by show (1024 * r.val + l.val) / 1024 = r.val; omega)
theorem lane_pos (r : Fin 20) (l : Fin 1024) : lane (pos r l) = l := Fin.ext (by show (1024 * r.val + l.val) % 1024 = l.val; omega)

/-- Positions are rows and lanes. -/
def posEquiv : Fin 20 × Fin 1024 ≃ Fin 20480 where
  toFun x := pos x.1 x.2
  invFun p := (row p, lane p)
  left_inv x := by simp [row_pos, lane_pos]
  right_inv p := pos_row_lane p

theorem pos_lt (r r' : Fin 20) (l l' : Fin 1024) : pos r' l' < pos r l ↔ r' < r ∨ (r' = r ∧ l' < l) := by
  simp only [pos, Fin.lt_def, Fin.ext_iff]
  omega

/-- A sum over the positions, row by row. -/
theorem sum_pos {M : Type*} [AddCommMonoid M] (f : Fin 20480 → M) : ∑ p, f p = ∑ r : Fin 20, ∑ l : Fin 1024, f (pos r l) :=
  ((Equiv.sum_comp posEquiv f).symm.trans (Fintype.sum_prod_type _))

/-! ## Counts -/

/-- The word that the kernel counts flags with. -/
def countWord (v : IVec S20x1024 1) : BitVec 32 :=
  extractAt ![0, 0, 0] (shapeCast S1x1x1 (multiReductionI .add [1, 2] S1 (shapeCast S1x20x1024 (extui 32 v natLt_1_32) shapeCasts_S20x1024_S1x20x1024)
    0#32 reduces_S1x20x1024_S1 rfl) shapeCasts_S1_S1x1x1) inpos_S1x1x1_p0_0_0

theorem cast_flag (v : IVec S20x1024 1) (a : Fin 1) (r : Fin 20) (l : Fin 1024) :
    shapeCast S1x20x1024 (extui 32 v natLt_1_32) shapeCasts_S20x1024_S1x20x1024 (ix3 a r l) = (v (ix2 r l)).setWidth 32 := by
  pointwise

instance : Subsingleton S1.Idx := ⟨fun a b => funext fun k => by
  fin_cases k
  exact Subsingleton.elim (α := Fin 1) _ _⟩

/-- The one element of a one-element array, through its reshaping. -/
theorem extract_splat {α : Type} (w : S1.Idx → α) (c : α) (h : ∀ j, w j = c) :
    extractAt ![0, 0, 0] (shapeCast S1x1x1 w shapeCasts_S1_S1x1x1) inpos_S1x1x1_p0_0_0 = c := h _

/-- It is the number of the flags that are one. -/
theorem countWord_eq (v : IVec S20x1024 1) :
    countWord v = BitVec.ofNat 32 (Finset.univ.filter fun p : Fin 20480 => v (ix2 (row p) (lane p)) = 1#1).card := by
  have h : ∀ j, multiReductionI .add [1, 2] S1 (shapeCast S1x20x1024 (extui 32 v natLt_1_32) shapeCasts_S20x1024_S1x20x1024)
      0#32 reduces_S1x20x1024_S1 rfl j = BitVec.ofNat 32 (Finset.univ.filter fun p : Fin 20480 => v (ix2 (row p) (lane p)) = 1#1).card := by
    intro j
    refine (multiReductionI_eq_fold .add _ _ _ _ _).trans ?_
    have hs : (shapeCast S1x20x1024 (extui 32 v natLt_1_32) shapeCasts_S20x1024_S1x20x1024 : S1x20x1024.Idx → BitVec 32)
        = fun i => (v (ix2 (i 1) (i 2))).setWidth 32 := by
      funext i
      obtain ⟨a, r, l, rfl⟩ : ∃ (a : Fin 1) (r : Fin 20) (l : Fin 1024), i = ix3 a r l := ⟨i 0, i 1, i 2, eq_ix3 i⟩
      exact cast_flag v a r l
    rw [hs]
    refine (IndicatorCount.fold_addi_setWidth_eq_card (w := 32) (fun i : S1x20x1024.Idx => v (ix2 (i 1) (i 2))) _).trans ?_
    refine congrArg (BitVec.ofNat 32) ?_
    symm
    refine Finset.card_bij (fun p _ => (ix3 0 (row p) (lane p) : S1x20x1024.Idx)) ?_ ?_ ?_
    · intro p hp
      have hp' := (Finset.mem_filter.1 hp).2
      exact Finset.mem_filter.2 ⟨Finset.mem_filter.2 ⟨Finset.mem_univ _, Subsingleton.elim _ _⟩, hp'⟩
    · intro p _ q _ e
      have e1 : row p = row q := congrFun e 1
      have e2 : lane p = lane q := congrFun e 2
      rw [← pos_row_lane p, ← pos_row_lane q, e1, e2]
    · intro i hi
      obtain ⟨a, r, l, rfl⟩ : ∃ (a : Fin 1) (r : Fin 20) (l : Fin 1024), i = ix3 a r l := ⟨i 0, i 1, i 2, eq_ix3 i⟩
      refine ⟨pos r l, Finset.mem_filter.2 ⟨Finset.mem_univ _, ?_⟩, ?_⟩
      · rw [row_pos, lane_pos]; exact (Finset.mem_filter.1 hi).2
      · rw [row_pos, lane_pos, Subsingleton.elim a 0]
  exact extract_splat _ _ h

/-! ## The scores and their threshold -/

/-- Position `p`'s score in the array. -/
def conf (C : Vec Ideal S20x1x1024 .f32) (p : Fin 20480) : EReal := C (ix3 (row p) 0 (lane p))

/-- The threshold of the kept scores: a half, or the greatest score where that is less. -/
def thr (C : Vec Ideal S20x1x1024 .f32) : EReal := min (((1 / 2 : ℝ) : ℝ) : EReal) (Finset.univ.sup (conf C))

/-- A kept score; a position below the threshold has none. -/
def score (C : Vec Ideal S20x1x1024 .f32) (p : Fin 20480) : EReal := if thr C ≤ conf C p then conf C p else ⊥

theorem ofBits_half : Ideal.ofBits .f32 0x3F000000#32 = (((1 / 2 : ℝ) : ℝ) : EReal) := by
  simp [Ideal.ofBits, Ideal.ieee, -EReal.coe_mul]; norm_num
theorem ofBits_scale : Ideal.ofBits .f32 0x4B800000#32 = ((16777216 : ℝ) : EReal) := by
  simp [Ideal.ofBits, Ideal.ieee, -EReal.coe_mul]; norm_num
theorem ofBits_bot : Ideal.ofBits .f32 0xFF800000#32 = (⊥ : EReal) := by
  simp [Ideal.ofBits, Ideal.ieee, -EReal.coe_mul]

/-- The kernel's greatest score. -/
theorem greatest_eq (C : Vec Ideal S20x1x1024 .f32) :
    Finset.fold max (⊥ : EReal) (fun x : Fin 20 × Fin 1024 => C (ix3 x.1 0 x.2)) Finset.univ = Finset.univ.sup (conf C) := by
  refine le_antisymm (Finset.sup_le fun x _ => ?_) (Finset.sup_le fun p _ => ?_)
  · refine le_trans (le_of_eq ?_) (Finset.le_sup (f := conf C) (Finset.mem_univ (pos x.1 x.2)))
    simp only [conf, row_pos, lane_pos]
  · exact Finset.le_sup (f := fun x : Fin 20 × Fin 1024 => C (ix3 x.1 0 x.2)) (Finset.mem_univ (row p, lane p))

theorem key_read (C : Vec Ideal S20x1x1024 .f32) (r : Fin 20) (l : Fin 1024) :
    k0_pay2 (F := Ideal) C (ix2 r l) = if thr C ≤ C (ix3 r 0 l) then
        Ideal.fptosi 32 (C (ix3 r 0 l) * ((16777216 : ℝ) : EReal)) + 1048576000#32 else 2147483648#32 := by
  pointwise [k0_pay2]
  rw [ofBits_half, ofBits_scale, ofBits_bot, greatest_eq]
  rfl

/-- The greatest score is not negative, none is above one, and the padding's are minus infinity. -/
structure Scores (C : Vec Ideal S20x1x1024 .f32) : Prop where
  top : 0 ≤ Finset.univ.sup (conf C)
  le : ∀ p : Fin 20480, p.val < 20000 → conf C p ≤ 1
  pad : ∀ p : Fin 20480, 20000 ≤ p.val → conf C p = ⊥

variable {C : Vec Ideal S20x1x1024 .f32}

theorem Scores.thr_nonneg (h : Scores C) : 0 ≤ thr C := by
  exact le_min (by exact_mod_cast (by norm_num : (0 : ℝ) ≤ 1 / 2)) h.top

/-- A kept score is a real number of the unit interval. -/
theorem Scores.real (h : Scores C) {p : Fin 20480} (hp : thr C ≤ conf C p) :
    ∃ x : ℝ, conf C p = (x : EReal) ∧ 0 ≤ x ∧ x ≤ 1 := by
  have h0 : 0 ≤ conf C p := h.thr_nonneg.trans hp
  have h1 : conf C p ≤ 1 := by
    by_cases hq : p.val < 20000
    · exact h.le p hq
    · rw [h.pad p (by omega)]; exact bot_le
  lift conf C p to ℝ using ⟨(h1.trans_lt (by exact_mod_cast EReal.coe_lt_top 1)).ne,
    (lt_of_lt_of_le (by exact_mod_cast EReal.bot_lt_coe 0) h0).ne'⟩ with x
  exact ⟨x, rfl, by exact_mod_cast h0, by exact_mod_cast h1⟩

/-- Position `p`'s key as a signed integer. -/
def key (C : Vec Ideal S20x1x1024 .f32) (p : Fin 20480) : ℤ := (k0_pay2 (F := Ideal) C (ix2 (row p) (lane p))).toInt

theorem Scores.key_kept (h : Scores C) {p : Fin 20480} (hp : thr C ≤ conf C p) {x : ℝ} (hx : conf C p = (x : EReal)) :
    key C p = ⌊x * 16777216⌋ + 1048576000 := by
  obtain ⟨y, hy, h0, h1⟩ := h.real hp
  obtain rfl : x = y := by rw [hx] at hy; exact_mod_cast hy
  have f0 : 0 ≤ ⌊x * 16777216⌋ := Int.floor_nonneg.2 (by positivity)
  have f1 : ⌊x * 16777216⌋ ≤ 16777216 := by
    have : x * 16777216 ≤ (16777216 : ℤ) := by push_cast; linarith
    exact_mod_cast (Int.floor_le (x * 16777216)).trans this
  unfold key
  rw [key_read, if_pos (by exact hp), show C (ix3 (row p) 0 (lane p)) = (x : EReal) from hx, ← EReal.coe_mul, Ideal.fptosi,
    Ideal.toIntClamped_coe, if_pos (by positivity), BitVec.toInt_add, BitVec.toInt_ofInt]
  norm_num
  rw [min_eq_right (by omega), max_eq_right (by omega), show (1048576000#32 : BitVec 32).toInt = 1048576000 from by decide]
  simp only [Int.bmod]
  omega

theorem key_lost {p : Fin 20480} (hp : ¬ thr C ≤ conf C p) : key C p = -2147483648 := by
  unfold key
  rw [key_read, if_neg (by exact hp)]
  decide

theorem Scores.key_bounds (h : Scores C) (p : Fin 20480) :
    (thr C ≤ conf C p ∧ 0 ≤ key C p ∧ key C p < 2147483648) ∨ (¬ thr C ≤ conf C p ∧ key C p = -2147483648) := by
  by_cases hp : thr C ≤ conf C p
  · obtain ⟨x, hx, h0, h1⟩ := h.real hp
    have f0 : 0 ≤ ⌊x * 16777216⌋ := Int.floor_nonneg.2 (by positivity)
    have f1 : ⌊x * 16777216⌋ ≤ 16777216 := by
      have : x * 16777216 ≤ (16777216 : ℤ) := by push_cast; linarith
      exact_mod_cast (Int.floor_le (x * 16777216)).trans this
    rw [h.key_kept hp hx]
    exact .inl ⟨hp, by omega, by omega⟩
  · exact .inr ⟨hp, key_lost hp⟩

/-- A greater key is a greater score. -/
theorem Scores.key_mono (h : Scores C) (p q : Fin 20480) (hk : key C p < key C q) : score C p < score C q := by
  have hq : thr C ≤ conf C q := by
    by_contra hq
    rcases h.key_bounds p with hb | hb <;> have := key_lost hq <;> omega
  obtain ⟨y, hy, -, -⟩ := h.real hq
  unfold score
  rw [if_pos hq]
  by_cases hp : thr C ≤ conf C p
  · obtain ⟨x, hx, -, -⟩ := h.real hp
    rw [if_pos hp, hx, hy]
    rw [h.key_kept hp hx, h.key_kept hq hy] at hk
    by_contra hc
    have hc' : y ≤ x := by exact_mod_cast not_lt.1 hc
    have := Int.floor_le_floor (mul_le_mul_of_nonneg_right hc' (by norm_num : (0 : ℝ) ≤ 16777216))
    omega
  · rw [if_neg hp, hy]; exact EReal.bot_lt_coe y

/-! ## The threshold key -/

/-- How many keys reach `t`. -/
def reach (C : Vec Ideal S20x1x1024 .f32) (t : ℤ) : ℕ := (Finset.univ.filter fun p => t ≤ key C p).card

theorem reach_le (t : ℤ) : reach C t ≤ 20480 := by
  refine (Finset.card_le_univ _).trans (by simp)

theorem word_ge {n : ℕ} (hn : n ≤ 20480) : Scalar.cmpi .sge (BitVec.ofNat 32 n) 512#32 = BitVec.ofBool (decide (512 ≤ n)) := by
  refine (cmpi_sge_eq _ _).trans ?_
  rw [toInt_eq_toNat_of_lt_half (x := BitVec.ofNat 32 n) (by rw [BitVec.toNat_ofNat]; omega), BitVec.toNat_ofNat, Nat.mod_eq_of_lt (by omega)]
  congr 1
  rw [decide_eq_decide, show (512#32 : BitVec 32).toInt = 512 from by decide]
  omega

theorem flag_one (p : Prop) [Decidable p] : BitVec.ofBool (decide p) = 1#1 ↔ p := by
  by_cases h : p <;> simp [h]

theorem ge_one (x y : BitVec 32) : IntOp.cmpi .sge x y = 1#1 ↔ y.toInt ≤ x.toInt := by rw [cmpi_sge_eq, flag_one]
theorem gt_one (x y : BitVec 32) : IntOp.cmpi .sgt x y = 1#1 ↔ y.toInt < x.toInt := by rw [cmpi_sgt_eq, flag_one]

theorem countWord_reach (C : Vec Ideal S20x1x1024 .f32) (t : BitVec 32) :
    countWord (cmpi .sge (k0_pay2 (F := Ideal) C) (broadcast S20x1024 t)) = BitVec.ofNat 32 (reach C t.toInt) := by
  rw [countWord_eq]
  refine congrArg (fun S : Finset (Fin 20480) => BitVec.ofNat 32 S.card) (Finset.filter_congr fun p _ => ?_)
  exact ge_one _ t

theorem countWord_above (C : Vec Ideal S20x1x1024 .f32) (t : BitVec 32) :
    countWord (cmpi .sgt (k0_pay2 (F := Ideal) C) (broadcast S20x1024 t))
      = BitVec.ofNat 32 (Finset.univ.filter fun p => t.toInt < key C p).card := by
  rw [countWord_eq]
  refine congrArg (fun S : Finset (Fin 20480) => BitVec.ofNat 32 S.card) (Finset.filter_congr fun p _ => ?_)
  exact gt_one _ t

theorem bitStep_eq (C : Vec Ideal S20x1x1024 .f32) (k : Fin k0_t1_loop.trips) (t : BitVec 32) :
    bitStep C k t = if 512 ≤ reach C (t + Scalar.shrsi 1073741824#32 (Scf.iv 0#32 1#32 k)).toInt
      then t + Scalar.shrsi 1073741824#32 (Scf.iv 0#32 1#32 k) else t := by
  have h : extractAt ![0, 0, 0] (k0_pay3 C k t) inpos_S1x1x1_p0_0_0
      = countWord (cmpi .sge (k0_pay2 (F := Ideal) C) (broadcast S20x1024 (t + Scalar.shrsi 1073741824#32 (Scf.iv 0#32 1#32 k)))) := rfl
  unfold bitStep
  rw [h, countWord_reach, word_ge (reach_le _)]
  unfold Scalar.select
  generalize reach C (t + Scalar.shrsi 1073741824#32 (Scf.iv 0#32 1#32 k)).toInt = c
  by_cases hc : 512 ≤ c
  · rw [if_pos hc, if_pos (by simp [hc])]; rfl
  · rw [if_neg hc, if_neg (by simp [hc])]

theorem bit_eq : ∀ k : Fin k0_t1_loop.trips, Scalar.shrsi 1073741824#32 (Scf.iv 0#32 1#32 k) = BitVec.ofNat 32 (2 ^ (30 - k.val)) ∧ k.val < 31 := by
  decide +kernel

theorem trips_eq : k0_t1_loop.trips = 31 := by decide +kernel

/-- A property of a fold's states, by its steps. -/
theorem fold_ind {n : ℕ} {σ : Type} (g : Fin n → σ → σ) (P : ℕ → σ → Prop) (init : σ) (h0 : P 0 init)
    (hs : ∀ k x, P k.val x → P (k.val + 1) (g k x)) : P n (Scf.fold g init) := by
  rw [Scf.fold_eq]
  induction n with
  | zero => simpa using h0
  | succ n ih =>
    rw [List.finRange_succ_last, List.foldl_append, List.foldl_map]
    exact hs (Fin.last n) _ (ih (fun k => g k.castSucc) fun k x => hs k.castSucc x)

/-- The threshold key after its first `k` bits. -/
def Bits (C : Vec Ideal S20x1x1024 .f32) (k : ℕ) (t : BitVec 32) : Prop :=
  t.toNat + 2 ^ (31 - k) ≤ 2 ^ 31 ∧ reach C (t.toNat + 2 ^ (31 - k) : ℕ) < 512 ∧ (t.toNat = 0 ∨ 512 ≤ reach C t.toNat)

theorem Scores.bits (h : Scores C) : Bits C 31 (radix C) := by
  have hr := fold_ind (bitStep C) (Bits C) 0#32 ?_ ?_
  · exact (congrArg (fun n => Bits C n (radix C)) trips_eq).mp hr
  · refine ⟨by norm_num, ?_, .inl rfl⟩
    refine lt_of_le_of_lt (le_of_eq (Finset.card_eq_zero.2 (Finset.filter_eq_empty_iff.2 fun p _ => ?_))) (by norm_num : 0 < 512)
    rcases h.key_bounds p with hb | hb <;> norm_num <;> omega
  · intro k t ⟨h1, h2, h3⟩
    obtain ⟨hb, hk⟩ := bit_eq k
    have e : 2 ^ (31 - k.val) = 2 ^ (30 - k.val) + 2 ^ (30 - k.val) := by
      rw [← two_mul, ← pow_succ']; congr 1; omega
    have e' : 31 - (k.val + 1) = 30 - k.val := by omega
    have hpos : 0 < 2 ^ (30 - k.val) := by positivity
    rw [e] at h1 h2
    rw [bitStep_eq, hb]
    have hd : 2 ^ (31 - (k.val + 1)) = 2 ^ (30 - k.val) := by rw [e']
    generalize 2 ^ (30 - k.val) = d at *
    have hn : (t + BitVec.ofNat 32 d).toNat = t.toNat + d := by
      rw [BitVec.toNat_add, BitVec.toNat_ofNat, Nat.mod_eq_of_lt (b := 2 ^ 32) (by omega), Nat.mod_eq_of_lt (by omega)]
    have hi : (t + BitVec.ofNat 32 d).toInt = (t.toNat + d : ℕ) := by
      rw [toInt_eq_toNat_of_lt_half (by rw [hn]; omega), hn]
    rw [hi]
    unfold Bits
    rw [hd]
    split_ifs with hc
    · rw [hn]
      exact ⟨by omega, (Nat.add_assoc _ d d).symm ▸ h2, .inr hc⟩
    · exact ⟨by omega, by omega, h3⟩

/-- The word that the selection compares the keys with, from the word found bit by bit, -/
def tselOf (C : Vec Ideal S20x1x1024 .f32) (w : BitVec 32) : BitVec 32 :=
  Scalar.select (Scalar.cmpi .sge (countWord (cmpi .sge (k0_pay2 (F := Ideal) C) (broadcast S20x1024 0#32))) 512#32) w 2147483648#32
def tsel (C : Vec Ideal S20x1x1024 .f32) : BitVec 32 := tselOf C (radix C)
/-- as an integer, -/
def tkey (C : Vec Ideal S20x1x1024 .f32) : ℤ := (tsel C).toInt
/-- and how many keys are greater. -/
def above (C : Vec Ideal S20x1x1024 .f32) : ℕ := (Finset.univ.filter fun p => tkey C < key C p).card

theorem Scores.tkey_spec (h : Scores C) : above C < 512 ∧ 512 ≤ reach C (tkey C) := by
  have hs : tsel C = if 512 ≤ reach C 0 then radix C else 2147483648#32 := by
    unfold tsel tselOf
    rw [countWord_reach, word_ge (reach_le _)]
    unfold Scalar.select
    have h0 : (0#32 : BitVec 32).toInt = 0 := rfl
    rw [h0]
    generalize reach C 0 = c
    by_cases hc : 512 ≤ c
    · rw [if_pos hc, if_pos (by simp [hc])]
    · rw [if_neg hc, if_neg (by simp [hc])]
  obtain ⟨h1, h2, h3⟩ := h.bits
  unfold above tkey
  rw [hs]
  split_ifs with hc
  · have ht : (radix C).toInt = (radix C).toNat := toInt_eq_toNat_of_lt_half (by omega)
    rw [ht]
    refine ⟨lt_of_le_of_lt (le_of_eq (congrArg Finset.card (Finset.filter_congr fun p _ => ?_))) h2, ?_⟩
    · norm_num <;> omega
    · rcases h3 with h3 | h3
      · rw [h3]; exact hc
      · exact h3
  · have ht : (2147483648#32 : BitVec 32).toInt = -2147483648 := by decide
    rw [ht]
    refine ⟨lt_of_le_of_lt (le_of_eq (congrArg Finset.card (Finset.filter_congr fun p _ => ?_))) (not_le.1 hc), ?_⟩
    · rcases h.key_bounds p with hb | hb <;> omega
    · unfold reach
      rw [Finset.filter_true_of_mem]
      · simp
      · intro p _
        rcases h.key_bounds p with hb | hb <;> omega

/-- A flag as a number. -/
def ind (p : Prop) : EReal := if p then 1 else 0

theorem flag_num (p : Prop) [Decidable p] : (FloatOps.sitofp (F := Ideal) .f32 ((BitVec.ofBool (decide p)).setWidth 32) : EReal) = ind p := by
  unfold ind
  by_cases h : p
  · simp only [h, decide_true, if_true]
    show (((1#32 : BitVec 32).toInt : ℝ) : EReal) = 1
    norm_num [show (1#32 : BitVec 32).toInt = 1 from by decide]
  · simp only [h, decide_false, if_false]
    show (((0#32 : BitVec 32).toInt : ℝ) : EReal) = 0
    norm_num [show (0#32 : BitVec 32).toInt = 0 from by decide]

/-- A word of a small number, as a number. -/
theorem word_num {n : ℕ} (hn : n < 2 ^ 31) : (FloatOps.sitofp (F := Ideal) .f32 (BitVec.ofNat 32 n) : EReal) = n := by
  have h : ∀ x : BitVec 32, (FloatOps.sitofp (F := Ideal) .f32 x : EReal) = ((x.toInt : ℝ) : EReal) := fun _ => rfl
  rw [h, toInt_eq_toNat_of_lt_half (by rw [BitVec.toNat_ofNat]; omega), BitVec.toNat_ofNat, Nat.mod_eq_of_lt (by omega)]
  norm_cast

theorem pay6_eq (C : Vec Ideal S20x1x1024 .f32) (w : BitVec 32) : k0_pay6 C w = broadcast S20x1024 (tselOf C w) := rfl
theorem pay5_eq (C : Vec Ideal S20x1x1024 .f32) (w : BitVec 32) :
    k0_pay5 (F := Ideal) C w = sitofp .f32 (extui 32 (cmpi .sgt (k0_pay2 (F := Ideal) C) (broadcast S20x1024 (tselOf C w))) natLt_1_32) := rfl
theorem pay4_eq (C : Vec Ideal S20x1x1024 .f32) (w : BitVec 32) : k0_pay4 (F := Ideal) C w
    = Scalar.sitofp .f32 (512#32 - countWord (cmpi .sgt (k0_pay2 (F := Ideal) C) (broadcast S20x1024 (tselOf C w)))) := rfl

theorem gt_read (x : IVec S20x1024 32) (t : BitVec 32) (r : Fin 20) (l : Fin 1024) :
    sitofp (F := Ideal) .f32 (extui 32 (cmpi .sgt x (broadcast S20x1024 t)) natLt_1_32) (ix2 r l) = ind (t.toInt < (x (ix2 r l)).toInt) :=
  flag_num _
theorem eq_read (x : IVec S20x1024 32) (t : BitVec 32) (r : Fin 20) (l : Fin 1024) :
    sitofp (F := Ideal) .f32 (extui 32 (cmpi .eq x (broadcast S20x1024 t)) natLt_1_32) (ix2 r l) = ind (x (ix2 r l) = t) := by
  refine (congrArg (fun b : BitVec 1 => FloatOps.sitofp (F := Ideal) .f32 (b.setWidth 32)) (cmpi_eq_eq (x (ix2 r l)) t)).trans ?_
  exact flag_num _

theorem key_pos (C : Vec Ideal S20x1x1024 .f32) (r : Fin 20) (l : Fin 1024) : key C (pos r l) = (k0_pay2 (F := Ideal) C (ix2 r l)).toInt := by
  unfold key
  rw [row_pos, lane_pos]

theorem above_read (C : Vec Ideal S20x1x1024 .f32) (r : Fin 20) (l : Fin 1024) :
    k0_pay5 (F := Ideal) C (radix C) (ix2 r l) = ind (tkey C < key C (pos r l)) := by
  rw [pay5_eq, gt_read, key_pos]; rfl

theorem Scores.need_read (h : Scores C) : k0_pay4 (F := Ideal) C (radix C) = ((512 - above C : ℕ) : EReal) := by
  have hc : countWord (cmpi .sgt (k0_pay2 (F := Ideal) C) (broadcast S20x1024 (tselOf C (radix C)))) = BitVec.ofNat 32 (above C) :=
    countWord_above C (tselOf C (radix C))
  have ha := h.tkey_spec.1
  have hw : 512#32 - BitVec.ofNat 32 (above C) = BitVec.ofNat 32 (512 - above C) := by
    apply BitVec.eq_of_toNat_eq
    simp only [BitVec.toNat_sub, BitVec.toNat_ofNat]
    omega
  rw [pay4_eq, hc, hw]
  have hn : 512 - above C < 2 ^ 31 := by omega
  exact word_num hn

end Cert.Kernel2Ideal.Select

end
-- ==== Proof.SelectRead.lean ====
/-
  The selected positions over the extended reals: the exclusive prefix counts that the two triangular products give, the
  positions of the 512 best ranks and their places in order.
-/
module

public import proofs.«01_k».proof.Proof.SelectKeys

@[expose] public section

set_option maxRecDepth 16384

noncomputable section

open scoped Classical

namespace Cert.Kernel2Ideal.Select

open Idealize.ShloMosaic Idealize.ShloMosaic.TcCoe Idealize.ShloMosaic.WordCmp
open Cert.Kernel2Ideal Cert.Kernel2Ideal.Gen Cert.Rank

variable {C : Vec Ideal S20x1x1024 .f32}

/-! ## Exclusive prefix counts -/

theorem ind_cast (p : Prop) : ind p = ((if p then 1 else 0 : ℕ) : EReal) := by
  unfold ind
  split_ifs <;> simp

theorem word_le {a b : ℕ} (ha : a < 2 ^ 31) (hb : b < 2 ^ 31) :
    IntOp.cmpi .sle (BitVec.ofNat 32 a) (BitVec.ofNat 32 b) = BitVec.ofBool (decide (a ≤ b)) := by
  rw [cmpi_sle_of_lt (by rw [BitVec.toNat_ofNat]; omega) (by rw [BitVec.toNat_ofNat]; omega), BitVec.toNat_ofNat, BitVec.toNat_ofNat,
    Nat.mod_eq_of_lt (by omega), Nat.mod_eq_of_lt (by omega)]

theorem word_gt {a b : ℕ} (ha : a < 2 ^ 31) (hb : b < 2 ^ 31) :
    IntOp.cmpi .sgt (BitVec.ofNat 32 a) (BitVec.ofNat 32 b) = BitVec.ofBool (decide (b < a)) := by
  rw [cmpi_sgt_of_lt (by rw [BitVec.toNat_ofNat]; omega) (by rw [BitVec.toNat_ofNat]; omega), BitVec.toNat_ofNat, BitVec.toNat_ofNat,
    Nat.mod_eq_of_lt (by omega), Nat.mod_eq_of_lt (by omega)]

theorem upto_read (a b : Fin 1024) : k0_pay7 (F := Ideal) (ix2 a b) = ind (a ≤ b) := by
  pointwise [k0_pay7]
  rw [word_le (by omega) (by omega), flag_num]
  rfl

theorem below_read (a b : Fin 20) : k0_pay8 (F := Ideal) (ix2 a b) = ind (b < a) := by
  pointwise [k0_pay8]
  rw [word_gt (by omega) (by omega), flag_num]
  rfl

/-- The sum up to a position, row by row. -/
theorem prefix_sum (i : Fin 20480 → ℕ) (r : Fin 20) (l : Fin 1024) :
    ∑ k : Fin 1024, i (pos r k) * (if k ≤ l then 1 else 0)
        + ∑ r' : Fin 20, (if r' < r then 1 else 0) * ∑ k : Fin 1024, i (pos r' k) * (if k ≤ (1023 : Fin 1024) then 1 else 0)
      = (∑ q, if q < pos r l then i q else 0) + i (pos r l) := by
  have h1 : ∀ r' k, (if pos r' k < pos r l then i (pos r' k) else 0) + (if pos r' k = pos r l then i (pos r' k) else 0)
      = (if r' = r then i (pos r k) * (if k ≤ l then 1 else 0) else 0) + (if r' < r then 1 else 0) * (i (pos r' k) * (if k ≤ (1023 : Fin 1024) then 1 else 0)) := by
    intro r' k
    have hk : k ≤ (1023 : Fin 1024) := Fin.le_def.2 (by show k.val ≤ 1023; omega)
    have e : pos r' k = pos r l ↔ r' = r ∧ k = l := by
      simp only [pos, Fin.ext_iff]; omega
    simp only [pos_lt, e, if_pos hk]
    by_cases hr : r' = r
    · subst hr
      by_cases hl : k ≤ l
      · rcases hl.lt_or_eq with h | h
        · simp [h, hl, h.ne]
        · simp [h]
      · have n1 : ¬ k < l := fun h => hl h.le
        have n2 : ¬ k = l := fun h => hl h.le
        simp [hl, n1, n2]
    · simp [hr]
  have h2 : (∑ q, if q = pos r l then i q else 0) = i (pos r l) := (Finset.sum_ite_eq' _ _ _).trans (if_pos (Finset.mem_univ _))
  have h3 : (∑ r' : Fin 20, ∑ k : Fin 1024, if r' = r then i (pos r k) * (if k ≤ l then 1 else 0) else 0)
      = ∑ k : Fin 1024, i (pos r k) * (if k ≤ l then 1 else 0) := by
    rw [Finset.sum_eq_single r]
    · exact Finset.sum_congr rfl fun k _ => if_pos rfl
    · exact fun b _ hb => Finset.sum_eq_zero fun k _ => if_neg hb
    · exact fun h => absurd (Finset.mem_univ _) h
  have h4 : ∀ r' : Fin 20, (if r' < r then 1 else 0) * ∑ k : Fin 1024, i (pos r' k) * (if k ≤ (1023 : Fin 1024) then 1 else 0)
      = ∑ k : Fin 1024, (if r' < r then 1 else 0) * (i (pos r' k) * (if k ≤ (1023 : Fin 1024) then 1 else 0)) :=
    fun r' => Finset.mul_sum _ _ _
  rw [← h2, ← h3, Finset.sum_congr rfl fun r' _ => h4 r', ← Finset.sum_add_distrib, ← Finset.sum_add_distrib, sum_pos]
  refine Finset.sum_congr rfl fun r' _ => ?_
  rw [← Finset.sum_add_distrib]
  exact Finset.sum_congr rfl fun k _ => (h1 r' k).symm

/-- The kernel's exclusive prefix sums of `v`. -/
def prefixOf (v : FVec Ideal S20x1024 .f32) : FVec Ideal S20x1024 .f32 :=
  subf (addf (matmul dot_S20x1024_S1024x1024_S20x1024_1_0_0_1_n_n (some .fp32) v (k0_pay7 (F := Ideal)) (constant S20x1024 .f32 0x00000000#32))
    (broadcastTo S20x1024 (matmul dot_S20x20_S20x1_S20x1_1_0_0_1_n_n (some .fp32) (k0_pay8 (F := Ideal))
      (extractStridedSlice S20x1 ![0, 1023] (matmul dot_S20x1024_S1024x1024_S20x1024_1_0_0_1_n_n (some .fp32) v (k0_pay7 (F := Ideal))
        (constant S20x1024 .f32 0x00000000#32)) slices_S20x1024_o0_1023_S20x1) (constant S20x1 .f32 0x00000000#32)) broadcasts_S20x1_S20x1024)) v

theorem prefix_read (v : FVec Ideal S20x1024 .f32) (r : Fin 20) (l : Fin 1024) : prefixOf v (ix2 r l)
    = (∑ k : Fin 1024, v (ix2 r k) * k0_pay7 (F := Ideal) (ix2 k l)
      + ∑ r' : Fin 20, k0_pay8 (F := Ideal) (ix2 r r') * ∑ k : Fin 1024, v (ix2 r' k) * k0_pay7 (F := Ideal) (ix2 k 1023)) - v (ix2 r l) := by
  pointwise [prefixOf]

/-- How many positions with the property come before `p`. -/
def before (P : Fin 20480 → Prop) (p : Fin 20480) : ℕ := (Finset.univ.filter fun q => q < p ∧ P q).card

theorem card_before (P : Fin 20480 → Prop) (p : Fin 20480) [i : DecidablePred fun q => q < p ∧ P q] :
    (Finset.univ.filter fun q => q < p ∧ P q).card = before P p := by
  unfold before
  congr

/-- Of flags: how many flagged positions come before. -/
theorem prefix_count (v : FVec Ideal S20x1024 .f32) (P : Fin 20480 → Prop) (hv : ∀ r l, v (ix2 r l) = ind (P (pos r l))) (r : Fin 20) (l : Fin 1024) :
    prefixOf v (ix2 r l) = (before P (pos r l) : EReal) := by
  rw [prefix_read]
  simp only [hv, upto_read, below_read, ind_cast]
  have h := prefix_sum (fun q => if P q then 1 else 0) r l
  have hc : before P (pos r l) = ∑ q, if q < pos r l then (if P q then 1 else 0) else 0 := by
    rw [before, Finset.card_filter]
    refine Finset.sum_congr rfl fun q _ => ?_
    by_cases h1 : q < pos r l <;> by_cases h2 : P q <;> simp [h1, h2]
  rw [← hc] at h
  have e : ∀ a b c : ℕ, a = b + c → ((a : ℕ) : EReal) - ((c : ℕ) : EReal) = ((b : ℕ) : EReal) := by
    rintro a b c rfl
    have hr : ((b + c : ℕ) : ℝ) - (c : ℝ) = b := by push_cast; ring
    rw [← EReal.coe_natCast, ← EReal.coe_natCast, ← EReal.coe_sub, hr]
    rfl
  refine Eq.trans ?_ (e _ _ _ h)
  push_cast
  rfl

/-! ## The selection -/

/-- Scores with the threshold score's key are the threshold score. -/
def Apart (C : Vec Ideal S20x1x1024 .f32) : Prop :=
  ∀ p q, rank (score C) p + 1 = 512 → key C q = key C p → score C q = score C p

theorem rank_iff (h : Scores C) (ha : Apart C) (p : Fin 20480) : rank (score C) p < 512 ↔ tkey C < key C p ∨
    (key C p = tkey C ∧ before (fun q => key C q = tkey C) p + above C < 512) :=
  (rank_lt_iff (key C) (tkey C) h.key_mono h.tkey_spec.1 h.tkey_spec.2 ha p).trans (by rw [card_before (fun q => key C q = tkey C)]; rfl)

theorem pay9_eq (x : IVec S20x1024 32) (n : Ideal .f32) (a : FVec Ideal S20x1024 .f32) (t : IVec S20x1024 32) :
    k0_pay9 (F := Ideal) x n a t = addf a (mulf (sitofp .f32 (extui 32 (cmpi .eq x t) natLt_1_32))
      (sitofp .f32 (extui 32 (cmpf .olt (prefixOf (sitofp .f32 (extui 32 (cmpi .eq x t) natLt_1_32))) (broadcast S20x1024 n)) natLt_1_32))) := rfl
theorem pay10_eq (x : IVec S20x1024 32) (n : Ideal .f32) (a : FVec Ideal S20x1024 .f32) (t : IVec S20x1024 32) :
    k0_pay10 (F := Ideal) x n a t = prefixOf (k0_pay9 (F := Ideal) x n a t) := rfl

theorem sum_flag (a e w : FVec Ideal S20x1024 .f32) (n : Ideal .f32) (r : Fin 20) (l : Fin 1024) :
    addf a (mulf e (sitofp .f32 (extui 32 (cmpf .olt w (broadcast S20x1024 n)) natLt_1_32))) (ix2 r l)
      = a (ix2 r l) + e (ix2 r l) * ind (w (ix2 r l) < n) := by
  pointwise
  rw [flag_num]

/-- The selected positions are those of the 512 best ranks, -/
theorem sel_read (h : Scores C) (ha : Apart C) (r : Fin 20) (l : Fin 1024) : selOf C (ix2 r l) = ind (rank (score C) (pos r l) < 512) := by
  have he : ∀ r l, sitofp (F := Ideal) .f32 (extui 32 (cmpi .eq (k0_pay2 (F := Ideal) C) (broadcast S20x1024 (tselOf C (radix C)))) natLt_1_32) (ix2 r l)
      = ind (key C (pos r l) = tkey C) := by
    intro r l
    rw [eq_read, key_pos]
    exact congrArg ind (propext BitVec.toInt_inj.symm)
  unfold selOf
  rw [pay9_eq, pay6_eq, sum_flag, above_read, h.need_read, he r l, rank_iff h ha]
  have hp := prefix_count (sitofp (F := Ideal) .f32 (extui 32 (cmpi .eq (k0_pay2 (F := Ideal) C) (broadcast S20x1024 (tselOf C (radix C)))) natLt_1_32))
    (fun p => key C p = tkey C) he r l
  rw [hp]
  have hab := h.tkey_spec.1
  have hlt : ∀ m : ℕ, (((m : ℕ) : EReal) < ((512 - above C : ℕ) : EReal)) ↔ m + above C < 512 := by
    intro m
    rw [EReal.natCast_lt_iff]
    omega
  rw [hlt]
  unfold ind
  by_cases h1 : tkey C < key C (pos r l)
  · simp [h1, h1.ne']
  · by_cases h2 : key C (pos r l) = tkey C
    · simp [h2]
    · simp [h1, h2]

/-- and their places the number of selected positions before. -/
theorem pos_read (h : Scores C) (ha : Apart C) (r : Fin 20) (l : Fin 1024) :
    posOf C (ix2 r l) = (before (fun q => rank (score C) q < 512) (pos r l) : EReal) := by
  unfold posOf
  rw [pay10_eq]
  have hs := sel_read h ha
  unfold selOf at hs
  generalize k0_pay9 (F := Ideal) (k0_pay2 C) (k0_pay4 C (radix C)) (k0_pay5 C (radix C)) (k0_pay6 C (radix C)) = v at *
  exact prefix_count v (fun q => rank (score C) q < 512) hs r l

end Cert.Kernel2Ideal.Select

end
-- ==== Proof.SelectGather.lean ====
/-
  The gathered columns over the extended reals: the sum of the one-hot products is the data of the selected positions, in
  order of position.
-/
module

public import proofs.«01_k».proof.Proof.SelectRead

@[expose] public section

set_option maxRecDepth 16384

noncomputable section

open scoped Classical

namespace Cert.Kernel2Ideal.Select

open Idealize.ShloMosaic Idealize.ShloMosaic.TcCoe Idealize.ShloMosaic.WordCmp
open Cert.Kernel2Ideal Cert.Kernel2Ideal.Gen Cert.Rank

variable {B : Vec Ideal S8x20480 .f32} {C : Vec Ideal S20x1x1024 .f32}

/-- A position's ten numbers: the table's eight, whether its score is kept, the position itself. -/
def data (B : Vec Ideal S8x20480 .f32) (C : Vec Ideal S20x1x1024 .f32) (c : Fin 10) (p : Fin 20480) : EReal :=
  if h : c.val < 8 then B (ix2 ⟨c.val, h⟩ p) else if c.val < 9 then ind (thr C ≤ conf C p) else ((p.val : ℕ) : EReal)

theorem flag_read (h : Scores C) (r : Fin 20) (l : Fin 1024) :
    k0_pay12 (F := Ideal) (k0_pay2 C) (ix2 r l) = ind (thr C ≤ conf C (pos r l)) := by
  have e : k0_pay12 (F := Ideal) (k0_pay2 C) (ix2 r l) = ind ((2147483648#32 : BitVec 32).toInt < (k0_pay2 C (ix2 r l)).toInt) := gt_read _ _ r l
  rw [e, ← key_pos]
  refine congrArg ind (propext ?_)
  have ht : (2147483648#32 : BitVec 32).toInt = -2147483648 := by decide
  rw [ht]
  rcases h.key_bounds (pos r l) with hb | hb
  · exact ⟨fun _ => hb.1, fun _ => by omega⟩
  · exact ⟨fun _ => by omega, fun hc => absurd hc hb.1⟩

theorem place_read (r : Fin 20) (l : Fin 1024) : k0_pay11 (F := Ideal) (ix2 r l) = (((pos r l).val : ℕ) : EReal) := by
  have e : k0_pay11 (F := Ideal) (ix2 r l)
      = FloatOps.sitofp (F := Ideal) .f32 (IntOp.addi (IntOp.muli (BitVec.ofNat 32 r.val) (BitVec.ofNat 32 1024)) (BitVec.ofNat 32 l.val)) := by
    pointwise [k0_pay11]
  rw [e, muli_ofNat, addi_ofNat, word_num (by omega)]
  rw [show r.val * 1024 + l.val = (pos r l).val from by show _ = 1024 * r.val + l.val; omega]

theorem cols_read (h : Scores C) (k : Fin 20) (c : Fin 10) (l : Fin 1024) : cols B C k (ix2 c l) = data B C c (pos k l) := by
  pointwise [cols]
  unfold data
  by_cases h1 : c.val < 8
  · rw [dif_pos h1, dif_pos h1]
    rfl
  · rw [dif_neg h1, dif_neg h1]
    by_cases h2 : c.val < 9
    · rw [dif_pos (show c.val - 8 < 1 by omega), if_pos h2, ← flag_read h k l]
      exact congrArg (fun a => k0_pay12 (F := Ideal) (k0_pay2 C) (ix2 a l)) (Fin.ext (by show k.val + (c.val - 8) = k.val; omega))
    · rw [dif_neg (show ¬ c.val - 8 < 1 by omega), if_neg h2, ← place_read k l]
      exact congrArg (fun a => k0_pay11 (F := Ideal) (ix2 a l)) (Fin.ext (by show k.val + (c.val - 8 - 1) = k.val; omega))

/-- The selected positions in order of position. -/
def chosen (C : Vec Ideal S20x1x1024 .f32) (i : Fin 512) : Fin 20480 := nth (score C) (by norm_num) i

theorem chosen_iff (p : Fin 20480) (i : Fin 512) :
    (i.val = before (fun q => rank (score C) q < 512) p ∧ rank (score C) p < 512) ↔ p = chosen C i := by
  have hb : ∀ p, before (fun q => rank (score C) q < 512) p = ((top (score C) 512).filter fun q => q < p).card := by
    intro p
    rw [before]
    refine congrArg Finset.card (Finset.ext fun q => ?_)
    simp only [Finset.mem_filter, Finset.mem_univ, true_and, mem_top]
    exact and_comm
  rw [hb]
  constructor
  · rintro ⟨h1, h2⟩
    exact eq_nth _ _ ((mem_top _).2 h2) i h1.symm
  · rintro rfl
    exact ⟨(count_nth _ _ i).symm, (mem_top _).1 (nth_mem _ _ i)⟩

theorem lane_num (i : Fin 512) (a : Fin 1) : k0_pay13 (F := Ideal) (ix2 i a) = ((i.val : ℕ) : EReal) := by
  have e : k0_pay13 (F := Ideal) (ix2 i a) = FloatOps.sitofp (F := Ideal) .f32 (BitVec.ofNat 32 i.val) := by
    pointwise [k0_pay13]
  rw [e, word_num (by omega)]

theorem ind_mul (p q : Prop) : ind p * ind q = ind (p ∧ q) := by
  unfold ind
  by_cases h1 : p <;> by_cases h2 : q <;> simp [h1, h2]

theorem oneHot_read (h : Scores C) (ha : Apart C) (k : Fin 20) (i : Fin 512) (l : Fin 1024) :
    oneHot (posOf C) (selOf C) k (ix2 i l) = ind (pos k l = chosen C i) := by
  have e : ∀ (pv sv : FVec Ideal S20x1024 .f32), oneHot pv sv k (ix2 i l) = ind (k0_pay13 (F := Ideal) (ix2 i 0) = pv (ix2 k l)) * sv (ix2 k l) := by
    intro pv sv
    pointwise [oneHot]
    rw [flag_num]
  rw [e, lane_num, pos_read h ha, sel_read h ha, ind_mul]
  refine congrArg ind (propext ((and_congr_left fun _ => ?_).trans (chosen_iff (pos k l) i)))
  exact ⟨fun e => by exact_mod_cast e, fun e => by exact_mod_cast e⟩

/-- A sum of chunks. -/
theorem chunks_sum {S : Shape} (M : Fin 20 → FVec Ideal S .f32) (init : FVec Ideal S .f32) (j : S.Idx) :
    chunks.foldl (fun acc k => addf acc (M k)) init j = init j + ∑ k, M k j := by
  have g : ∀ (L : List (Fin 20)) (init : FVec Ideal S .f32), L.foldl (fun acc k => addf acc (M k)) init j = init j + (L.map fun k => M k j).sum := by
    intro L
    induction L with
    | nil => intro init; simp
    | cons k L ih =>
      intro init
      rw [List.foldl_cons, ih, List.map_cons, List.sum_cons, ← add_assoc]
      rfl
  rw [g, Fin.sum_univ_def]
  rfl

/-- A sum of numbers picked at one position. -/
theorem sum_pick {ι : Type*} [Fintype ι] (f : ι → EReal) (a : ι) : ∑ p, ind (p = a) * f p = f a := by
  rw [Finset.sum_eq_single a]
  · simp [ind]
  · intro b _ hb; simp [ind, hb]
  · intro hn; exact absurd (Finset.mem_univ a) hn

theorem gathered_read (h : Scores C) (ha : Apart C) (i : Fin 512) (c : Fin 10) : gathered B C (ix2 i c) = data B C c (chosen C i) := by
  have e : ∀ k : Fin 20, matmul dot_S512x1024_S10x1024_S512x10_1_1_0_0_n_n (some .fp32) (oneHot (posOf C) (selOf C) k) (cols B C k)
      (constant (F := Ideal) S512x10 .f32 0x00000000#32) (ix2 i c) = ∑ l : Fin 1024, ind (pos k l = chosen C i) * data B C c (pos k l) := by
    intro k
    have e : ∀ (M : FVec Ideal S512x1024 .f32) (N : FVec Ideal S10x1024 .f32), matmul dot_S512x1024_S10x1024_S512x10_1_1_0_0_n_n (some .fp32) M N
      (constant (F := Ideal) S512x10 .f32 0x00000000#32) (ix2 i c) = ∑ l : Fin 1024, M (ix2 i l) * N (ix2 c l) := by
      intro M N
      pointwise
    rw [e]
    exact Finset.sum_congr rfl fun l _ => by rw [oneHot_read h ha, cols_read h]
  unfold gathered
  rw [chunks_sum, Finset.sum_congr rfl fun k _ => e k, ← sum_pos fun p => ind (p = chosen C i) * data B C c p, sum_pick]
  have z : k0_pay14 (F := Ideal) (ix2 i c) = 0 := by pointwise [k0_pay14]
  rw [z, zero_add]

theorem gatheredT_read (h : Scores C) (ha : Apart C) (i : Fin 512) (c : Fin 10) : gatheredT B C (ix2 c i) = data B C c (chosen C i) := by
  have e : ∀ k : Fin 20, matmul dot_S10x1024_S512x1024_S10x512_1_1_0_0_n_n (some .fp32) (cols B C k) (oneHot (posOf C) (selOf C) k)
      (constant (F := Ideal) S10x512 .f32 0x00000000#32) (ix2 c i) = ∑ l : Fin 1024, ind (pos k l = chosen C i) * data B C c (pos k l) := by
    intro k
    have e : ∀ (M : FVec Ideal S512x1024 .f32) (N : FVec Ideal S10x1024 .f32), matmul dot_S10x1024_S512x1024_S10x512_1_1_0_0_n_n (some .fp32) N M
      (constant (F := Ideal) S10x512 .f32 0x00000000#32) (ix2 c i) = ∑ l : Fin 1024, N (ix2 c l) * M (ix2 i l) := by
      intro M N
      pointwise
    rw [e]
    exact Finset.sum_congr rfl fun l _ => by rw [oneHot_read h ha, cols_read h, mul_comm]
  unfold gatheredT
  rw [chunks_sum, Finset.sum_congr rfl fun k _ => e k, ← sum_pos fun p => ind (p = chosen C i) * data B C c p, sum_pick]
  have z : k0_pay15 (F := Ideal) (ix2 c i) = 0 := by pointwise [k0_pay15]
  rw [z, zero_add]

end Cert.Kernel2Ideal.Select

end
-- ==== Proof.SelectRank.lean ====
/-
  The selected rows in order of score over the extended reals: row `r` of the permuted array is the data of the position
  whose rank is `r`.
-/
module

public import proofs.«01_k».proof.Proof.SelectGather

@[expose] public section

set_option maxRecDepth 16384

noncomputable section

open scoped Classical

namespace Cert.Kernel2Ideal.Select

open Idealize.ShloMosaic Idealize.ShloMosaic.TcCoe Idealize.ShloMosaic.WordCmp
open Cert.Kernel2Ideal Cert.Kernel2Ideal.Gen Cert.Rank

variable {B : Vec Ideal S8x20480 .f32} {C : Vec Ideal S20x1x1024 .f32}

/-- The table's row 6 is the scores. -/
def Labelled (B : Vec Ideal S8x20480 .f32) (C : Vec Ideal S20x1x1024 .f32) : Prop :=
  ∀ p : Fin 20480, p.val < 20000 → B (ix2 6 p) = conf C p

/-- The padding ranks last. -/
theorem Scores.rank_pad (h : Scores C) {p : Fin 20480} (hp : 20000 ≤ p.val) : 20000 ≤ rank (score C) p := by
  have hs : score C p = ⊥ := by
    unfold score
    rw [h.pad p hp]
    exact ite_self _
  have hi : (Finset.univ : Finset (Fin 20000)).card ≤ rank (score C) p := by
    refine Finset.card_le_card_of_injOn (fun q => (⟨q.val, by omega⟩ : Fin 20480)) ?_ ?_
    · intro q _
      refine Finset.mem_coe.2 (Finset.mem_filter.2 ⟨Finset.mem_univ _, ?_⟩)
      unfold Beats
      rw [hs]
      rcases eq_bot_or_bot_lt (score C (⟨q.val, by omega⟩ : Fin 20480)) with e | e
      · exact .inr ⟨e, Fin.lt_def.2 (by show q.val < p.val; omega)⟩
      · exact .inl e
    · intro a _ b _ e
      exact Fin.ext (by simpa using e)
  simpa using hi

/-- The score that the rows are sorted by: a lost score counts as less than every kept one. -/
def sortScore (C : Vec Ideal S20x1x1024 .f32) (p : Fin 20480) : EReal := if thr C ≤ conf C p then conf C p else ((-1 : ℝ) : EReal)

theorem Scores.sort_lt (h : Scores C) (p q : Fin 20480) : sortScore C p < sortScore C q ↔ score C p < score C q := by
  have n1 : ((-1 : ℝ) : EReal) < 0 := by exact_mod_cast (by norm_num : (-1 : ℝ) < 0)
  unfold sortScore score
  by_cases hp : thr C ≤ conf C p <;> by_cases hq : thr C ≤ conf C q
  · simp [hp, hq]
  · have := h.thr_nonneg.trans hp
    simp only [if_pos hp, if_neg hq, not_lt_bot, iff_false, not_lt]
    exact n1.le.trans this
  · have := h.thr_nonneg.trans hq
    simp only [if_neg hp, if_pos hq]
    exact ⟨fun _ => lt_of_lt_of_le (EReal.bot_lt_coe 0) (by exact_mod_cast this), fun _ => n1.trans_le this⟩
  · simp [hp, hq]

theorem Scores.sort_eq (h : Scores C) (p q : Fin 20480) : sortScore C p = sortScore C q ↔ score C p = score C q := by
  rw [le_antisymm_iff, le_antisymm_iff, ← not_lt, ← not_lt, ← not_lt, ← not_lt, h.sort_lt, h.sort_lt]

theorem ofBits_neg_one : Ideal.ofBits .f32 0xBF800000#32 = ((-1 : ℝ) : EReal) := by
  simp [Ideal.ofBits, Ideal.ieee, -EReal.coe_mul]; norm_num

/-- Who precedes whom, counted down a column, compared with the row's number. -/
theorem perm_read (g : FVec Ideal S512x10 .f32) (gt : FVec Ideal S10x512 .f32) (r j : Fin 512) :
    k0_pay78 (k0_pay13 (F := Ideal)) g gt (kept g) (extractStridedSlice S512x1 ![0, 6] g slices_S512x10_o0_6_S512x1) (k0_pay77 (F := Ideal)) (ix2 r j)
      = ind (((r.val : ℕ) : EReal) = ∑ i : Fin 512,
          (ind ((if ((1 / 2 : ℝ) : EReal) < gt (ix2 8 j) then gt (ix2 6 j) else ((-1 : ℝ) : EReal)) < (if ((1 / 2 : ℝ) : EReal) < g (ix2 i 8) then g (ix2 i 6) else ((-1 : ℝ) : EReal)))
            + ind ((if ((1 / 2 : ℝ) : EReal) < g (ix2 i 8) then g (ix2 i 6) else ((-1 : ℝ) : EReal)) = (if ((1 / 2 : ℝ) : EReal) < gt (ix2 8 j) then gt (ix2 6 j) else ((-1 : ℝ) : EReal)))
              * ind (g (ix2 i 9) < gt (ix2 9 j)))) := by
  have e := lane_num r 0
  pointwise [k0_pay78, k0_pay77, kept]
  simp only [flag_num, ofBits_half, ofBits_neg_one, e]

theorem data_flag (p : Fin 20480) : data B C 8 p = ind (thr C ≤ conf C p) := rfl
theorem data_place (p : Fin 20480) : data B C 9 p = ((p.val : ℕ) : EReal) := rfl
theorem data_score (hl : Labelled B C) {p : Fin 20480} (hp : p.val < 20000) : data B C 6 p = conf C p := hl p hp

theorem half_lt_ind (P : Prop) : ((1 / 2 : ℝ) : EReal) < ind P ↔ P := by
  unfold ind
  by_cases h : P
  · simp only [h, if_true, iff_true]; exact_mod_cast (by norm_num : (1 / 2 : ℝ) < 1)
  · simp only [h, if_false, iff_false, not_lt]; exact_mod_cast (by norm_num : (0 : ℝ) ≤ 1 / 2)

theorem chosen_rank (i : Fin 512) : rank (score C) (chosen C i) < 512 := (mem_top _).1 (nth_mem _ _ i)

theorem Scores.chosen_lt (h : Scores C) (i : Fin 512) : (chosen C i).val < 20000 := by
  by_contra hc
  have := h.rank_pad (not_lt.1 hc)
  have := chosen_rank (C := C) i
  omega

/-- The place in the order by score of the `j`-th selected position. -/
theorem order_read (h : Scores C) (ha : Apart C) (hl : Labelled B C) (j : Fin 512) :
    ∑ i : Fin 512,
          (ind ((if ((1 / 2 : ℝ) : EReal) < data B C 8 (chosen C j) then data B C 6 (chosen C j) else ((-1 : ℝ) : EReal)) < (if ((1 / 2 : ℝ) : EReal) < data B C 8 (chosen C i) then data B C 6 (chosen C i) else ((-1 : ℝ) : EReal)))
            + ind ((if ((1 / 2 : ℝ) : EReal) < data B C 8 (chosen C i) then data B C 6 (chosen C i) else ((-1 : ℝ) : EReal)) = (if ((1 / 2 : ℝ) : EReal) < data B C 8 (chosen C j) then data B C 6 (chosen C j) else ((-1 : ℝ) : EReal)))
              * ind (data B C 9 (chosen C i) < data B C 9 (chosen C j))) = ((rank (score C) (chosen C j) : ℕ) : EReal) := by
  have e : ∀ i, (if ((1 / 2 : ℝ) : EReal) < data B C 8 (chosen C i) then data B C 6 (chosen C i) else ((-1 : ℝ) : EReal)) = sortScore C (chosen C i) := by
    intro i
    unfold sortScore
    rw [data_flag, data_score hl (h.chosen_lt i)]
    by_cases hk : thr C ≤ conf C (chosen C i)
    · rw [if_pos hk, if_pos ((half_lt_ind _).2 hk)]
    · rw [if_neg hk, if_neg (fun hh => hk ((half_lt_ind _).1 hh))]
  have t : ∀ i, ind (sortScore C (chosen C j) < sortScore C (chosen C i)) + ind (sortScore C (chosen C i) = sortScore C (chosen C j))
      * ind (data B C 9 (chosen C i) < data B C 9 (chosen C j)) = if Beats (score C) (chosen C i) (chosen C j) then (1 : EReal) else 0 := by
    intro i
    have hp : data B C 9 (chosen C i) < data B C 9 (chosen C j) ↔ chosen C i < chosen C j := by
      rw [data_place, data_place, EReal.natCast_lt_iff, Fin.lt_def]
    rw [h.sort_lt, h.sort_eq, hp, ind_mul]
    unfold Beats ind
    by_cases h1 : score C (chosen C j) < score C (chosen C i)
    · simp [h1, h1.ne']
    · simp [h1]
  simp only [e, t]
  rw [Finset.sum_boole]
  have hr := rank_nth (score C) (K := 512) (by norm_num) j
  refine congrArg Nat.cast (Eq.trans ?_ hr)
  refine congrArg Finset.card (Finset.filter_congr fun i _ => Iff.rfl)

theorem rank_lt_card (r : Fin 512) : r.val < 20480 := by omega

/-- The position of rank `r`. -/
def best (C : Vec Ideal S20x1x1024 .f32) (r : Fin 512) : Fin 20480 := at' (score C) r.val (rank_lt_card r)

theorem rank_best (r : Fin 512) : rank (score C) (best C r) = r.val := rank_at' _ _ _

theorem Scores.best_lt (h : Scores C) (r : Fin 512) : (best C r).val < 20000 := by
  by_contra hc
  have := h.rank_pad (not_lt.1 hc)
  have := rank_best (C := C) r
  omega

theorem sum_rank (f : Fin 20480 → EReal) (r : Fin 512) :
    ∑ j : Fin 512, ind (((r.val : ℕ) : EReal) = ((rank (score C) (chosen C j) : ℕ) : EReal)) * f (chosen C j) = f (best C r) := by
  obtain ⟨j, hj⟩ := exists_nth (score C) (K := 512) (by norm_num) (p := best C r) ((mem_top _).2 (by rw [rank_best]; exact r.isLt))
  have e : ∀ j', ind (((r.val : ℕ) : EReal) = ((rank (score C) (chosen C j') : ℕ) : EReal)) = ind (j' = j) := by
    intro j'
    refine congrArg ind (propext ⟨fun hh => ?_, ?_⟩)
    · have hh' : r.val = rank (score C) (chosen C j') := by exact_mod_cast hh
      rw [← rank_best (C := C) r, ← hj] at hh'
      exact (nth_injective _ _ (rank_injective _ hh')).symm
    · rintro rfl
      rw [show chosen C j' = best C r from hj, rank_best]
  simp only [e]
  rw [sum_pick (fun j => f (chosen C j)) j, show chosen C j = best C r from hj]

theorem ranked_read (h : Scores C) (ha : Apart C) (hl : Labelled B C) (r : Fin 512) (c : Fin 10) :
    ranked (gathered B C) (gatheredT B C) (ix2 r c) = data B C c (best C r) := by
  have e : ∀ (M : FVec Ideal S512x512 .f32) (N : FVec Ideal S512x10 .f32), matmul dot_S512x512_S512x10_S512x10_1_0_0_1_n_n (some .fp32) M N
      (constant (F := Ideal) S512x10 .f32 0x00000000#32) (ix2 r c) = ∑ j : Fin 512, M (ix2 r j) * N (ix2 j c) := by
    intro M N
    pointwise
  refine (e _ _).trans ?_
  simp only [perm_read, gathered_read h ha, gatheredT_read h ha]
  rw [Finset.sum_congr rfl fun j _ => by rw [order_read h ha hl j]]
  exact sum_rank _ r

theorem rankedT_read (h : Scores C) (ha : Apart C) (hl : Labelled B C) (r : Fin 512) (c : Fin 10) :
    rankedT (gathered B C) (gatheredT B C) (ix2 c r) = data B C c (best C r) := by
  have e : ∀ (M : FVec Ideal S512x512 .f32) (N : FVec Ideal S10x512 .f32), matmul dot_S10x512_S512x512_S10x512_1_1_0_0_n_n (some .fp32) N M
      (constant (F := Ideal) S10x512 .f32 0x00000000#32) (ix2 c r) = ∑ j : Fin 512, N (ix2 c j) * M (ix2 r j) := by
    intro M N
    pointwise
  refine (e _ _).trans ?_
  simp only [perm_read, gathered_read h ha, gatheredT_read h ha]
  rw [Finset.sum_congr rfl fun j _ => by rw [order_read h ha hl j, mul_comm]]
  exact sum_rank _ r

end Cert.Kernel2Ideal.Select

end
-- ==== Proof.SelectSort.lean ====
/-
  A stable sort by decreasing score lists the positions by rank: its first 512 entries are the positions of rank below 512.
-/
module

public import proofs.«01_k».proof.Proof.SelectRank
public import Idealize.ShloMosaic.Lib.SortPrefix
public import Idealize.ShloMosaic.Lib.SortFacts

@[expose] public section

noncomputable section

open scoped Classical

namespace Cert.Kernel2Ideal.Select

open Idealize.ShloMosaic Idealize.ShloMosaic.TcCoe Cert.Rank

/-- A stable sort only asks whether a later position goes before an earlier one. -/
theorem stableSort_later {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    have hl' := List.pairwise_cons.1 hl
    show insertBefore R a (stableSort R l) = insertBefore R' a (stableSort R' l)
    rw [ih hl'.2]
    exact insertBefore_congr R R' a _ fun b hb => h a b (hl'.1 b ((perm_stableSort R' l).mem_iff.1 hb))

theorem sortedFrom_later {n : ℕ} (R R' : Fin n → Fin n → Bool) (h : ∀ a b : Fin n, a < b → R b a = R' b a) :
    sortedFrom R = sortedFrom R' := by
  have e : sortPositions n R = sortPositions n R' := stableSort_later R R' h _ (List.pairwise_lt_finRange n)
  funext k
  unfold sortedFrom
  rw [List.get_of_eq e]
  rfl

variable {C : Vec Ideal S20x1x1024 .f32}

/-- A point's position. -/
def up (k : Fin 20000) : Fin 20480 := ⟨k.val, by omega⟩

/-- The position of rank `r`, a point. -/
def bestPoint (h : Scores C) (r : Fin 512) : Fin 20000 := ⟨(best C r).val, h.best_lt r⟩

theorem up_bestPoint (h : Scores C) (r : Fin 512) : up (bestPoint h r) = best C r := rfl

theorem le512 : 512 ≤ 20000 := by norm_num

theorem sorted_best (h : Scores C) (r : Fin 512) :
    sortedFrom (fun k k' : Fin 20000 => decide (score C (up k') < score C (up k))) (r.castLE le512) = bestPoint h r := by
  rw [sortedFrom_later _ (fun k k' : Fin 20000 => (fun a b : EReal => decide (b < a)) (score C (up k)) (score C (up k'))
    || (decide (score C (up k) = score C (up k')) && decide (k < k')))]
  · have hB := StrictTotalBefore.of_key_then_position (n := 20000) (fun a b : EReal => decide (b < a)) (fun k => score C (up k))
      (fun a => by simp) (fun a b c hab hbc => by simp only [decide_eq_true_eq] at *; exact hbc.trans hab)
      (fun a b => by
        simp only [decide_eq_true_eq]
        rcases lt_trichotomy a b with h' | h' | h'
        · exact .inr (.inr h')
        · exact .inr (.inl h')
        · exact .inl h')
    have hb : ∀ k k' : Fin 20000, ((fun a b : EReal => decide (b < a)) (score C (up k)) (score C (up k'))
        || (decide (score C (up k) = score C (up k')) && decide (k < k'))) = true ↔ Beats (score C) (up k) (up k') := by
      intro k k'
      simp only [Bool.or_eq_true, Bool.and_eq_true, decide_eq_true_eq]
      rfl
    refine hB.sortedFrom_eq_of_prefix le512 (bestPoint h) ?_ ?_ ?_ r
    · intro i j e
      have : best C i = best C j := by rw [← up_bestPoint h, ← up_bestPoint h, e]
      have := congrArg (rank (score C)) this
      rw [rank_best, rank_best] at this
      exact Fin.ext this
    · intro i j hij
      rw [← Bool.not_eq_true, hb]
      intro hh
      have := rank_lt_of_beats _ hh
      rw [up_bestPoint, up_bestPoint, rank_best, rank_best] at this
      exact absurd (Fin.lt_def.1 hij) (by omega)
    · intro i p hp
      rw [← Bool.not_eq_true, hb]
      intro hh
      have hr := rank_lt_of_beats _ hh
      rw [up_bestPoint, rank_best] at hr
      refine hp ⟨rank (score C) (up p), by omega⟩ ?_
      have : best C ⟨rank (score C) (up p), by omega⟩ = up p := rank_injective (score C) (by rw [rank_best])
      have := congrArg Fin.val this
      exact Fin.ext this
  · intro a b hab
    simp [hab.le, not_lt.2 hab.le]

end Cert.Kernel2Ideal.Select

end
-- ==== Proof.SelectOut.lean ====
/-
  The output rows over the extended reals: each row is the box of the position of rank `r`, and its score if the greedy pass
  keeps the box and the box is large enough.
-/
module

public import proofs.«01_k».proof.Proof.SelectRank
public import Idealize.ShloMosaic.Lib.Pipeline.Value

@[expose] public section

set_option maxRecDepth 16384

noncomputable section

open scoped Classical

namespace Cert.Nms

/-- A box's volume. -/
def vol (x : ℕ → EReal) : EReal := (max (x 3 - x 0) 0 * max (x 4 - x 1) 0) * max (x 5 - x 2) 0

/-- The volume that two boxes share. -/
def inter (x y : ℕ → EReal) : EReal :=
  (max (min (x 3) (y 3) - max (x 0) (y 0)) 0 * max (min (x 4) (y 4) - max (x 1) (y 1)) 0) * max (min (x 5) (y 5) - max (x 2) (y 2)) 0

/-- The shared part of two boxes' union. -/
def over (e : EReal) (x y : ℕ → EReal) : EReal := Idealize.ShloMosaic.Ideal.div (inter x y) (max (vol x + vol y - inter x y) e)

/-- Which of the first `n` boxes the greedy pass keeps: box `n` is kept when no kept box before it overlaps it by more than `t`. -/
def keeps (t : EReal) (o : Fin 512 → Fin 512 → EReal) : ℕ → Fin 512 → Prop
  | 0, _ => False
  | n + 1, j => if j.val = n then ¬ ∃ l : Fin 512, keeps t o n l ∧ l.val < n ∧ t < o j l else keeps t o n j

end Cert.Nms

namespace Cert.Kernel2Ideal.Select

open Idealize.ShloMosaic Idealize.ShloMosaic.TcCoe Idealize.ShloMosaic.WordCmp
open Cert.Kernel2Ideal Cert.Kernel2Ideal.Gen Cert.Rank Cert.Nms

variable {B : Vec Ideal S8x20480 .f32} {C : Vec Ideal S20x1x1024 .f32}

theorem ld_scores (s : Vec Ideal S20x1x1024 .f32) : View.ld s rscores = s :=
  View.ld_unit_zero (funext fun a => by fin_cases a <;> rfl) _ _
theorem canon_over (p : FVec Ideal S512x512 .f32) : View.canon ([⟨rover, p⟩] : List (View.Piece (Elt Ideal) S512x512 .f32)) = p :=
  View.canon_unit_zero (funext fun a => by fin_cases a <;> rfl) _ _
theorem canon_out (p : FVec Ideal S512x7 .f32) : View.canon ([⟨rout, p⟩] : List (View.Piece (Elt Ideal) S512x7 .f32)) = p :=
  View.canon_unit_zero (funext fun a => by fin_cases a <;> rfl) _ _

/-- Column `c` of the row of rank `r` (zero past the tenth). -/
def D (B : Vec Ideal S8x20480 .f32) (C : Vec Ideal S20x1x1024 .f32) (r : Fin 512) (c : ℕ) : EReal :=
  if h : c < 10 then data B C ⟨c, h⟩ (best C r) else 0

/-- The least denominator, the greatest overlap and the least side, as the programs write them. -/
def tiny : EReal := Ideal.ofBits .f32 0x358637BD#32
def most : EReal := Ideal.ofBits .f32 0x3ECCCCCD#32
def side : EReal := Ideal.ofBits .f32 0x40A00000#32

theorem pay_over (g : FVec Ideal S512x10 .f32) (gt : FVec Ideal S10x512 .f32) (G : Fin 512 → ℕ → EReal)
    (v : FVec Ideal S512x1 .f32) (hv : ∀ i, v (ix2 i 0) = vol (G i))
    (hg : ∀ r (c : Fin 10), g (ix2 r c) = G r c.val) (hgt : ∀ r (c : Fin 10), gt (ix2 c r) = G r c.val) (i j : Fin 512) :
    k0_pay85 v (k0_pay82 gt) (k0_pay83 g gt) (k0_pay84 g gt) (ix2 i j) = over tiny (G i) (G j) := by
  pointwise [k0_pay85, k0_pay82, k0_pay83, k0_pay84]
  rw [hv]
  simp only [hg, hgt]
  rfl

theorem pay_vol (M : FVec Ideal S512x10 .f32) (v83 v423 v425 v428 v429 v430) (e : k0_pay79 (F := Ideal) v83 v423 v425 v428 v429 v430 = M)
    (G : Fin 512 → ℕ → EReal) (hg : ∀ r (c : Fin 10), M (ix2 r c) = G r c.val) (i : Fin 512) :
    k0_pay81 (F := Ideal) v83 v423 v425 v428 v429 v430 (ix2 i 0) = vol (G i) := by
  unfold k0_pay81
  rw [e]
  pointwise
  simp only [hg]
  rfl

theorem D_eq (r : Fin 512) (c : Fin 10) : data B C c (best C r) = D B C r c.val := by
  unfold D
  rw [dif_pos c.isLt]

theorem overlap_read (h : Scores C) (ha : Apart C) (hl : Labelled B C) (i j : Fin 512) :
    overlap (gathered B C) (gatheredT B C) (ix2 i j) = over tiny (D B C i) (D B C j) :=
  pay_over _ _ (D B C) _ (fun i => pay_vol _ _ _ _ _ _ _ rfl (D B C) (fun r c => (ranked_read h ha hl r c).trans (D_eq r c)) i)
    (fun r c => (ranked_read h ha hl r c).trans (D_eq r c)) (fun r c => (rankedT_read h ha hl r c).trans (D_eq r c)) i j

theorem ind_pos (p : Prop) : 0 < ind p ↔ p := by
  unfold ind
  by_cases h : p <;> simp [h]

theorem trip_num (k : Fin k0_t2_loop.trips) : k.val < 512 := Nat.lt_of_lt_of_le k.isLt k0_t2_abs.2.1

/-- One box of the greedy pass. -/
theorem pay_greedy (k : Fin k0_t2_loop.trips) (acc row : FVec Ideal S1x512 .f32) (P : Fin 512 → Prop) (hP : ∀ l, acc (ix2 0 l) = ind (P l))
    (j : Fin 512) :
    k0_pay87 k acc row (ix2 0 j) = ind (if j.val = k.val then ¬ ∃ l : Fin 512, P l ∧ l.val < k.val ∧ most < row (ix2 0 l) else P j) := by
  have hk := trip_num k
  have hw : Scf.iv 0#32 1#32 k.val = BitVec.ofNat 32 k.val := by simp [Scf.iv]
  have hn : ∀ n : ℕ, n < 512 → (((BitVec.ofNat 32 n).toInt : ℝ) : EReal) = n := fun n hn => (word_num (n := n) (by omega))
  pointwise [k0_pay87]
  rw [hw, hn _ hk]
  have hl : ∀ l : Fin 512, (FloatOps.sitofp (F := Ideal) .f32 (BitVec.ofNat 32 l.val) : EReal) = (l.val : EReal) := fun l => word_num (by omega)
  simp only [hl, flag_num, hP, ind_mul, EReal.natCast_lt_iff, EReal.natCast_eq_iff]
  rw [ofBits_bot, show Ideal.ofBits .f32 1053609165#32 = most from rfl]
  by_cases hj : j.val = k.val
  · rw [if_pos hj, if_pos hj]
    have hm : ∀ g : Fin 1 × Fin 512 → EReal, (0 < Finset.fold max (⊥ : EReal) g Finset.univ) ↔ ∃ l : Fin 512, 0 < g (0, l) := by
      intro g
      rw [Finset.lt_fold_max]
      constructor
      · rintro (h | ⟨x, -, h⟩)
        · exact absurd h (by simp)
        · exact ⟨x.2, by rwa [show ((0 : Fin 1), x.2) = x from Prod.ext (Subsingleton.elim _ _) rfl]⟩
      · rintro ⟨l, h⟩
        exact .inr ⟨_, Finset.mem_univ _, h⟩
    have hm' := hm (fun x => ind ((P x.2 ∧ x.2.val < k.val) ∧ most < row (ix2 0 x.2)))
    simp only [ind_pos, and_assoc] at hm'
    by_cases hx : ∃ l : Fin 512, P l ∧ l.val < k.val ∧ most < row (ix2 0 l)
    · rw [if_pos (by simpa only [and_assoc] using hm'.2 hx)]
      unfold ind
      rw [if_neg (not_not.2 hx)]
    · rw [if_neg (fun hh => hx (hm'.1 (by simpa only [and_assoc] using hh)))]
      unfold ind
      rw [if_pos hx]
  · rw [if_neg hj, if_neg hj]

/-- The greedy pass keeps the boxes that `keeps` does. -/
theorem greedy_read (o : Vec Ideal S512x512 .f32) (n : ℕ) (hn : n ≤ k0_t2_loop.trips) (j : Fin 512) :
    greedy o n (ix2 0 j) = ind (keeps most (fun a b => o (ix2 a b)) n j) := by
  induction n generalizing j with
  | zero =>
    unfold ind keeps
    rw [if_neg not_false]
    show k0_pay86 (F := Ideal) (ix2 0 j) = 0
    pointwise [k0_pay86]
  | succ n ih =>
    have hk : n < k0_t2_loop.trips := hn
    rw [show greedy o (n + 1) = _ from greedy_succ o ⟨n, hk⟩]
    refine (pay_greedy ⟨n, hk⟩ _ _ _ (fun l => ih hk.le l) j).trans (congrArg ind ?_)
    show (if j.val = n then _ else _) = (if j.val = n then _ else _)
    by_cases hj : j.val = n
    · rw [if_pos hj, if_pos hj]
      have e : ∀ l : Fin 512, View.ld o (rrow ⟨n, hk⟩) (ix2 0 l) = o (ix2 j l) := by
        intro l
        refine congrArg o (funext fun a => Fin.ext ?_)
        have hw : (Scf.iv 0#32 1#32 n).toNat = n := by
          have := trip_num ⟨n, hk⟩
          simp [Scf.iv]
          omega
        fin_cases a
        · show (Scf.iv 0#32 1#32 n).toNat + 0 * 1 = j.val
          rw [hw, hj]
          omega
        · show k0_off1 ⟨n, hk⟩ 1 + 1 * l.val = l.val
          rw [show k0_off1 ⟨n, hk⟩ 1 = 0 from rfl]
          omega
      simp only [e]
    · rw [if_neg hj, if_neg hj]

theorem pay_col (acc : FVec Ideal S1x512 .f32) (j : Fin 512) : k0_pay88 acc (ix2 j 0) = acc (ix2 0 j) := by
  pointwise [k0_pay88]
  have e : ∀ x : Fin 512, (FloatOps.sitofp (F := Ideal) .f32 (BitVec.setWidth 32 (IntOp.cmpi .eq (BitVec.ofNat 32 j.val) (BitVec.ofNat 32 x.val))) : EReal) = ind (x = j) := by
    intro x
    rw [show IntOp.cmpi .eq (BitVec.ofNat 32 j.val) (BitVec.ofNat 32 x.val) = BitVec.ofBool (decide (x = j)) from ?_, flag_num]
    show BitVec.ofBool (BitVec.ofNat 32 j.val == BitVec.ofNat 32 x.val) = _
    refine congrArg BitVec.ofBool ?_
    rw [Bool.eq_iff_iff, beq_iff_eq, decide_eq_true_iff]
    constructor
    · intro hh
      have := congrArg BitVec.toNat hh
      rw [BitVec.toNat_ofNat, BitVec.toNat_ofNat, Nat.mod_eq_of_lt (by omega), Nat.mod_eq_of_lt (by omega)] at this
      exact Fin.ext this.symm
    · rintro rfl; rfl
  simp only [e]
  exact sum_pick (fun x => acc (ix2 0 x)) j

/-- A box whose sides are all long enough. -/
def large (x : ℕ → EReal) : Prop := ∀ a : Fin 3, side ≤ x (3 + a.val) - x a.val

theorem pay_side (g : FVec Ideal S512x10 .f32) (G : Fin 512 → ℕ → EReal) (hg : ∀ r (c : Fin 10), g (ix2 r c) = G r c.val) (j : Fin 512) :
    k0_pay89 g (ix2 j 0) = ind (large (G j)) := by
  pointwise [k0_pay89]
  simp only [hg, flag_num]
  refine congrArg ind (propext ?_)
  rw [Finset.le_fold_min]
  constructor
  · exact fun hh x => hh.2 x (Finset.mem_univ _)
  · exact fun hh => ⟨by rw [show Ideal.ofBits .f32 2139095040#32 = (⊤ : EReal) from by simp [Ideal.ofBits, Ideal.ieee, -EReal.coe_mul]]; exact le_top, fun x _ => hh x⟩

/-- The output's cell. -/
def cellOut (G : Fin 512 → ℕ → EReal) (keep : Fin 512 → Prop) (j : Fin 512) (c : Fin 7) : EReal :=
  if c.val < 6 then G j c.val else (G j 6 * G j 8) * ind (keep j ∧ large (G j))

theorem pay_out (g : FVec Ideal S512x10 .f32) (G : Fin 512 → ℕ → EReal) (hg : ∀ r (c : Fin 10), g (ix2 r c) = G r c.val)
    (acc : FVec Ideal S1x512 .f32) (P : Fin 512 → Prop) (hP : ∀ l, acc (ix2 0 l) = ind (P l)) (j : Fin 512) (c : Fin 7) :
    k0_pay1 g (k0_pay88 acc) (k0_pay89 g) (k0_pay90 g) (ix2 j c) = cellOut G P j c := by
  have e90 : k0_pay90 g (ix2 j 0) = G j 6 * G j 8 := by
    pointwise [k0_pay90]
    simp only [hg]
    rfl
  have e88 : k0_pay88 acc (ix2 j 0) = ind (P j) := (pay_col acc j).trans (hP j)
  have e89 := pay_side g G hg j
  generalize k0_pay90 g = x90 at e90 ⊢
  generalize k0_pay88 acc = x88 at e88 ⊢
  generalize k0_pay89 g = x89 at e89 ⊢
  pointwise [k0_pay1]
  unfold cellOut
  by_cases hc : c.val < 6
  · rw [dif_pos hc, if_pos hc, hg]
  · rw [dif_neg hc, if_neg hc]
    have h6 : (⟨c.val - 6, by omega⟩ : Fin 1) = 0 := Subsingleton.elim _ _
    rw [h6, e90, e88, e89, mul_assoc, ind_mul]

/-- The kernel's result. -/
theorem out_read (h : Scores C) (ha : Apart C) (hl : Labelled B C) (j : Fin 512) (c : Fin 7) :
    out B C (ix2 j c) = cellOut (D B C) (keeps most (fun a b => over tiny (D B C a) (D B C b)) 512) j c := by
  unfold out rowsOut
  rw [ld_scores, canon_out]
  refine pay_out _ _ (fun r c => (ranked_read h ha hl r c).trans (D_eq r c)) _ _ (fun l => ?_) j c
  refine (greedy_read _ _ le_rfl l).trans ?_
  unfold scratch
  rw [canon_over]
  simp only [overlap_read h ha hl]
  rfl

end Cert.Kernel2Ideal.Select

end
-- ==== Proof.SelectRefRead.lean ====
/-
  The reference's arrays read at an index over the extended reals: the top scores and their boxes by rank, the boxes'
  overlaps and the result rows.
-/
module

public import proofs.«01_k».proof.Proof.SelectRefRun
public import proofs.«01_k».proof.Proof.SelectSort
public import proofs.«01_k».proof.Proof.SelectOut
public import Idealize.ShloMosaic.Lib.Routing.Ops
public import Idealize.ShloMosaic.Lib.ReduceAll

@[expose] public section

set_option maxRecDepth 16384

noncomputable section

open scoped Classical

namespace Cert.Reference2Ideal.Select

open Idealize.ShloMosaic Idealize.ShloMosaic.TcCoe Idealize.ShloMosaic.WordCmp
open Cert.Reference2Ideal Cert.Reference2Ideal.Gen Cert.Rank Cert.Nms
open Cert.Kernel2Ideal.Select (conf thr score row lane up best bestPoint sorted_best le512 data D ind tiny most side large Scores Labelled)

variable {B : Vec Ideal S8x20480 .f32} {C : Vec Ideal S20x1x1024 .f32}

theorem points_read (k : Fin 20000) : points C (ix1 k) = conf C (up k) := by
  pointwise [points]
  rfl

theorem greatest_read (h : ∀ p : Fin 20480, 20000 ≤ p.val → conf C p = ⊥) : Host.reduce FloatOps.maximumf (points C) (constant (F := Ideal) S_ .f32 0xFF800000#32)
    reducesTo_S20000_S_d0 h_S_ ix0 = Finset.univ.sup (conf C) := by
  have e := fun k => points_read (C := C) k
  pointwise
  simp only [e]
  rw [show Ideal.ofBits .f32 4286578688#32 = (⊥ : EReal) from Cert.Kernel2Ideal.Select.ofBits_bot]
  refine le_antisymm (Finset.sup_le fun k _ => Finset.le_sup (f := conf C) (Finset.mem_univ _)) (Finset.sup_le fun p _ => ?_)
  by_cases hp : p.val < 20000
  · exact Finset.le_sup (f := fun k : Fin 20000 => conf C (up k)) (Finset.mem_univ (⟨p.val, hp⟩ : Fin 20000))
  · rw [h p (not_lt.1 hp)]
    exact bot_le

theorem reached_read (h : Scores C) (k : Fin 20000) : reached C (ix1 k) = BitVec.ofBool (decide (thr C ≤ conf C (up k))) := by
  have e := greatest_read h.pad
  have e' := points_read (C := C) k
  unfold reached
  generalize Host.reduce FloatOps.maximumf (points C) (constant (F := Ideal) S_ .f32 0xFF800000#32) reducesTo_S20000_S_d0 h_S_ = u at e ⊢
  generalize points C = v at e' ⊢
  pointwise
  rw [e, e', show Ideal.ofBits .f32 1056964608#32 = _ from Cert.Kernel2Ideal.Select.ofBits_half]
  rfl

theorem scored_read (h : Scores C) (k : Fin 20000) : scored C (ix1 k) = score C (up k) := by
  have e := reached_read h k
  have e' := points_read (C := C) k
  unfold scored
  generalize reached C = u at e ⊢
  generalize points C = v at e' ⊢
  pointwise
  rw [e, e', show id (constant (F := Ideal) S_ .f32 4286578688#32) ix0 = (⊥ : EReal) from Cert.Kernel2Ideal.Select.ofBits_bot]
  unfold score Scalar.select
  by_cases hk : thr C ≤ conf C (up k) <;> simp [hk]

theorem gt_read (x y : EReal) : (FloatOps.cmpfTotal (F := Ideal) (φ := .f32) .gt x y == 1#1) = decide (y < x) := by
  show (Ideal.cmp .ogt x y == 1#1) = _
  unfold Ideal.cmp
  by_cases hh : y < x <;> simp [hh]

theorem top_pos (h : Scores C) (r : Fin 512) :
    (sortedFrom (fun k k' : Fin 20000 => FloatOps.cmpfTotal (F := Ideal) (φ := .f32) .gt (scored C (ix1 k)) (scored C (ix1 k')) == 1#1) (r.castLE le512))
      = bestPoint h r := by
  rw [← sorted_best h r]
  refine congrFun (congrArg sortedFrom (funext fun k => funext fun k' => ?_)) _
  rw [scored_read h, scored_read h]
  exact gt_read _ _

theorem topK_read {n K : ℕ} (hK : K ≤ n) {α : Type} (gt : α → α → BitVec 1) (x : (⟨1, ![n]⟩ : Shape).Idx → α) (hs : (⟨1, ![n]⟩ : Shape).Slices (fun _ => 0) ⟨1, ![K]⟩)
    (r : Fin K) (p : Fin n) (hp : sortedFrom (fun k k' : Fin n => gt (x (ix1 k)) (x (ix1 k')) == 1#1) (r.castLE hK) = p) :
    (Host.topK ⟨1, ![K]⟩ 0 gt x hs).1 (ix1 r) = x (ix1 p) ∧ (Host.topK ⟨1, ![K]⟩ 0 gt x hs).2 (ix1 r) = BitVec.ofNat 32 p.val := by
  have e : ∀ (j : (⟨1, ![n]⟩ : Shape).Idx) (k : Fin n), j.along (0 : Fin 1) k = ix1 k := fun j k => by
    rw [Shape.Idx.along_rank1]
    exact (eq_ix1 _).trans (congrArg ix1 (Fin.ext rfl))
  have ei : ∀ hh : ∀ a : Fin 1, 0 + (ix1 r a).val < ![n] a, (fun a : Fin 1 => (⟨0 + (ix1 r a).val, hh a⟩ : Fin ((![n] : Fin 1 → ℕ) a))) = ix1 (r.castLE hK) := fun hh => by
    funext a
    fin_cases a
    exact Fin.ext (Nat.zero_add _)
  subst hp
  unfold Host.topK Host.sort2
  dsimp only
  rw [dif_pos (show 0 < (⟨1, ![n]⟩ : Shape).rank from Nat.one_pos)]
  have q : (fun k k' : Fin n => gt (x (ix1 k)) (x (ix1 k')) == 1#1) = fun k k' => gt (x ((ix1 (r.castLE hK) : (⟨1, ![n]⟩ : Shape).Idx).along (0 : Fin 1) k)) (x ((ix1 (r.castLE hK) : (⟨1, ![n]⟩ : Shape).Idx).along (0 : Fin 1) k')) == 1#1 := by
    funext k k'
    rw [e, e]
  have key : ∀ j : (⟨1, ![n]⟩ : Shape).Idx, j = ix1 (r.castLE hK) →
      j.along (0 : Fin 1) (sortedFrom (fun k k' : Fin n => gt (x (j.along (0 : Fin 1) k)) (x (j.along (0 : Fin 1) k')) == 1#1) (j 0))
        = ix1 (sortedFrom (fun k k' : Fin n => gt (x (ix1 k)) (x (ix1 k')) == 1#1) (r.castLE hK)) := by
    rintro j rfl
    exact (e _ _).trans (congrArg ix1 (congrFun (congrArg sortedFrom q.symm) _))
  constructor
  · exact congrArg x (key _ (ei _))
  · exact congrArg (iotaInDim ⟨1, ![n]⟩ 32 0) (key _ (ei _))

theorem values_read (h : Scores C) (r : Fin 512) : values C (ix1 r) = score C (best C r) :=
  (topK_read le512 _ _ _ r (bestPoint h r) (top_pos h r)).1.trans (scored_read h _)

theorem places_read (h : Scores C) (r : Fin 512) : places C (ix1 r) = BitVec.ofNat 32 (bestPoint h r).val :=
  (topK_read le512 _ _ _ r (bestPoint h r) (top_pos h r)).2

theorem boxes_read (i : IVec S512 32) (r : Fin 512) (p : Fin 20000) (hp : i (ix1 r) = BitVec.ofNat 32 p.val) (c : Fin 6) :
    boxesAt B i (ix2 r c) = B (ix2 ⟨c.val, by omega⟩ (up p)) := by
  unfold boxesAt
  refine (Routing.gather_row (nb := 20000) (B := 6) (n := 512) gather_S20000x6_S512x1_S512x6_1_0_n_n_0_1_16 rfl rfl rfl rfl rfl _ _ r c p ?_ (by norm_num)).trans ?_
  · pointwise
    have hi : i (ix1 (ValueIdx.ix2 r (0 : Fin 1) 0)) = BitVec.ofNat 32 p.val := hp
    rw [hi]
    have hn : ¬ IntOp.cmpi .slt (BitVec.ofNat 32 p.val) 0#32 = 1#1 := by
      rw [IntOp.cmpi_slt, toInt_eq_toNat_of_lt_half (by rw [BitVec.toNat_ofNat, Nat.mod_eq_of_lt (by omega)]; omega)]
      simp only [BitVec.toNat_ofNat, BitVec.toInt_zero, not_lt]
      exact Int.natCast_nonneg _
    unfold Scalar.select
    exact if_neg hn
  · pointwise
    rfl

theorem finite_read (v : FVec Ideal S512 .f32) (r : Fin 512) :
    finite v (ix1 r) = if max (v (ix1 r)) (-(v (ix1 r))) < ⊤ then v (ix1 r) else 0 := by
  pointwise [finite]
  rw [show Ideal.ofBits .f32 2139095040#32 = (⊤ : EReal) by simp [Ideal.ofBits, Ideal.ieee], show id (constant (F := Ideal) S_ .f32 0#32) ix0 = (0 : EReal) from Ideal.ofBits_zero_f32]
  rfl

theorem volumes_read (g : FVec Ideal S512x6 .f32) (G : Fin 512 → ℕ → EReal) (hg : ∀ r (c : Fin 6), g (ix2 r c) = G r c.val) (i : Fin 512) :
    volumes g (ix1 i) = vol (G i) := by
  pointwise [volumes]
  simp only [hg]
  rfl

theorem shared_read (g : FVec Ideal S512x6 .f32) (G : Fin 512 → ℕ → EReal) (hg : ∀ r (c : Fin 6), g (ix2 r c) = G r c.val) (i j : Fin 512) :
    shared g (ix2 i j) = inter (G i) (G j) := by
  pointwise [shared]
  simp only [hg]
  rfl

theorem overlaps_read (g : FVec Ideal S512x6 .f32) (G : Fin 512 → ℕ → EReal) (hg : ∀ r (c : Fin 6), g (ix2 r c) = G r c.val) (i j : Fin 512) :
    overlaps g (ix2 i j) = over tiny (G i) (G j) := by
  have e1 := shared_read g G hg i j
  have e2 := volumes_read g G hg
  unfold overlaps
  generalize shared g = u at e1 ⊢
  generalize volumes g = v at e2 ⊢
  pointwise
  simp only [e1, e2]
  rfl

theorem score_read (h : Scores C) (hl : Labelled B C) (r : Fin 512) : finite (values C) (ix1 r) = D B C r 6 * D B C r 8 := by
  have e6 : D B C r 6 = conf C (best C r) := by
    rw [show D B C r 6 = D B C r (6 : Fin 10).val from rfl, ← Cert.Kernel2Ideal.Select.D_eq r 6]
    exact Cert.Kernel2Ideal.Select.data_score hl (h.best_lt r)
  have e8 : D B C r 8 = ind (thr C ≤ conf C (best C r)) := by
    rw [show D B C r 8 = D B C r (8 : Fin 10).val from rfl, ← Cert.Kernel2Ideal.Select.D_eq r 8]
    rfl
  rw [finite_read, values_read h, e6, e8]
  unfold score ind
  by_cases hk : thr C ≤ conf C (best C r)
  · obtain ⟨x, hx, hx0, -⟩ := h.real hk
    rw [if_pos hk, if_pos hk, mul_one]
    refine if_pos ?_
    rw [hx, ← EReal.coe_neg]
    exact max_lt (EReal.coe_lt_top _) (EReal.coe_lt_top _)
  · rw [if_neg hk, if_neg hk, mul_zero]
    refine if_neg ?_
    simp

theorem box_read (h : Scores C) (r : Fin 512) (c : Fin 6) : boxesAt B (places C) (ix2 r c) = D B C r c.val := by
  rw [boxes_read (places C) r (bestPoint h r) (places_read h r) c]
  unfold D
  rw [dif_pos (by omega : c.val < 10)]
  unfold data
  rw [dif_pos (by show c.val < 8; omega)]
  rfl

theorem fold_and {ι : Type*} (s : Finset ι) (P : ι → Prop) [DecidablePred P] :
    Finset.fold IntOp.andi 1#1 (fun x => BitVec.ofBool (decide (P x))) s = BitVec.ofBool (decide (∀ x ∈ s, P x)) := by
  induction s using Finset.induction_on with
  | empty => simp
  | insert a t ha ih =>
    rw [Finset.fold_insert ha, ih]
    have e : ∀ x y : Bool, IntOp.andi (BitVec.ofBool x) (BitVec.ofBool y) = BitVec.ofBool (x && y) := by decide
    rw [e]
    refine congrArg BitVec.ofBool ?_
    by_cases h1 : P a <;> simp [h1]

theorem fold_or {ι : Type*} (s : Finset ι) (P : ι → Prop) [DecidablePred P] :
    Finset.fold IntOp.ori 0#1 (fun x => BitVec.ofBool (decide (P x))) s = BitVec.ofBool (decide (∃ x ∈ s, P x)) := by
  induction s using Finset.induction_on with
  | empty => simp
  | insert a t ha ih =>
    rw [Finset.fold_insert ha, ih]
    have e : ∀ x y : Bool, IntOp.ori (BitVec.ofBool x) (BitVec.ofBool y) = BitVec.ofBool (x || y) := by decide
    rw [e]
    refine congrArg BitVec.ofBool ?_
    by_cases h1 : P a <;> simp [h1]

theorem flag_and (p q : Prop) [Decidable p] [Decidable q] : (FloatOps.uitofp (F := Ideal) .f32 (IntOp.andi (BitVec.ofBool (decide p)) (BitVec.ofBool (decide q))) : EReal) = ind (p ∧ q) := by
  show (((IntOp.andi (BitVec.ofBool (decide p)) (BitVec.ofBool (decide q))).toNat : ℝ) : EReal) = _
  unfold ind
  by_cases h1 : p <;> by_cases h2 : q <;> simp [h1, h2, IntOp.andi]

theorem large_read (g : FVec Ideal S512x6 .f32) (G : Fin 512 → ℕ → EReal) (hg : ∀ r (c : Fin 6), g (ix2 r c) = G r c.val) (j : Fin 512) :
    (Host.reduce IntOp.andi (cmpf .oge (subf (extractStridedSlice S512x3 ![0, 3] g slices_S512x6_S512x3_0_3)
      (extractStridedSlice S512x3 ![0, 0] g slices_S512x6_S512x3_0_0)) (broadcastInDim S512x3 ![] bcast_S_S512x3 (constant (F := Ideal) S_ .f32 0x40A00000#32)))
      (constantI S_ 1 1#1) reducesTo_S512x3_S512_d1 h_S_) (ix1 j) = BitVec.ofBool (decide (large (G j))) := by
  pointwise
  refine (fold_and Finset.univ fun x : Fin 3 => side ≤ g (ix2 j ⟨3 + x.val, by omega⟩) - g (ix2 j ⟨x.val, by omega⟩)).trans ?_
  refine congrArg BitVec.ofBool (decide_eq_decide.2 ?_)
  simp only [hg, Finset.mem_univ, true_implies]
  rfl

theorem rows_read (g : FVec Ideal S512x6 .f32) (G : Fin 512 → ℕ → EReal) (hg : ∀ r (c : Fin 6), g (ix2 r c) = G r c.val)
    (v : FVec Ideal S512 .f32) (hv : ∀ r, v (ix1 r) = G r 6 * G r 8) (keep : IVec S512 1) (K : Fin 512 → Prop)
    (hk : ∀ r, keep (ix1 r) = BitVec.ofBool (decide (K r))) (j : Fin 512) (c : Fin 7) :
    rows g v keep (ix2 j c) = Cert.Kernel2Ideal.Select.cellOut G K j c := by
  have e := large_read g G hg j
  unfold rows
  generalize Host.reduce IntOp.andi _ _ _ _ = w at e ⊢
  unfold Cert.Kernel2Ideal.Select.cellOut
  pointwise
  by_cases hc : c.val < 6
  · rw [dif_pos hc, if_pos hc, hg]
  · rw [dif_neg hc, if_neg hc, hv, e, hk, flag_and]

end Cert.Reference2Ideal.Select

end
-- ==== Proof.SelectPre.lean ====
/-
  The second call's precondition read: the points' scores are at most one, the greatest not negative, with minus infinity
  past the last point, the table's row 6 holds them, and no other kept score shares the selection's key of the last one selected.
-/
module

public import proofs.«01_k».proof.Proof.SelectRefRead
public import proofs.«01_k».proof.Proof.Claims
public import proofs.«01_k».proof.Proof.Gen.Pre_from_first_call

@[expose] public section

set_option maxRecDepth 16384

noncomputable section

open scoped Classical

namespace Cert.SelectClaims

open Idealize.ShloMosaic Idealize.ShloMosaic.TcCoe
open Cert.Kernel2Ideal.Select Cert.Reference2Ideal.Select Cert.Rank

variable {B : Vec Ideal Cert.Pre_from_first_call.S8x20480 .f32} {C : Vec Ideal Cert.Pre_from_first_call.S20x1x1024 .f32}

instance : Subsingleton (Cert.Pre_from_first_call.S_).Idx := ⟨fun _ _ => funext fun a => a.elim0⟩

theorem le_of_oge {x y : EReal} (h : (Ideal.cmp .oge x y : BitVec 1) = 1#1) : y ≤ x := by
  by_contra hn
  have : (Ideal.cmp .oge x y : BitVec 1) = 0#1 := by simp [Ideal.cmp, hn]
  rw [this] at h
  exact absurd h (by decide)

theorem le_of_ole {x y : EReal} (h : (Ideal.cmp .ole x y : BitVec 1) = 1#1) : x ≤ y := by
  by_contra hn
  have : (Ideal.cmp .ole x y : BitVec 1) = 0#1 := by simp [Ideal.cmp, hn]
  rw [this] at h
  exact absurd h (by decide)

theorem ne_of_une {x y : EReal} (h : (Ideal.cmp .une x y : BitVec 1) = 1#1) : x ≠ y := by
  rintro rfl
  have : (Ideal.cmp .une x x : BitVec 1) = 0#1 := by simp [Ideal.cmp]
  rw [this] at h
  exact absurd h (by decide)

/-- The last selected score. -/
def last (C : Vec Ideal Cert.Pre_from_first_call.S20x1x1024 .f32) : EReal := values C (ix1 511)

/-- The precondition's last line at a point, of any scores `u` and any top scores `v`. -/
theorem apart_line [Cert.Pre_from_first_call.Facts] {u : FVec Ideal Cert.Pre_from_first_call.S20000 .f32}
    {v : FVec Ideal Cert.Pre_from_first_call.S512 .f32} {k : Fin 20000}
    (e : ori (cmpf .oeq u (broadcastInDim Cert.Pre_from_first_call.S20000 ![] Cert.Pre_from_first_call.Facts.bcast_S_S20000
          (shapeCast Cert.Pre_from_first_call.S_ (extractStridedSlice Cert.Pre_from_first_call.S1 ![511] v
            Cert.Pre_from_first_call.Facts.slices_S512_S1_511) Cert.Pre_from_first_call.Facts.shapeCasts_S1_S_)))
        (cmpf .une (Host.floor (mulf u (broadcastInDim Cert.Pre_from_first_call.S20000 ![] Cert.Pre_from_first_call.Facts.bcast_S_S20000
            (constant (F := Ideal) Cert.Pre_from_first_call.S_ .f32 0x4B800000#32))))
          (broadcastInDim Cert.Pre_from_first_call.S20000 ![] Cert.Pre_from_first_call.Facts.bcast_S_S20000
            (Host.floor (mulf (shapeCast Cert.Pre_from_first_call.S_ (extractStridedSlice Cert.Pre_from_first_call.S1 ![511] v
              Cert.Pre_from_first_call.Facts.slices_S512_S1_511) Cert.Pre_from_first_call.Facts.shapeCasts_S1_S_)
              (constant (F := Ideal) Cert.Pre_from_first_call.S_ .f32 0x4B800000#32))))) (ix1 k) = 1#1) :
    u (ix1 k) = v (ix1 511) ∨ Ideal.liftRound Int.floor (u (ix1 k) * Ideal.ofBits .f32 0x4B800000#32)
      ≠ Ideal.liftRound Int.floor (v (ix1 511) * Ideal.ofBits .f32 0x4B800000#32) := by
  have hlast : shapeCast Cert.Pre_from_first_call.S_ (extractStridedSlice Cert.Pre_from_first_call.S1 ![511] v
      Cert.Pre_from_first_call.Facts.slices_S512_S1_511) Cert.Pre_from_first_call.Facts.shapeCasts_S1_S_ = fun _ => v (ix1 511) := by
    funext j
    obtain rfl : j = ix0 := Subsingleton.elim _ _
    pointwise
  rw [hlast] at e
  rcases IntOp.ori_eq_one.1 e with e | e
  · exact .inl (Cert.PointClaims.eq_of_cmp e)
  · exact .inr (ne_of_une e)

theorem pad_of {p : Fin 20480} (e : conf C ⟨20000 + (p.val - 20000), by omega⟩ = ⊥) (hp : 20000 ≤ p.val) : conf C p = ⊥ := by
  have : (⟨20000 + (p.val - 20000), by omega⟩ : Fin 20480) = p := Fin.ext (by show 20000 + (p.val - 20000) = p.val; omega)
  rwa [this] at e

/-- The greatest score of the points, not less than zero. -/
theorem top_of_oge (hpad : ∀ p : Fin 20480, 20000 ≤ p.val → conf C p = ⊥)
    (e : cmpf (F := Ideal) (φ := .f32) .oge (Host.reduce FloatOps.maximumf (points C) (constant (F := Ideal) Cert.Reference2Ideal.S_ .f32 0xFF800000#32)
      Cert.Reference2Ideal.Gen.reducesTo_S20000_S_d0 Cert.Reference2Ideal.Gen.h_S_) (constant (F := Ideal) Cert.Reference2Ideal.S_ .f32 0x00000000#32) ix0 = 1#1) :
    0 ≤ Finset.univ.sup (conf C) := by
  have hg := greatest_read hpad
  generalize Host.reduce FloatOps.maximumf (points C) (constant (F := Ideal) Cert.Reference2Ideal.S_ .f32 0xFF800000#32)
      Cert.Reference2Ideal.Gen.reducesTo_S20000_S_d0 Cert.Reference2Ideal.Gen.h_S_ = u at hg e
  have e' : (Ideal.cmp .oge (u ix0) (Ideal.ofBits .f32 0x00000000#32) : BitVec 1) = 1#1 := e
  rw [hg, Ideal.ofBits_zero_f32] at e'
  exact le_of_oge e'

/-- The precondition, its five parts. -/
theorem pre_parts [Cert.Pre_from_first_call.Facts] (h : Cert.Pre_from_first_call.fn (F := Ideal) B C = fun _ => 1#1) :
    (0 ≤ Finset.univ.sup (conf C) ∧ ∀ k : Fin 20000, conf C (up k) ≤ 1) ∧ (∀ i : Fin 480, conf C ⟨20000 + i.val, by omega⟩ = ⊥)
      ∧ (∀ k : Fin 20000, B (ix2 6 (up k)) = conf C (up k))
      ∧ ∀ k : Fin 20000, scored C (ix1 k) = last C ∨
        Ideal.liftRound Int.floor (scored C (ix1 k) * Ideal.ofBits .f32 0x4B800000#32)
          ≠ Ideal.liftRound Int.floor (last C * Ideal.ofBits .f32 0x4B800000#32) := by
  have h0 := congrFun h ix0
  simp only [Cert.Pre_from_first_call.fn, Cert.Pre_from_first_call.fn_part1, Cert.Pre_from_first_call.fn_part2] at h0
  obtain ⟨h1, hapart⟩ := IntOp.andi_eq_one.1 h0
  obtain ⟨h2, hlabel⟩ := IntOp.andi_eq_one.1 h1
  obtain ⟨h3, hpad⟩ := IntOp.andi_eq_one.1 h2
  obtain ⟨hge, hle⟩ := IntOp.andi_eq_one.1 h3
  have hpadded : ∀ i : Fin 480, conf C ⟨20000 + i.val, by omega⟩ = ⊥ := fun i => by
    have e := Host.reduce_andi_all _ _ _ _ _ hpad (ix1 i)
    refine Eq.trans ?_ ((Cert.PointClaims.eq_of_cmp e).trans ofBits_bot)
    symm
    pointwise
    rfl
  refine ⟨⟨?_, fun k => ?_⟩, hpadded, fun k => ?_, fun k => ?_⟩
  · exact top_of_oge (fun p hp => pad_of (hpadded ⟨p.val - 20000, by omega⟩) hp) hge
  · have e := Host.reduce_andi_all _ _ _ _ _ hle (ix1 k)
    have e' : (Ideal.cmp .ole (points C (ix1 k)) (Ideal.ofBits .f32 0x3F800000#32) : BitVec 1) = 1#1 := e
    rw [points_read, Ideal.ofBits_one_f32] at e'
    exact le_of_ole e'
  · have e := Host.reduce_andi_all _ _ _ _ _ hlabel (ix1 k)
    refine Eq.trans ?_ ((Cert.PointClaims.eq_of_cmp e).trans (points_read k))
    symm
    pointwise
    rfl
  · have e := apart_line (Host.reduce_andi_all _ _ _ _ _ hapart (ix1 k))
    exact e

theorem scores_of_pre [Cert.Pre_from_first_call.Facts] (h : Cert.Pre_from_first_call.fn (F := Ideal) B C = fun _ => 1#1) : Scores C where
  top := (pre_parts h).1.1
  le p hp := (pre_parts h).1.2 ⟨p.val, hp⟩
  pad p hp := pad_of ((pre_parts h).2.1 ⟨p.val - 20000, by omega⟩) hp

theorem labelled_of_pre [Cert.Pre_from_first_call.Facts] (h : Cert.Pre_from_first_call.fn (F := Ideal) B C = fun _ => 1#1) : Labelled B C :=
  fun p hp => (pre_parts h).2.2.1 ⟨p.val, hp⟩

/-- Scores that no other kept score's key comes near at the last one selected are apart. -/
theorem apart_of_lines (hs : Scores C) (hline : ∀ k : Fin 20000, scored C (ix1 k) = last C ∨
      Ideal.liftRound Int.floor (scored C (ix1 k) * Ideal.ofBits .f32 0x4B800000#32)
        ≠ Ideal.liftRound Int.floor (last C * Ideal.ofBits .f32 0x4B800000#32)) : Apart C := by
  intro p q hr hk
  obtain rfl : best C 511 = p := rank_injective (score C) ((rank_best 511).trans (by show 511 = _; omega))
  by_cases hp : thr C ≤ conf C (best C 511) <;> by_cases hq : thr C ≤ conf C q
  · obtain ⟨x, hx, hx0, -⟩ := hs.real hp
    obtain ⟨y, hy, hy0, -⟩ := hs.real hq
    have e1 := hs.key_kept hp hx
    have e2 := hs.key_kept hq hy
    have hf : ⌊y * 16777216⌋ = ⌊x * 16777216⌋ := by omega
    have hq' : q.val < 20000 := by
      by_contra hc
      have := hs.pad q (not_lt.1 hc)
      rw [hy] at this
      exact EReal.coe_ne_bot _ this
    have hsx : last C = (x : EReal) := by
      unfold last
      rw [values_read hs, ← hx]
      exact if_pos hp
    have hsy : score C q = (y : EReal) := by
      rw [← hy]
      exact if_pos hq
    have hsq : scored C (ix1 (⟨q.val, hq'⟩ : Fin 20000)) = score C q := scored_read hs ⟨q.val, hq'⟩
    rcases hline ⟨q.val, hq'⟩ with e | e
    · rw [hsq] at e
      rw [e]
      exact values_read hs 511
    · exfalso
      refine e ?_
      rw [hsq, hsx, hsy, ofBits_scale, ← EReal.coe_mul, ← EReal.coe_mul]
      show ((⌊y * 16777216⌋ : ℝ) : EReal) = ((⌊x * 16777216⌋ : ℝ) : EReal)
      rw [hf]
  · have := key_lost hq
    rcases hs.key_bounds (best C 511) with hb | hb
    · omega
    · exact absurd hp hb.1
  · have := key_lost hp
    rcases hs.key_bounds q with hb | hb
    · omega
    · exact absurd hq hb.1
  · unfold score
    rw [if_neg hp, if_neg hq]

theorem apart_of_pre [Cert.Pre_from_first_call.Facts] (h : Cert.Pre_from_first_call.fn (F := Ideal) B C = fun _ => 1#1) : Apart C :=
  apart_of_lines (scores_of_pre h) (pre_parts h).2.2.2

end Cert.SelectClaims

end
-- ==== Proof.SelectRefLoop.lean ====
/-
  One trip of the reference's greedy loop over the extended reals: box `k`'s flag is set to whether no kept box before it
  overlaps it too much.
-/
module

public import proofs.«01_k».proof.Proof.SelectRefRead
public import Idealize.ShloMosaic.Lib.Routing.OpsSet

@[expose] public section

set_option maxRecDepth 16384

noncomputable section

open scoped Classical

namespace Cert.Reference2Ideal.Select

open Idealize.ShloMosaic Idealize.ShloMosaic.TcCoe Idealize.ShloMosaic.WordCmp Idealize.ShloMosaic.StableHlo
open Cert.Reference2Ideal Cert.Reference2Ideal.Gen Cert.Reference2Ideal.Value Cert.Rank Cert.Nms
open Cert.Kernel2Ideal.Select (most)

/-- The loop's own number of the box. -/
def boxNumber (n : IVec S512 32) (c : IVec S_ 32) : IVec S_ 32 :=
  shapeCast S_ (Host.dynamicSlice S1 n (fun k => (((![c] : Fin 1 → IVec S_ 32)) k (Shape.Idx.first h_S_)).toInt) sliceFits_S512_S1) shapeCasts_S1_S_

/-- A number from the end, where negative. -/
def fromEnd (w : IVec S_ 32) : IVec S_ 32 := select (cmpi .slt w (constantI S_ 32 0#32)) (addi w (constantI S_ 32 512#32)) w

/-- The overlaps of box `w`. -/
def overlapsOf (o : FVec Ideal S512x512 .f32) (w : IVec S_ 32) : FVec Ideal S512 .f32 :=
  shapeCast S512 (Host.dynamicSlice S1x512 o (fun k => (((![fromEnd w, fromEnd (constantI S_ 32 0#32)] : Fin 2 → IVec S_ 32)) k (Shape.Idx.first h_S_)).toInt) sliceFits_S512x512_S1x512) shapeCasts_S1x512_S512

/-- Whether a kept box before box `w` overlaps it too much. -/
def beaten (n : IVec S512 32) (o : FVec Ideal S512x512 .f32) (w : IVec S_ 32) (keep : IVec S512 1) : IVec S_ 1 :=
  Host.reduce IntOp.ori (andi (andi keep (cmpi .slt n (broadcastInDim S512 ![] bcast_S_S512 w)))
    (cmpf .ogt (overlapsOf o w) (broadcastInDim S512 ![] bcast_S_S512 (constant (F := Ideal) S_ .f32 0x3ECCCCCD#32)))) (constantI S_ 1 0#1) reducesTo_S512_S_d0 h_S_

/-- The flags after a trip. -/
def setFlag (n : IVec S512 32) (o : FVec Ideal S512x512 .f32) (w : IVec S_ 32) (keep : IVec S512 1) : IVec S512 1 :=
  Host.scatter scatter_S512_S1_S__n_0_0_0 (fun _ b => b) keep (broadcastInDim S1 ![] bcast_S_S1 (fromEnd w)) (noti (beaten n o w keep))

theorem trip_flags (V : Valuation τ sig (Elt Ideal)) : afterL bodyI V (Proc.devRef .tc main_v65_4)
    = setFlag (V (Proc.devRef .tc main_v65_1)) (V (Proc.devRef .tc main_v65_2)) (boxNumber (V (Proc.devRef .tc main_v65_0)) (V (Proc.devRef .tc main_v65_3))) (V (Proc.devRef .tc main_v65_4)) :=
  trip_main_v65_4 V

theorem slice_start {a b : ℕ} (h : a ≤ b) : max 0 (min (a : ℤ) b) = a := by omega

theorem word_toInt {n : ℕ} (hn : n < 512) : (BitVec.ofNat 32 n).toInt = n := by
  rw [toInt_eq_toNat_of_lt_half (by rw [BitVec.toNat_ofNat, Nat.mod_eq_of_lt (by omega)]; omega), BitVec.toNat_ofNat, Nat.mod_eq_of_lt (by omega)]

theorem boxNumber_read (k : ℕ) (hk : k < 512) (n : IVec S512 32) (hn : ∀ j : Fin 512, n (ix1 j) = BitVec.ofNat 32 j.val) :
    boxNumber n (fun _ => BitVec.ofNat 32 k) = fun _ => BitVec.ofNat 32 k := by
  funext j
  obtain rfl : j = ix0 := Subsingleton.elim _ _
  pointwise [boxNumber]
  have h0 : Host.clampedStart S512 S1 rfl (fun _ => (BitVec.ofNat 32 k).toInt) 0 = k :=
    Host.clampedStart_of_le (s := S512) (t := S1) rfl _ 0 k (word_toInt hk) (by show k + 1 ≤ 512; omega)
  have hi : ∀ a : Fin 512, a.val = k → n (ix1 a) = BitVec.ofNat 32 k := fun a ha => by rw [hn, ha]
  exact hi _ h0

theorem fromEnd_read (k : ℕ) (hk : k < 512) : fromEnd (fun _ => BitVec.ofNat 32 k) = fun _ => BitVec.ofNat 32 k := by
  funext j
  obtain rfl : j = ix0 := Subsingleton.elim _ _
  have hn : ¬ IntOp.cmpi .slt (BitVec.ofNat 32 k) 0#32 = 1#1 := by
    rw [IntOp.cmpi_slt, word_toInt hk]
    simp
  exact if_neg hn

theorem overlapsOf_read (o : FVec Ideal S512x512 .f32) (k : Fin 512) (l : Fin 512) :
    overlapsOf o (fun _ => BitVec.ofNat 32 k.val) (ix1 l) = o (ix2 k l) := by
  unfold overlapsOf
  rw [fromEnd_read k.val k.isLt]
  have e0 : fromEnd (constantI S_ 32 0#32) = fun _ => BitVec.ofNat 32 0 := fromEnd_read 0 (by norm_num)
  rw [e0]
  pointwise
  refine congrArg o ?_
  have h0 : ∀ hh, Host.clampedStart S512x512 S1x512 hh
      (fun k_1 => ((![fun _ => BitVec.ofNat 32 k.val, fun _ => BitVec.ofNat 32 0] : Fin 2 → IVec S_ 32) k_1 (Shape.Idx.first h_S_)).toInt) 0 = k.val :=
    fun hh => Host.clampedStart_of_le (s := S512x512) (t := S1x512) _ _ 0 k.val (word_toInt k.isLt) (by show k.val + 1 ≤ 512; omega)
  have h1 : ∀ hh, Host.clampedStart S512x512 S1x512 hh
      (fun k_1 => ((![fun _ => BitVec.ofNat 32 k.val, fun _ => BitVec.ofNat 32 0] : Fin 2 → IVec S_ 32) k_1 (Shape.Idx.first h_S_)).toInt) 1 = 0 :=
    fun hh => Host.clampedStart_of_le (s := S512x512) (t := S1x512) _ _ 1 0 (word_toInt (n := 0) (by norm_num)) (by show 0 + 512 ≤ 512; omega)
  have hi : ∀ a b a' b' : Fin 512, a = a' → b = b' → ix2 a b = ix2 a' b' := fun a b a' b' e e' => by rw [e, e']
  exact hi _ _ _ _ (Fin.ext (h0 rfl)) (Fin.ext ((congrArg (· + l.val) (h1 rfl)).trans (Nat.zero_add _)))

theorem beaten_read (n : IVec S512 32) (hn : ∀ j : Fin 512, n (ix1 j) = BitVec.ofNat 32 j.val) (o : FVec Ideal S512x512 .f32)
    (keep : IVec S512 1) (K : Fin 512 → Prop) (hK : ∀ j, keep (ix1 j) = BitVec.ofBool (decide (K j))) (k : Fin 512) :
    beaten n o (fun _ => BitVec.ofNat 32 k.val) keep ix0 = BitVec.ofBool (decide (∃ l : Fin 512, K l ∧ l.val < k.val ∧ most < o (ix2 k l))) := by
  have e := overlapsOf_read o k
  unfold beaten
  generalize overlapsOf o (fun _ => BitVec.ofNat 32 k.val) = v at e ⊢
  pointwise
  have f : ∀ l : Fin 512, IntOp.andi (IntOp.andi (keep (ix1 l)) (IntOp.cmpi .slt (n (ix1 l)) (BitVec.ofNat 32 k.val)))
      (BitVec.ofBool (decide (Ideal.ofBits .f32 1053609165#32 < v (ix1 l)))) = BitVec.ofBool (decide (K l ∧ l.val < k.val ∧ most < o (ix2 k l))) := by
    intro l
    have hw : IntOp.cmpi .slt (n (ix1 l)) (BitVec.ofNat 32 k.val) = BitVec.ofBool (decide (l.val < k.val)) := by
      rw [hn]
      show BitVec.ofBool (BitVec.slt (BitVec.ofNat 32 l.val) (BitVec.ofNat 32 k.val)) = _
      unfold BitVec.slt
      rw [word_toInt l.isLt, word_toInt k.isLt]
      refine congrArg BitVec.ofBool (decide_eq_decide.2 ?_)
      exact Int.ofNat_lt
    have b : ∀ x y : Bool, IntOp.andi (BitVec.ofBool x) (BitVec.ofBool y) = BitVec.ofBool (x && y) := by decide
    rw [hK, hw, e, b, b]
    refine congrArg BitVec.ofBool ?_
    rw [Bool.eq_iff_iff]
    simp only [Bool.and_eq_true, decide_eq_true_eq, and_assoc]
    rfl
  refine (congrArg (fun g => Finset.fold IntOp.ori 0#1 g Finset.univ) (funext f)).trans ((fold_or _ _).trans ?_)
  refine congrArg BitVec.ofBool (decide_eq_decide.2 ?_)
  simp only [Finset.mem_univ, true_and]

theorem setFlag_read (n : IVec S512 32) (hn : ∀ j : Fin 512, n (ix1 j) = BitVec.ofNat 32 j.val) (o : FVec Ideal S512x512 .f32)
    (keep : IVec S512 1) (K : Fin 512 → Prop) (hK : ∀ j, keep (ix1 j) = BitVec.ofBool (decide (K j))) (k : Fin 512) (j : Fin 512) :
    setFlag n o (fun _ => BitVec.ofNat 32 k.val) keep (ix1 j) = BitVec.ofBool (decide
      (if j.val = k.val then ¬ ∃ l : Fin 512, K l ∧ l.val < k.val ∧ most < o (ix2 k l) else K j)) := by
  have e := beaten_read n hn o keep K hK k
  unfold setFlag
  rw [fromEnd_read k.val k.isLt]
  have hu : ∀ u : S_.Idx, noti (beaten n o (fun _ => BitVec.ofNat 32 k.val) keep) u = BitVec.ofBool (decide (¬ ∃ l : Fin 512, K l ∧ l.val < k.val ∧ most < o (ix2 k l))) := by
    intro u
    obtain rfl : u = ix0 := Subsingleton.elim _ _
    show ~~~ (beaten n o (fun _ => BitVec.ofNat 32 k.val) keep ix0) = _
    rw [e]
    by_cases hh : ∃ l : Fin 512, K l ∧ l.val < k.val ∧ most < o (ix2 k l) <;> simp only [hh, not_true, not_false_eq_true, decide_true, decide_false] <;> rfl
  have hres : ∀ (u : S_.Idx) (i : Fin 512), scatter_S512_S1_S__n_0_0_0.resultIdx? u (broadcastInDim S1 ![] bcast_S_S1 (fun _ : S_.Idx => BitVec.ofNat 32 k.val)) = some (ix1 i) ↔ i.val = k.val := by
    intro u i
    have hs : ∀ a, scatter_S512_S1_S__n_0_0_0.start u (broadcastInDim S1 ![] bcast_S_S1 (fun _ : S_.Idx => BitVec.ofNat 32 k.val)) a = k.val := fun a => by
      fin_cases a
      exact word_toInt k.isLt
    have hw : ∀ a, scatter_S512_S1_S__n_0_0_0.window u a = 0 := fun a => by
      fin_cases a
      rfl
    unfold ScatterDims.resultIdx?
    rw [dif_pos (fun a => by rw [hs, hw]; fin_cases a; show 0 ≤ (k.val : ℤ) + 0 ∧ (k.val : ℤ) + 0 < (512 : ℕ); omega)]
    constructor
    · intro hh
      have := congrFun (Option.some.inj hh) (0 : Fin 1)
      have := congrArg Fin.val this
      dsimp only at this
      rw [hs, hw] at this
      have t : ((k.val : ℤ) + (0 : ℕ)).toNat = i.val := this
      omega
    · intro hh
      refine congrArg some (funext fun a => ?_)
      fin_cases a
      refine Fin.ext ?_
      dsimp only
      rw [hs, hw]
      show ((k.val : ℤ) + (0 : ℕ)).toNat = i.val
      omega
  by_cases hj : j.val = k.val
  · refine (Routing.scatter_set_hit _ _ _ _ _ _ (fun u _ => hu u) ix0 ((hres ix0 j).2 hj)).trans (congrArg BitVec.ofBool (decide_eq_decide.2 ?_))
    rw [if_pos hj]
  · refine ((Routing.scatter_set_miss _ _ _ _ _ (fun u hh => hj ((hres u j).1 hh))).trans (hK j)).trans (congrArg BitVec.ofBool (decide_eq_decide.2 ?_))
    rw [if_neg hj]

end Cert.Reference2Ideal.Select

end
-- ==== Proof.SelectRefValue.lean ====
/-
  The reference's result over the extended reals: each row is the box of the position of rank `r`, and its score if the
  greedy pass keeps the box and the box is large enough.
-/
module

public import proofs.«01_k».proof.Proof.SelectRefLoop

@[expose] public section

set_option maxRecDepth 16384

noncomputable section

open scoped Classical

namespace Cert.Reference2Ideal.Select

open Idealize.ShloMosaic Idealize.ShloMosaic.TcCoe Idealize.ShloMosaic.WordCmp Idealize.ShloMosaic.StableHlo
open Cert.Reference2Ideal Cert.Reference2Ideal.Gen Cert.Reference2Ideal.Value Cert.Rank Cert.Nms
open Cert.Kernel2Ideal.Select (D tiny most Scores Labelled cellOut)

variable (m : (ℓ : Loc nD τ sig) → Buf (Elt Ideal) ℓ) (c : Dev nD)

/-- The program's two arguments. -/
abbrev arg0 : Vec Ideal S8x20480 .f32 := m ((c : Thread nD τ).loc main_arg0)
abbrev arg1 : Vec Ideal S20x1x1024 .f32 := m ((c : Thread nD τ).loc main_arg1)

/-! ## Before the loop -/

abbrev V1 : Valuation τ sig (Elt Ideal) := after hostOps0 (launchContents m c)
abbrev V2 : Valuation τ sig (Elt Ideal) := after hostOps0_1 (V1 m c)
abbrev V3 : Valuation τ sig (Elt Ideal) := after hostOps0_2 (V2 m c)
abbrev V4 : Valuation τ sig (Elt Ideal) := after hostOps0_3 (V3 m c)
abbrev V5 : Valuation τ sig (Elt Ideal) := after hostOps0_4 (V4 m c)

theorem entry_eq : entryContents preI m c = V5 m c := by
  simp only [entryContents, preI, afterL_cons, afterL_nil]

theorem V2_scored : V2 m c (Proc.devRef .tc main_v6) = scored (arg1 m c) := by
  unfold V2
  rw [line_scored]
  unfold V1
  rw [line_points, line_reached, line_least]
  rfl
theorem V2_arg0 : V2 m c (Proc.devRef .tc main_arg0) = arg0 m c :=
  (after_of_writes_sub hostOps0_1 _ hostOps0_1_writes (by decide)).trans ((after_of_writes_sub hostOps0 _ hostOps0_writes (by decide)).trans rfl)
theorem V3_values : V3 m c (Proc.devRef .tc main_values) = values (arg1 m c) := by
  unfold V3
  rw [line_values, V2_scored]
  rfl
theorem V3_boxes : V3 m c (Proc.devRef .tc main_v15) = boxesAt (arg0 m c) (places (arg1 m c)) := by
  unfold V3
  rw [line_boxes, V2_scored, V2_arg0]
  rfl
theorem V4_boxes : V4 m c (Proc.devRef .tc main_v15) = boxesAt (arg0 m c) (places (arg1 m c)) :=
  (after_of_writes_sub hostOps0_3 _ hostOps0_3_writes (by decide)).trans (V3_boxes m c)
theorem V4_finite : V4 m c (Proc.devRef .tc main_v19) = finite (values (arg1 m c)) := by
  unfold V4
  rw [line_finite, V3_values]
  unfold V3
  rw [line_below, line_zero, V2_scored]
  rfl
theorem V5_boxes : V5 m c (Proc.devRef .tc main_v15) = boxesAt (arg0 m c) (places (arg1 m c)) :=
  (after_of_writes_sub hostOps0_4 _ hostOps0_4_writes (by decide)).trans (V4_boxes m c)
theorem V5_finite : V5 m c (Proc.devRef .tc main_v19) = finite (values (arg1 m c)) :=
  (after_of_writes_sub hostOps0_4 _ hostOps0_4_writes (by decide)).trans (V4_finite m c)
theorem V5_overlaps : V5 m c (Proc.devRef .tc main_v65_2) = overlaps (boxesAt (arg0 m c) (places (arg1 m c))) := by
  unfold V5
  rw [line_overlaps, V4_boxes]
  rfl

/-! ## The loop -/

/-- What holds before the trip `k`. -/
structure Before (b : Vec Ideal S8x20480 .f32) (s : Vec Ideal S20x1x1024 .f32) (k : ℕ) (V : Valuation τ sig (Elt Ideal)) : Prop where
  boxes : V (Proc.devRef .tc main_v15) = boxesAt b (places s)
  score : V (Proc.devRef .tc main_v19) = finite (values s)
  first : V (Proc.devRef .tc main_v65_0) = iotaInDim S512 32 0
  second : V (Proc.devRef .tc main_v65_1) = iotaInDim S512 32 0
  over : V (Proc.devRef .tc main_v65_2) = overlaps (boxesAt b (places s))
  count : V (Proc.devRef .tc main_v65_3) = fun _ => BitVec.ofNat 32 k
  keep : ∀ j : Fin 512, (V (Proc.devRef .tc main_v65_4) : IVec S512 1) (ix1 j) = BitVec.ofBool (decide (keeps most (fun a b => Cert.Nms.over tiny (D (arg0 m c) (arg1 m c) a) (D (arg0 m c) (arg1 m c) b)) k j))

theorem entry_before : Before m c (arg0 m c) (arg1 m c) 0 (V5 m c) where
  boxes := V5_boxes m c
  score := V5_finite m c
  first := line_first _
  second := line_second _
  over := V5_overlaps m c
  count := line_count _
  keep j := by
    unfold V5
    rw [line_keep]
    have : ¬ keeps most (fun a b => Cert.Nms.over tiny (D (arg0 m c) (arg1 m c) a) (D (arg0 m c) (arg1 m c) b)) 0 j := id
    rw [decide_eq_false this]
    rfl

theorem cond_before {b s} {k : ℕ} {V : Valuation τ sig (Elt Ideal)} (h : Before m c b s k V) : Before m c b s k (after condOps V) where
  boxes := (after_of_writes_sub condOps _ condOps_writes (by decide)).trans h.boxes
  score := (after_of_writes_sub condOps _ condOps_writes (by decide)).trans h.score
  first := (after_of_writes_sub condOps _ condOps_writes (by decide)).trans h.first
  second := (after_of_writes_sub condOps _ condOps_writes (by decide)).trans h.second
  over := (after_of_writes_sub condOps _ condOps_writes (by decide)).trans h.over
  count := (after_of_writes_sub condOps _ condOps_writes (by decide)).trans h.count
  keep j := (congrFun (after_of_writes_sub condOps _ condOps_writes (by decide)) _).trans (h.keep j)

theorem body_keeps (V : Valuation τ sig (Elt Ideal)) (r : Ref sig .tc) (h0 : r ∉ while0Ops0_W) (h1 : r ∉ while0Ops0_1_W) :
    afterL bodyI V (Proc.devRef .tc r) = V (Proc.devRef .tc r) := by
  simp only [bodyI, afterL_cons, afterL_nil]
  exact (after_of_writes_sub while0Ops0_1 _ while0Ops0_1_writes h1).trans (after_of_writes_sub while0Ops0 _ while0Ops0_writes h0)

theorem trip_before (h : Scores (arg1 m c)) (hl : Labelled (arg0 m c) (arg1 m c)) {k : ℕ} (hk : k < 512) {V : Valuation τ sig (Elt Ideal)}
    (hV : Before m c (arg0 m c) (arg1 m c) k V) : Before m c (arg0 m c) (arg1 m c) (k + 1) (afterL bodyI V) where
  boxes := (body_keeps V _ (by decide) (by decide)).trans hV.boxes
  score := (body_keeps V _ (by decide) (by decide)).trans hV.score
  first := (trip_main_v65_0 V).trans hV.first
  second := (trip_main_v65_1 V).trans hV.second
  over := (trip_main_v65_2 V).trans hV.over
  count := by
    refine (trip_main_v65_3 V).trans ?_
    rw [hV.count]
    funext j
    show BitVec.ofNat 32 k + 1#32 = BitVec.ofNat 32 (k + 1)
    exact (BitVec.ofNat_add k 1).symm
  keep j := by
    rw [trip_flags, hV.first, hV.second, hV.over, hV.count]
    have hn : ∀ j : Fin 512, (iotaInDim S512 32 0 : IVec S512 32) (ix1 j) = BitVec.ofNat 32 j.val := fun j => rfl
    refine (congrArg (fun w : IVec S_ 32 => setFlag _ _ w _ (ix1 j)) (boxNumber_read k hk _ hn)).trans ?_
    refine (setFlag_read _ hn _ _ _ hV.keep ⟨k, hk⟩ j).trans (congrArg BitVec.ofBool (decide_eq_decide.2 ?_))
    simp only [overlaps_read _ (D (arg0 m c) (arg1 m c)) (fun r c' => box_read h r c')]
    by_cases hj : j.val = k
    · have : j = ⟨k, hk⟩ := Fin.ext hj
      subst this
      simp only [keeps, if_true]
    · simp only [keeps, if_neg hj]

theorem atTrip_before (h : Scores (arg1 m c)) (hl : Labelled (arg0 m c) (arg1 m c)) : ∀ k ≤ 512,
    Before m c (arg0 m c) (arg1 m c) k (atTrip condOps bodyI (entryContents preI m) k c)
  | 0, _ => by
    show Before m c _ _ 0 (entryContents preI m c)
    rw [entry_eq]
    exact entry_before m c
  | k + 1, hk => trip_before m c h hl hk (cond_before m c (atTrip_before h hl k (by omega)))

/-- The reference's result. -/
theorem value_read (h : Scores (arg1 m c)) (hl : Labelled (arg0 m c) (arg1 m c)) (j : Fin 512) (a : Fin 7) :
    (finalContents condOps preI bodyI postI 512 m c (Proc.devRef .tc main_v76) : FVec Ideal S512x7 .f32) (ix2 j a)
      = cellOut (D (arg0 m c) (arg1 m c)) (keeps most (fun a b => Cert.Nms.over tiny (D (arg0 m c) (arg1 m c) a) (D (arg0 m c) (arg1 m c) b)) 512) j a := by
  have hV := cond_before m c (atTrip_before m c h hl 512 le_rfl)
  unfold finalContents
  simp only [postI, afterL_cons, afterL_nil]
  rw [line_rows, hV.boxes, hV.score]
  exact rows_read _ _ (fun r c' => box_read h r c') _ (fun r => score_read h hl r) _ _ hV.keep j a

end Cert.Reference2Ideal.Select

end
-- ==== Proof.SelectClaims.lean ====
/-
  The second call's claims: the frames of its program and of its reference, and the equation between their results.
-/
module

public import proofs.«01_k».proof.Proof.SelectFrame
public import proofs.«01_k».proof.Proof.SelectRun
public import proofs.«01_k».proof.Proof.SelectPre
public import proofs.«01_k».proof.Proof.SelectRefValue

@[expose] public section

set_option maxRecDepth 16384

noncomputable section

open scoped Classical

namespace Cert.Reference2Ideal.Select

open Idealize.ShloMosaic Idealize.ShloMosaic.TcCoe Idealize.ShloMosaic.StableHlo Idealize.SL.Sem
open Cert.Reference2Ideal Cert.Reference2Ideal.Gen Cert.Reference2Ideal.Value

variable (m : (ℓ : Loc nD τ sig) → Buf (Elt Ideal) ℓ) (ρ : Dev nD → PrngReg) (c : Dev nD)

/-! ## What no line writes -/

/-- What the lines after the loop write. -/
abbrev last_W : List (Ref sig .tc) := [main_v66, main_v67, main_v68, main_cst_10, main_v69, main_v70, main_c_11, main_v71, main_v72, main_v73, main_v74, main_v75, main_v76]
theorem last_writes : (hostOps0_5 : List (HloOp τ sig (Elt Ideal))).Forall fun op => op.writes ⊆ (last_W.map (Proc.devRef (τ := τ) .tc)).toFinset :=
  forall_writes_sub_of_map rfl

theorem entry_keeps (r : Ref sig .tc) (h0 : r ∉ hostOps0_W) (h1 : r ∉ hostOps0_1_W) (h2 : r ∉ hostOps0_2_W)
    (h3 : r ∉ hostOps0_3_W) (h4 : r ∉ hostOps0_4_W) :
    entryContents preI m c (Proc.devRef .tc r) = launchContents m c (Proc.devRef .tc r) := by
  rw [entry_eq]
  exact (after_of_writes_sub hostOps0_4 _ hostOps0_4_writes h4).trans <|
    (after_of_writes_sub hostOps0_3 _ hostOps0_3_writes h3).trans <|
    (after_of_writes_sub hostOps0_2 _ hostOps0_2_writes h2).trans <|
    (after_of_writes_sub hostOps0_1 _ hostOps0_1_writes h1).trans (after_of_writes_sub hostOps0 _ hostOps0_writes h0)

theorem trips_keep (r : Ref sig .tc) (hc : r ∉ condOps_W) (h0 : r ∉ while0Ops0_W) (h1 : r ∉ while0Ops0_1_W) :
    ∀ k, atTrip condOps bodyI (entryContents preI m) k c (Proc.devRef .tc r) = entryContents preI m c (Proc.devRef .tc r)
  | 0 => rfl
  | k + 1 => (body_keeps _ r h0 h1).trans ((after_of_writes_sub condOps _ condOps_writes hc).trans (trips_keep r hc h0 h1 k))

theorem final_keeps (r : Ref sig .tc) (h0 : r ∉ hostOps0_W) (h1 : r ∉ hostOps0_1_W) (h2 : r ∉ hostOps0_2_W)
    (h3 : r ∉ hostOps0_3_W) (h4 : r ∉ hostOps0_4_W) (hc : r ∉ condOps_W) (b0 : r ∉ while0Ops0_W) (b1 : r ∉ while0Ops0_1_W)
    (hp : r ∉ last_W) :
    finalContents condOps preI bodyI postI 512 m c (Proc.devRef .tc r) = m ((c : Thread nD τ).loc r) := by
  unfold finalContents
  simp only [postI, afterL_cons, afterL_nil]
  exact (after_of_writes_sub hostOps0_5 _ last_writes hp).trans <| (after_of_writes_sub condOps _ condOps_writes hc).trans <|
    (trips_keep m c r hc b0 b1 512).trans <| (entry_keeps m c r h0 h1 h2 h3 h4).trans rfl

/-- The reference runs: its result is the contents after all its lines, its arguments are unchanged. -/
theorem run : θ_run defs (onTc (τ := τ) (main (F := Ideal))) ⟨m, fun _ => 0, ρ⟩ (fun r => ∀ c : Dev nD,
      r.2.mem ((c.tc : Thread nD τ).loc main_v76) = finalContents condOps preI bodyI postI 512 m c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v76 rfl,
    (h c main_arg0 rfl).trans (final_keeps m c main_arg0 (by decide) (by decide) (by decide) (by decide) (by decide) (by decide) (by decide) (by decide) (by decide)),
    (h c main_arg1 rfl).trans (final_keeps m c main_arg1 (by decide) (by decide) (by decide) (by decide) (by decide) (by decide) (by decide) (by decide) (by decide))⟩)
    (run_fold (F := Ideal) m ρ)

end Cert.Reference2Ideal.Select

namespace Cert.SelectClaims

open Idealize.ShloMosaic Idealize.ShloMosaic.TcCoe Idealize.SL.Sem

/-! ## The frames -/

theorem frame_kernel : Cert.quiescent_Kernel2 := fun m ρ _ => Cert.Kernel2.Select.frame m ρ

theorem frame_ideal : Cert.quiescent_Kernel2Ideal := fun m ρ _ =>
  (θ_run Cert.Kernel2Ideal.defs _ _).mono (fun _ h => ⟨fun c => (h.1 c).2, h.2⟩) (Cert.Kernel2Ideal.Select.run_value m ρ)

theorem frame_ideal_pre : Cert.quiescent_Kernel2Ideal_pre_from_first_call := fun m ρ _ => frame_ideal m ρ trivial

theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Select.run m ρ)

theorem frame_reference_pre : Cert.quiescent_Reference2Ideal_pre_from_first_call := fun m ρ _ => frame_reference m ρ trivial

/-! ## The value -/

/-- Over the extended reals the selection and suppression of the call is the reference's. -/
theorem algebraic : Cert.algebraic_Kernel2Ideal_Reference2Ideal_pre_from_first_call := by
  intro m ρ m' ρ' hpre hagree
  refine ⟨fun c => Cert.Kernel2Ideal.Select.outOf m c,
    (θ_run Cert.Kernel2Ideal.defs _ _).mono (fun _ h => h.1) (Cert.Kernel2Ideal.Select.run_value m ρ), ?_⟩
  refine (θ_run Cert.Reference2Ideal.defs _ _).mono (fun _ h c => ⟨(h c).1.trans ?_, (h c).2⟩)
    (Cert.Reference2Ideal.Select.run m' ρ')
  obtain ⟨e0, e1⟩ := hagree c
  have hs := scores_of_pre (hpre c)
  have ha := apart_of_pre (hpre c)
  have hl := labelled_of_pre (hpre c)
  have a0 : Cert.Reference2Ideal.Select.arg0 m' c = m ((c : Thread Cert.Kernel2Ideal.nD Cert.Kernel2Ideal.τ).loc Cert.Kernel2Ideal.main_arg0) := e0
  have a1 : Cert.Reference2Ideal.Select.arg1 m' c = m ((c : Thread Cert.Kernel2Ideal.nD Cert.Kernel2Ideal.τ).loc Cert.Kernel2Ideal.main_arg1) := e1
  funext i
  obtain ⟨j, a, rfl⟩ : ∃ (j : Fin 512) (a : Fin 7), i = ix2 j a := ⟨i 0, i 1, eq_ix2 i⟩
  refine (Cert.Reference2Ideal.Select.value_read m' c (a1 ▸ hs) (by rw [a0, a1]; exact hl) j a).trans ?_
  rw [a0, a1]
  exact (Cert.Kernel2Ideal.Select.out_read hs ha hl j a).symm

end Cert.SelectClaims

end
-- ==== Proof.WholePoint.lean ====
/-
  The point head inside the whole kernel's program, run over the extended reals: the same body and the same host
  preparation as the call by itself, its two arrays the table and the scores of the arguments.
-/
module

public import proofs.«01_k».proof.Proof.Final
public import proofs.«01_k».proof.Proof.Gen.WholeIdeal.Regions
public import proofs.«01_k».proof.Proof.Gen.WholeIdeal.Points
public import proofs.«01_k».proof.Proof.Gen.WholeIdeal.Skeleton
public import Idealize.ShloMosaic.Lib.Pipeline.FrameBody
public import Idealize.ShloMosaic.Lib.Pipeline.Frame
public import Idealize.ShloMosaic.Lib.Pipeline.Value

@[expose] public section

set_option maxRecDepth 16384

noncomputable section

namespace Cert.WholeIdeal.PointHead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.WholeIdeal Cert.WholeIdeal.Gen Cert.Point
open Cert.KernelIdeal.PointHead (ballOut confOut ball_covers conf_covers lane ballOut_apply confOut_apply set_origin conf_idx mem_of_emb pad)

section
variable {F : FTy → Type} [FloatOps F]

local notation "𝕄" => MT nD τ sig Unit (Elt F) ℕ (UR sig nD τ) ℕ

/-! ## The body -/

set_option maxHeartbeats 1000000 in
/-- The body on whole staging memrefs: the inputs are kept, the outputs end at `ballOut` and `confOut` of them. -/
theorem body_spec (c : Dev nD) (E : Set ℕ) (i : grid0.Coords)
    (a1 : Memref sig .tc .vmem S1024x128 .f32) (h1 : a1.IsWhole) (a2 : Memref sig .tc .vmem S128x128 .f32) (h2 : a2.IsWhole)
    (a3 : Memref sig .tc .vmem S16x128 .f32) (h3 : a3.IsWhole) (a4 : Memref sig .tc .vmem S8x1024 .f32) (h4 : a4.IsWhole)
    (a5 : Memref sig .tc .vmem S8x1024 .f32) (h5 : a5.IsWhole) (a6 : Memref sig .tc .vmem S1x1x1024 .f32) (h6 : a6.IsWhole)
    (x : Vec F S1024x128 .f32) (w1 : Vec F S128x128 .f32) (w2 : Vec F S16x128 .f32) (ct : Vec F S8x1024 .f32) (K : PUnit → sProp 𝕄) :
    iprop(owns (c : Thread nD τ) a1 fullShare x ∗ owns (c : Thread nD τ) a2 fullShare w1 ∗ owns (c : Thread nD τ) a3 fullShare w2
        ∗ owns (c : Thread nD τ) a4 fullShare ct ∗ (∃ d, owns (c : Thread nD τ) a5 fullShare d) ∗ (∃ d, owns (c : Thread nD τ) a6 fullShare d)
        ∗ (iprop(owns (c : Thread nD τ) a1 fullShare x ∗ owns (c : Thread nD τ) a2 fullShare w1 ∗ owns (c : Thread nD τ) a3 fullShare w2
            ∗ owns (c : Thread nD τ) a4 fullShare ct ∗ owns (c : Thread nD τ) a5 fullShare (ballOut i x w1 w2 ct)
            ∗ owns (c : Thread nD τ) a6 fullShare (confOut i x w1 w2)) -∗ K ⟨⟩))
      ⊢ wp frame (wpE (defs₀ (F := F)) Variants.none c none) E (cc0__mlp_kernel i a1 h1 a2 h2 a3 h3 a4 h4 a5 h5 a6 h6) K := by
  simp only [cc0__mlp_kernel_eq_skeleton]; unfold cc0__mlp_kernel_skel
  simp only [k0_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (ball_covers _)
  iexists _; isplitr
  swap; · iexact H6
  ipureintro
  exact View.read_writes_eq_canon _ _ _ (conf_covers _)

end

variable (m : (ℓ : Loc nD τ sig) → Buf (Elt Ideal) ℓ)

/-- The unscoped buffers before the call. -/
abbrev V (c : Dev nD) : Valuation τ sig (Elt Ideal) := V1 m c
theorem V_main_arg0 (c : Dev nD) : V m c main_arg0 = m ((c : Thread nD τ).loc main_arg0) := (V1_of m c main_arg0 (by decide)).trans rfl

/-- Window `w`'s block at point `t`. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

theorem before0_1_of {c : Dev nD} (dat : Dat τ (Elt Ideal) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt Ideal) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt Ideal) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The features' buffer -/

/-- `x`'s staging buffer after point `t`'s fetch over contents `d`: the block's rows inside the array, `d` past its end. -/
def xbuf (c : Dev nD) (t : Fin cfg0.N) (d : S1024x128.Idx → Elt Ideal .f32) : S1024x128.Idx → Elt Ideal .f32 :=
  (cfg0.win 0).fill (cfg0.grid.coords t) d (iblk m c 0 t)

theorem coords_val : ∀ t : Fin cfg0.N, (grid0.coords t 0).val = t.val := by decide +kernel

/-- How many rows of block `t` lie inside the array. -/
theorem xsize_rows : ∀ t : Fin cfg0.N, (cfg0.win 0).xsize (cfg0.grid.coords t) 0 = min 1024 (20000 - 1024 * t.val) := by decide +kernel
theorem xsize_cols : ∀ t : Fin cfg0.N, (cfg0.win 0).xsize (cfg0.grid.coords t) 1 = 128 := by decide +kernel

theorem xindex_rows : ∀ t : Fin cfg0.N, (cfg0.win 0).index t 0 = t.val := by decide +kernel
theorem xindex_cols : ∀ t : Fin cfg0.N, (cfg0.win 0).index t 1 = 0 := by decide +kernel

/-- A row of the buffer that lies inside the array is the array's row, whatever the buffer held. -/
theorem xbuf_apply (c : Dev nD) (t : Fin cfg0.N) (d) (l : Fin 1024) (e : Fin 128) (h : 1024 * t.val + l.val < 20000) :
    xbuf m c t d (ix2 l e) = m ((c : Thread nD τ).loc main_arg0) (ix2 (⟨1024 * t.val + l.val, h⟩ : Fin 20000) e) := by
  have hm : (cfg0.win 0).moved (cfg0.grid.coords t) (ix2 l e) = true := by
    rw [Window.moved_iff]
    intro a; fin_cases a
    · show l.val < (cfg0.win 0).xsize (cfg0.grid.coords t) 0
      rw [xsize_rows]; have := l.isLt; omega
    · show e.val < (cfg0.win 0).xsize (cfg0.grid.coords t) 1
      rw [xsize_cols]; exact e.isLt
  unfold xbuf Window.fill
  rw [dif_pos hm, ← V_main_arg0 m c]
  refine congrArg (V m c main_arg0) (?_ : ((cfg0.win 0).rect t).emb _ = _)
  funext a; apply Fin.ext
  refine (Window.rect_emb_val (cfg0.win 0) t _ a rfl).trans ?_
  fin_cases a
  · refine (congrArg (· * 1024 + l.val) (xindex_rows t)).trans ?_
    show t.val * 1024 + l.val = 1024 * t.val + l.val
    omega
  · refine (congrArg (· * 128 + e.val) (xindex_cols t)).trans ?_
    show 0 * 128 + e.val = e.val
    omega

/-- A lane whose point lies inside the array does not depend on what the buffer held. -/
theorem lane_xbuf (c : Dev nD) (t : Fin cfg0.N) (d) (w1 w2) (r : Fin 16) (l : Fin 1024) (h : 1024 * t.val + l.val < 20000) :
    lane (xbuf m c t d) w1 w2 r l
      = head (fun e => m ((c : Thread nD τ).loc main_arg0) (ix2 (⟨1024 * t.val + l.val, h⟩ : Fin 20000) e)) (fun k e => w1 (ix2 k e)) (fun k => w2 (ix2 r k)) := by
  unfold lane
  congr 1
  funext e
  exact xbuf_apply m c t d l e h

theorem ballOut_xbuf (c : Dev nD) (t : Fin cfg0.N) (d) (w1 w2 ct) :
    ballOut (grid0.coords t) (xbuf m c t d) w1 w2 ct = ballOut (grid0.coords t) (xbuf m c t pad) w1 w2 ct := by
  funext j
  obtain ⟨r, l, rfl⟩ : ∃ (r : Fin 8) (l : Fin 1024), j = ix2 r l := ⟨j 0, j 1, eq_ix2 j⟩
  rw [ballOut_apply, ballOut_apply]
  by_cases h : 1024 * (grid0.coords t 0).val + l.val < 20000
  · rw [if_pos h, if_pos h]
    rw [coords_val] at h
    simp only [lane_xbuf m c t _ w1 w2 _ _ h]
  · rw [if_neg h, if_neg h]

theorem confOut_xbuf (c : Dev nD) (t : Fin cfg0.N) (d) (w1 w2) :
    confOut (grid0.coords t) (xbuf m c t d) w1 w2 = confOut (grid0.coords t) (xbuf m c t pad) w1 w2 := by
  funext j
  obtain ⟨l, rfl⟩ := conf_idx j
  rw [confOut_apply, confOut_apply]
  by_cases h : 1024 * (grid0.coords t 0).val + l.val < 20000
  · rw [if_pos h, if_pos h]
    rw [coords_val] at h
    simp only [lane_xbuf m c t _ w1 w2 _ _ h]
  · rw [if_neg h, if_neg h]

/-- The body table's row at point `t`'s slots is the body as `bodyAt0` spells it. -/
theorem body_row (t : Fin cfg0.N) :
    defs₀ (F := Ideal) .tc cfg0.body (cfg0.bodyArgs t (cfg0.slots t)) = bodyAt0 t := by
  unfold defs₀; rw [Defs.onTc_tc]

/-! ## The proof data -/

def dats (c : Dev nD) : Dat τ (Elt Ideal) Unit ℕ (UR sig nD τ) ℕ cfg0 c where
  A w := V m c (Pipeline.arrRef spec0 w)
  after w t := match w with
    | ⟨0, _⟩ => xbuf m c t pad
    | ⟨1, _⟩ => iblk m c 1 t
    | ⟨2, _⟩ => iblk m c 2 t
    | ⟨3, _⟩ => iblk m c 3 t
    | ⟨4, _⟩ => ballOut (grid0.coords t) (xbuf m c t pad) (iblk m c 1 t) (iblk m c 2 t) (iblk m c 3 t)
    | ⟨5, _⟩ => confOut (grid0.coords t) (xbuf m c t pad) (iblk m c 1 t) (iblk m c 2 t)
  Φ _ := Pipeline.ΦA spec0 c
  q _ := fullShare
  owed _ := 0

theorem dats_A (c : Dev nD) (w : Fin cfg0.W) : (dats m c).A w = V m c (Pipeline.arrRef spec0 w) := by dsimp only [dats]
theorem after_0 (c : Dev nD) (t : Fin cfg0.N) : (dats m c).after 0 t = xbuf m c t pad := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t
    = ballOut (grid0.coords t) (xbuf m c t pad) (iblk m c 1 t) (iblk m c 2 t) (iblk m c 3 t) := by dsimp only [dats]
theorem after_5 (c : Dev nD) (t : Fin cfg0.N) : (dats m c).after 5 t
    = confOut (grid0.coords t) (xbuf m c t pad) (iblk m c 1 t) (iblk m c 2 t) := by dsimp only [dats]

/-- `x` is fetched at every point, so its buffer holds the block over whatever the buffer held before. -/
theorem before_0 (c : Dev nD) (t : Fin cfg0.N) (d) : (dats m c).before 0 t d = xbuf m c t d := by
  unfold Dat.before; rw [if_pos (fetch0_0 t)]; rfl
theorem before_1 (c : Dev nD) (t : Fin cfg0.N) (d) : (dats m c).before 1 t d = iblk m c 1 t :=
  before0_1_of m (dats m c) (dats_A m c 1) (after_1 m c) t d
theorem before_2 (c : Dev nD) (t : Fin cfg0.N) (d) : (dats m c).before 2 t d = iblk m c 2 t :=
  before0_2_of m (dats m c) (dats_A m c 2) (after_2 m c) t d
theorem before_3 (c : Dev nD) (t : Fin cfg0.N) (d) : (dats m c).before 3 t d = iblk m c 3 t :=
  before0_3_of m (dats m c) (dats_A m c 3) (after_3 m c) t d

/-- The body obligation: `x`'s buffer is handed back as fetched, the weights' and coordinates' at their blocks, the
    outputs' at the stored functions of the blocks. -/
theorem body_ok (c : Dev nD) : BodyObligationLoose (dats m c) (defs₀ (F := Ideal)) Variants.none () Set.univ := fun t => by
  rw [bigSep_W0, bigSep_W0, body_row]
  rw [show (dats m c).Φ t.succ = (dats m c).Φ t.castSucc from rfl,
    show (dats m c).owesAt () t.succ = (dats m c).owesAt () t.castSucc from rfl, after_0, after_1, after_2, after_3, after_4, after_5]
  simp only [before_0, before_1, before_2, before_3]
  unfold bodyAt0
  iintro ⟨HΦ, Ho, ⟨%d0, H0⟩, ⟨%d1, H1⟩, ⟨%d2, H2⟩, ⟨%d3, H3⟩, ⟨%d4, H4⟩, ⟨%d5, H5⟩⟩
  iapply (body_spec c Set.univ (grid0.coords t) _ _ _ _ _ _ _ _ _ _ _ _ (xbuf m c t d0) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  rw [ballOut_xbuf m c t d0, confOut_xbuf m c t d0]
  iintro ⟨H0, H1, H2, H3, H4, H5⟩
  isplitl [HΦ]; · iexact HΦ
  isplitl [Ho]; · iexact Ho
  isplitl [H0]
  · iexists d0
    rw [show (cfg0.win 0).cut (cfg0.grid.coords t) (xbuf m c t pad) = iblk m c 0 t from Window.cut_fill _ _ _ _]
    iexact H0
  isplitl [H1]; · iexact H1
  isplitl [H2]; · iexact H2
  isplitl [H3]; · iexact H3
  isplitl [H4]; · iexact H4
  iexact H5

theorem V_w1 (c : Dev nD) (k d : Fin 128) : V m c main_v6 (ix2 k d) = m ((c : Thread nD τ).loc main_arg2) (ix2 d k) := by
  have h : V m c main_v6 = transpose S128x128 [1, 0] (m ((c : Thread nD τ).loc main_arg2)) transposes_S128x128_S128x128_1_0 := by
    show StableHlo.after hostOps0 _ _ = _
    after_results
  rw [h]
  pointwise []

theorem V_w2 (c : Dev nD) (r : Fin 9) (k : Fin 128) :
    V m c main_v10 (ix2 (⟨r.val, by omega⟩ : Fin 16) k) = m ((c : Thread nD τ).loc main_arg4) (ix2 k r) := by
  have h : V m c main_v10 = Host.scatter scatter_S16x128_S1_S9x128_01_n_0_0 (fun _ b => b)
      (broadcastInDim S16x128 ![] bcast_S_S16x128 (constant (F := Ideal) S_ .f32 0x00000000#32))
      (broadcastInDim S1 ![] bcast_S_S1 (constantI S_ 32 0#32))
      (transpose S9x128 [1, 0] (m ((c : Thread nD τ).loc main_arg4)) transposes_S128x9_S9x128_1_0) := by
    show StableHlo.after hostOps0 _ _ = _
    after_results
  rw [h]
  refine (set_origin scatter_S16x128_S1_S9x128_01_n_0_0 (fun k => ⟨rfl, rfl⟩) _ _ (fun _ => rfl) _ r k _ k.isLt).trans ?_
  pointwise []

theorem V_ct (c : Dev nD) (a : Fin 3) (p : Fin 20000) :
    V m c main_v5 (ix2 (⟨a.val, by omega⟩ : Fin 8) (⟨p.val, by omega⟩ : Fin 20480)) = m ((c : Thread nD τ).loc main_arg1) (ix2 p a) := by
  have h : V m c main_v5 = Host.scatter scatter_S8x20480_S2_S3x20000_01_n_01_0 (fun _ b => b)
      (broadcastInDim S8x20480 ![] bcast_S_S8x20480 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (transpose S3x20000 [1, 0] (m ((c : Thread nD τ).loc main_arg1)) transposes_S20000x3_S3x20000_1_0) := by
    show StableHlo.after hostOps0 _ _ = _
    after_results
  rw [h]
  refine (set_origin scatter_S8x20480_S2_S3x20000_01_n_01_0 (fun k => ⟨rfl, rfl⟩) _ _ (fun i => ?_) _ a p _ _).trans ?_
  · obtain ⟨i, rfl⟩ : ∃ k : Fin 2, i = ix1 k := ⟨i 0, eq_ix1 i⟩
    fin_cases i <;> rfl
  pointwise []

/-! ## The blocks -/

theorem blk_w1 (c : Dev nD) (t : Fin cfg0.N) (k d : Fin 128) :
    iblk m c 1 t (ix2 k d) = m ((c : Thread nD τ).loc main_arg2) (ix2 d k) := by
  refine Eq.trans ?_ (V_w1 m c k d)
  refine congrArg (V m c main_v6) (?_ : ((cfg0.win 1).rect t).emb _ = _)
  funext a; apply Fin.ext
  refine (Pipeline.Window.rect_emb_val_of_index_zero (cfg0.win 1) t a ?_ _).trans ?_
  · fin_cases a <;> rfl
  · fin_cases a <;> rfl

theorem blk_w2 (c : Dev nD) (t : Fin cfg0.N) (r : Fin 9) (k : Fin 128) :
    iblk m c 2 t (ix2 (⟨r.val, by omega⟩ : Fin 16) k) = m ((c : Thread nD τ).loc main_arg4) (ix2 k r) := by
  refine Eq.trans ?_ (V_w2 m c r k)
  refine congrArg (V m c main_v10) (?_ : ((cfg0.win 2).rect t).emb _ = _)
  funext a; apply Fin.ext
  refine (Pipeline.Window.rect_emb_val_of_index_zero (cfg0.win 2) t a ?_ _).trans ?_
  · fin_cases a <;> rfl
  · fin_cases a <;> rfl

theorem ctindex_rows : ∀ t : Fin cfg0.N, (cfg0.win 3).index t 0 = 0 := by decide +kernel
theorem ctindex_cols : ∀ t : Fin cfg0.N, (cfg0.win 3).index t 1 = t.val := by decide +kernel

theorem blk_ct (c : Dev nD) (t : Fin cfg0.N) (a : Fin 3) (l : Fin 1024) (h : 1024 * t.val + l.val < 20000) :
    iblk m c 3 t (ix2 (⟨a.val, by omega⟩ : Fin 8) l) = m ((c : Thread nD τ).loc main_arg1) (ix2 (⟨1024 * t.val + l.val, h⟩ : Fin 20000) a) := by
  refine Eq.trans ?_ (V_ct m c a ⟨1024 * t.val + l.val, h⟩)
  refine congrArg (V m c main_v5) (?_ : ((cfg0.win 3).rect t).emb _ = _)
  funext b; apply Fin.ext
  refine (Pipeline.Window.rect_emb_val (cfg0.win 3) t _ b rfl).trans ?_
  fin_cases b
  · refine (congrArg (· * 8 + a.val) (ctindex_rows t)).trans ?_
    show 0 * 8 + a.val = a.val
    omega
  · refine (congrArg (· * 1024 + l.val) (ctindex_cols t)).trans ?_
    show t.val * 1024 + l.val = 1024 * t.val + l.val
    omega

/-- The table of the arguments as launched. -/
def tableOf (c : Dev nD) : FVec Ideal S8x20480 .f32 :=
  table (m ((c : Thread nD τ).loc main_arg0)) (m ((c : Thread nD τ).loc main_arg1)) (m ((c : Thread nD τ).loc main_arg2)) (m ((c : Thread nD τ).loc main_arg4))

/-- The scores of the arguments as launched. -/
def scoresOf (c : Dev nD) : FVec Ideal S20x1x1024 .f32 :=
  scores (m ((c : Thread nD τ).loc main_arg0)) (m ((c : Thread nD τ).loc main_arg2)) (m ((c : Thread nD τ).loc main_arg4))

/-! ## A lane is its point -/

theorem lane_out (c : Dev nD) (t : Fin cfg0.N) (l : Fin 1024) (h : 1024 * t.val + l.val < 20000) (j : Fin 9) :
    lane (xbuf m c t pad) (iblk m c 1 t) (iblk m c 2 t) (⟨j.val, by omega⟩ : Fin 16) l
      = out (m ((c : Thread nD τ).loc main_arg0)) (m ((c : Thread nD τ).loc main_arg2)) (m ((c : Thread nD τ).loc main_arg4)) ⟨1024 * t.val + l.val, h⟩ j := by
  rw [lane_xbuf m c t _ _ _ _ l h]
  unfold out
  congr 1
  · funext k e; exact blk_w1 m c t k e
  · funext k; exact blk_w2 m c t j k

theorem ball_lane (c : Dev nD) (t : Fin cfg0.N) (r : Fin 8) (l : Fin 1024) :
    ballOut (grid0.coords t) (xbuf m c t pad) (iblk m c 1 t) (iblk m c 2 t) (iblk m c 3 t) (ix2 r l)
      = tableAt (m ((c : Thread nD τ).loc main_arg0)) (m ((c : Thread nD τ).loc main_arg1)) (m ((c : Thread nD τ).loc main_arg2)) (m ((c : Thread nD τ).loc main_arg4))
          r (1024 * t.val + l.val) := by
  rw [ballOut_apply, coords_val]
  unfold tableAt
  by_cases h : 1024 * t.val + l.val < 20000
  · rw [if_pos h, dif_pos h]
    exact congrArg₂ (fun g co => cell g co r) (funext fun j => lane_out m c t l h j) (funext fun a => blk_ct m c t a l h)
  · rw [if_neg h, dif_neg h]

theorem conf_lane (c : Dev nD) (t : Fin cfg0.N) (l : Fin 1024) :
    confOut (grid0.coords t) (xbuf m c t pad) (iblk m c 1 t) (iblk m c 2 t) (ix3 0 0 l)
      = scoreAt (m ((c : Thread nD τ).loc main_arg0)) (m ((c : Thread nD τ).loc main_arg2)) (m ((c : Thread nD τ).loc main_arg4)) (1024 * t.val + l.val) := by
  rw [confOut_apply, coords_val]
  unfold scoreAt
  by_cases h : 1024 * t.val + l.val < 20000
  · rw [if_pos h, dif_pos h]
    exact congrArg₂ score (lane_out m c t l h 0) (lane_out m c t l h 1)
  · rw [if_neg h, dif_neg h]

/-! ## The table's array -/

theorem ball_rows : ∀ t : Fin cfg0.N, (cfg0.win 4).index t 0 = 0 := by decide +kernel
theorem ball_cols : ∀ t : Fin cfg0.N, (cfg0.win 4).index t 1 = t.val := by decide +kernel
theorem conf_major : ∀ t : Fin cfg0.N, (cfg0.win 5).index t 0 = t.val := by decide +kernel
theorem conf_mid : ∀ t : Fin cfg0.N, (cfg0.win 5).index t 1 = 0 := by decide +kernel
theorem conf_minor : ∀ t : Fin cfg0.N, (cfg0.win 5).index t 2 = 0 := by decide +kernel

/-- Entry `(r, l)` of point `t`'s block is entry `(r, 1024 t + l)` of the array. -/
theorem ball_emb (t : Fin cfg0.N) (r : Fin 8) (l : Fin 1024) (h : 1024 * t.val + l.val < 20480) :
    ((cfg0.win 4).rect t).emb (ix2 r l) = ix2 r (⟨1024 * t.val + l.val, h⟩ : Fin 20480) := by
  funext b; apply Fin.ext
  refine (Pipeline.Window.rect_emb_val (cfg0.win 4) t _ b rfl).trans ?_
  fin_cases b
  · refine (congrArg (· * 8 + r.val) (ball_rows t)).trans ?_
    show 0 * 8 + r.val = r.val
    omega
  · refine (congrArg (· * 1024 + l.val) (ball_cols t)).trans ?_
    show t.val * 1024 + l.val = 1024 * t.val + l.val
    omega

/-- Lane `l` of point `t`'s block is lane `l` of row `t` of the array. -/
theorem conf_emb (t : Fin cfg0.N) (l : Fin 1024) (h : t.val < 20) :
    ((cfg0.win 5).rect t).emb (ix3 0 0 l) = ix3 (⟨t.val, h⟩ : Fin 20) 0 l := by
  funext b; apply Fin.ext
  refine (Pipeline.Window.rect_emb_val (cfg0.win 5) t _ b rfl).trans ?_
  fin_cases b
  · refine (congrArg (· * 1 + 0) (conf_major t)).trans ?_
    show t.val * 1 + 0 = t.val
    omega
  · refine (congrArg (· * 1 + 0) (conf_mid t)).trans ?_
    rfl
  · refine (congrArg (· * 1024 + l.val) (conf_minor t)).trans ?_
    show 0 * 1024 + l.val = l.val
    omega

theorem flushed_ball (c : Dev nD) (t : Fin cfg0.N) :
    (dats m c).flushed 4 t = ((cfg0.win 4).blk t).view.read (Elt Ideal) (tableOf m c) := by
  show (cfg0.win 4).cut (grid0.coords t) ((dats m c).after 4 t) = _
  rw [after_4]
  funext y
  obtain ⟨r, l, rfl⟩ : ∃ (r : Fin 8) (l : Fin 1024), y = ix2 r l := ⟨y 0, y 1, eq_ix2 y⟩
  have ht : t.val < 20 := t.isLt
  have hl : 1024 * t.val + l.val < 20480 := by have := l.isLt; omega
  refine (ball_lane m c t r l).trans ?_
  exact (congrArg (tableOf m c) (ball_emb t r l hl)).symm

theorem flushed_conf (c : Dev nD) (t : Fin cfg0.N) :
    (dats m c).flushed 5 t = ((cfg0.win 5).blk t).view.read (Elt Ideal) (scoresOf m c) := by
  show (cfg0.win 5).cut (grid0.coords t) ((dats m c).after 5 t) = _
  rw [after_5]
  funext y
  obtain ⟨l, rfl⟩ := conf_idx y
  have ht : t.val < 20 := t.isLt
  refine (conf_lane m c t l).trans ?_
  exact (congrArg (scoresOf m c) (conf_emb t l ht)).symm

theorem cover_ball (i : S8x20480.Idx) :
    ∃ t : Fin cfg0.N, (cfg0.win 4).flush t = true ∧ i ∈ ((cfg0.win 4).blk t).view.set := by
  obtain ⟨r, p, rfl⟩ : ∃ (r : Fin 8) (p : Fin 20480), i = ix2 r p := ⟨i 0, i 1, eq_ix2 i⟩
  have hp := p.isLt
  refine ⟨⟨p.val / 1024, by show _ < 20; omega⟩, flush0_4 _, ?_⟩
  show _ ∈ ((View.whole main_v11_0).slice ((cfg0.win 4).rect _)).set
  rw [View.set_slice_whole]
  have h := ball_emb ⟨p.val / 1024, by show _ < 20; omega⟩ r ⟨p.val % 1024, by omega⟩ (by show 1024 * (p.val / 1024) + p.val % 1024 < _; omega)
  have e : ix2 r (⟨1024 * (p.val / 1024) + p.val % 1024, by omega⟩ : Fin 20480) = ix2 r p :=
    congrArg (ix2 r) (Fin.ext (by show 1024 * (p.val / 1024) + p.val % 1024 = p.val; omega))
  rw [← e]
  exact h ▸ mem_of_emb _ _

theorem cover_conf (i : S20x1x1024.Idx) :
    ∃ t : Fin cfg0.N, (cfg0.win 5).flush t = true ∧ i ∈ ((cfg0.win 5).blk t).view.set := by
  obtain ⟨a, l, rfl⟩ : ∃ (a : Fin 20) (l : Fin 1024), i = ix3 a 0 l := ⟨i 0, i 2, funext fun b => by
    fin_cases b
    · rfl
    · exact Subsingleton.elim (α := Fin 1) _ _
    · rfl⟩
  refine ⟨⟨a.val, a.isLt⟩, flush0_5 _, ?_⟩
  show _ ∈ ((View.whole main_v11_1).slice ((cfg0.win 5).rect _)).set
  rw [View.set_slice_whole]
  exact conf_emb ⟨a.val, a.isLt⟩ l a.isLt ▸ mem_of_emb _ _

theorem final_ball (c : Dev nD) : (dats m c).arrAt 4 cfg0.N = tableOf m c :=
  (dats m c).arrAt_eq_of_cover 4 (tableOf m c) (fun t _ => flushed_ball m c t) cover_ball

theorem final_conf (c : Dev nD) : (dats m c).arrAt 5 cfg0.N = scoresOf m c :=
  (dats m c).arrAt_eq_of_cover 5 (scoresOf m c) (fun t _ => flushed_conf m c t) cover_conf

end Cert.WholeIdeal.PointHead

end
-- ==== Proof.WholeSelect.lean ====
/-
  The selection inside the whole kernel's program: the same body as the call by itself, run at the one grid point over
  whatever the program's buffers hold when it is reached.
-/
module

public import proofs.«01_k».proof.Proof.SelectBody
public import proofs.«01_k».proof.Proof.Gen.WholeIdeal.Launch
public import proofs.«01_k».proof.Proof.Gen.WholeIdeal.Points
public import proofs.«01_k».proof.Proof.Gen.WholeIdeal.Skeleton
public import Idealize.ShloMosaic.PureOps.Ideal
public import Idealize.ShloMosaic.Lib.Pipeline.FrameBody
public import Idealize.ShloMosaic.Lib.Pipeline.Frame
public import Idealize.ShloMosaic.Lib.Pipeline.Value

@[expose] public section

set_option maxRecDepth 16384

noncomputable section

namespace Cert.WholeIdeal.Select

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.WholeIdeal Cert.WholeIdeal.Gen
open Cert.Kernel2Ideal.Select (out greedy greedy_succ out_covers over_covers rout)

local notation "𝕄" => MT nD τ sig Unit (Elt Ideal) ℕ (UR sig nD τ) ℕ

/-! ## The body -/

set_option warn.classDefReducibility false in
/-- The greedy loop by its invariant: the carried row is the one `greedy` names. -/
@[sl_loop] def greedyLoop (𝒱 : Variants) (c : Dev nD) (bd : Option 𝒱.V) (E : Set ℕ)
    (a0 : Memref sig .tc .vmem S8x20480 .f32) (h0 : a0.IsWhole) (a1 : Memref sig .tc .vmem S20x1x1024 .f32) (h1 : a1.IsWhole)
    (a2 : Memref sig .tc .vmem S512x7 .f32) (h2 : a2.IsWhole) (a3 : Memref sig .tc .vmem S512x512 .f32) (h3 : a3.IsWhole)
    (g : FVec Ideal S512x10 .f32) (gt : FVec Ideal S10x512 .f32) (r1 : FVec Ideal S512x1 .f32) (r2 : FVec Ideal S1x512 .f32)
    (r3 r4 : FVec Ideal S512x512 .f32) (r5 : FVec Ideal S512x1 .f32)
    (X : BufTy.Contents (Elt Ideal) a3.view.ty) :
    LoopInv (M := MT nD τ sig Unit (Elt Ideal) ℕ (UR sig nD τ) ℕ) Idealize.ShloMosaic.frame (wpE defs₀ 𝒱 (c : Thread nD τ) bd) E
      k1_t2_loop.lb k1_t2_loop.ub k1_t2_loop.st k1_t2_ok (k1_pay89 (F := Ideal)) (k1_t2_body (F := Ideal) a0 h0 a1 h1 a2 h2 a3 h3 g gt r1 r2 r3 r4 r5) where
  inv k acc := iprop((a3.view.loc (c : Thread nD τ) ↦[a3.view.set]{fullShare} X) ∗ ⌜acc = greedy (a3.view.read (Elt Ideal) X) k⌝)
  step k acc := by
    have hk : k.val < 512 := Nat.lt_of_lt_of_le k.isLt k1_t2_abs.2.1
    iintro ⟨HX, %hacc⟩
    subst hacc
    unfold k1_t2_body
    sl_exec
    sl_step
    isplitl [HX]; · iexact HX
    ipureintro
    exact (greedy_succ _ k).symm

/-! ## The payloads are the second call's -/

section Payloads

open Cert.Kernel2Ideal.Select (ranked rankedT volume overlap scratch rowsOut rover kept)

variable (sel : FVec Ideal S20x1024 .f32) (nr : FVec Ideal S512x1 .f32) (acc : FVec Ideal S512x10 .f32) (accT : FVec Ideal S10x512 .f32)
  (cl : FVec Ideal S10x1024 .f32) (p : FVec Ideal S1x1024 .f32) (w : FVec Ideal S512x1024 .f32)

theorem order_eq (g : FVec Ideal S512x10 .f32) (gt : FVec Ideal S10x512 .f32) (hg : k1_pay78 sel acc cl p w = g) (hgt : k1_pay79 sel accT cl p w = gt) :
    k1_pay80 sel nr acc accT cl p w = Cert.Kernel2Ideal.Gen.k0_pay78 nr g gt (kept g)
      (extractStridedSlice S512x1 ![0, 6] g slices_S512x10_o0_6_S512x1) (Cert.Kernel2Ideal.Gen.k0_pay77 (F := Ideal)) := by
  unfold k1_pay80
  rw [hg, hgt]
  rfl

theorem ranked_eq (g : FVec Ideal S512x10 .f32) (gt : FVec Ideal S10x512 .f32) (hn : nr = Cert.Kernel2Ideal.Gen.k0_pay13 (F := Ideal))
    (hg : k1_pay78 sel acc cl p w = g) (hgt : k1_pay79 sel accT cl p w = gt) :
    k1_pay81 sel nr acc accT cl p w = ranked g gt := by
  unfold k1_pay81
  rw [order_eq sel nr acc accT cl p w g gt hg hgt, hg, hn]
  rfl

theorem rankedT_eq (g : FVec Ideal S512x10 .f32) (gt : FVec Ideal S10x512 .f32) (hn : nr = Cert.Kernel2Ideal.Gen.k0_pay13 (F := Ideal))
    (hg : k1_pay78 sel acc cl p w = g) (hgt : k1_pay79 sel accT cl p w = gt) :
    k1_pay82 sel nr acc accT cl p w = rankedT g gt := by
  unfold k1_pay82
  rw [order_eq sel nr acc accT cl p w g gt hg hgt, hgt, hn]
  rfl

theorem overlap_pays (r : FVec Ideal S512x10 .f32) (rt : FVec Ideal S10x512 .f32) :
    k1_pay88 r rt (k1_pay83 r) (k1_pay84 rt) (k1_pay85 r rt) (k1_pay86 r rt) (k1_pay87 r)
      = Cert.Kernel2Ideal.Gen.k0_pay85 (k1_pay83 r) (Cert.Kernel2Ideal.Gen.k0_pay82 rt) (Cert.Kernel2Ideal.Gen.k0_pay83 r rt) (Cert.Kernel2Ideal.Gen.k0_pay84 r rt) := rfl

theorem volume_eq (g : FVec Ideal S512x10 .f32) (gt : FVec Ideal S10x512 .f32) : k1_pay83 (ranked g gt) = volume g gt := rfl

theorem last_pays (r : FVec Ideal S512x10 .f32) (x : FVec Ideal S1x512 .f32) :
    k1_pay1 r (k1_pay91 x) (k1_pay92 r) = Cert.Kernel2Ideal.Gen.k0_pay1 r (Cert.Kernel2Ideal.Gen.k0_pay88 x) (Cert.Kernel2Ideal.Gen.k0_pay89 r) (Cert.Kernel2Ideal.Gen.k0_pay90 r) := rfl

theorem rows_eq {r : FVec Ideal S512x10 .f32} {rt : FVec Ideal S10x512 .f32} {o : Vec Ideal S512x512 .f32} {g : FVec Ideal S512x10 .f32} {gt : FVec Ideal S10x512 .f32}
    (hr : r = ranked g gt) (hrt : rt = rankedT g gt)
    (ho : o = View.canon [⟨rover, k1_pay88 r rt (k1_pay83 r) (k1_pay84 rt) (k1_pay85 r rt) (k1_pay86 r rt) (k1_pay87 r)⟩]) :
    k1_pay1 r (k1_pay91 (greedy o k1_t2_loop.trips)) (k1_pay92 r) = rowsOut g gt := by
  rw [overlap_pays] at ho
  subst hr hrt ho
  rw [last_pays, volume_eq]
  rfl

end Payloads

set_option maxHeartbeats 4000000 in
/-- The body on whole memrefs: the inputs are kept, the output ends at `out` of them, the scratch at something. -/
theorem body_spec (c : Dev nD) (E : Set ℕ)
    (a0 : Memref sig .tc .vmem S8x20480 .f32) (h0 : a0.IsWhole) (a1 : Memref sig .tc .vmem S20x1x1024 .f32) (h1 : a1.IsWhole)
    (a2 : Memref sig .tc .vmem S512x7 .f32) (h2 : a2.IsWhole) (a3 : Memref sig .tc .vmem S512x512 .f32) (h3 : a3.IsWhole)
    (B : Vec Ideal S8x20480 .f32) (C : Vec Ideal S20x1x1024 .f32) (K : PUnit → sProp 𝕄) :
    iprop(owns (c : Thread nD τ) a0 fullShare B ∗ owns (c : Thread nD τ) a1 fullShare C
        ∗ (∃ d, owns (c : Thread nD τ) a2 fullShare d) ∗ (∃ d, owns (c : Thread nD τ) a3 fullShare d)
        ∗ (iprop(owns (c : Thread nD τ) a0 fullShare B ∗ owns (c : Thread nD τ) a1 fullShare C
            ∗ owns (c : Thread nD τ) a2 fullShare (out B C) ∗ (∃ d, owns (c : Thread nD τ) a3 fullShare d)) -∗ K ⟨⟩))
      ⊢ wp frame (wpE (defs₀ (F := Ideal)) Variants.none c none) E (cc1__select_nms_kernel a0 h0 a1 h1 a2 h2 a3 h3) K := by
  simp only [cc1__select_nms_kernel_eq_skeleton]; unfold cc1__select_nms_kernel_skel
  unfold owns
  iintro ⟨⟨%f0, %e0, H0⟩, ⟨%f1, %e1, H1⟩, ⟨%d2, %f2, -, H2⟩, ⟨%d3, %f3, -, H3⟩, Hk⟩
  subst e0 e1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (out_covers _)).trans ?_
    refine congrArg (fun p => View.canon [⟨rout, p⟩]) ?_
    refine rows_eq ?_ ?_ (View.read_writes_eq_canon a3.view _ _ (over_covers _))
    · refine ranked_eq _ _ _ _ _ _ _ _ _ rfl ?_ ?_
      · show _ = Cert.Kernel2Ideal.Select.gathered (a0.view.read (Elt Ideal) f0) _
        try delta body_spec.sl.r_34
        try delta body_spec.sl.r_33
        try delta body_spec.sl.r_32
        try delta body_spec.sl.r_31
        try delta body_spec.sl.r_30
        try delta body_spec.sl.r_29
        try delta body_spec.sl.r_28
        try delta body_spec.sl.r_27
        try delta body_spec.sl.r_26
        try delta body_spec.sl.r_25
        try delta body_spec.sl.r_24
        try delta body_spec.sl.r_23
        try delta body_spec.sl.r_22
        try delta body_spec.sl.r_21
        try delta body_spec.sl.r_20
        try delta body_spec.sl.r_19
        try delta body_spec.sl.r_18
        try delta body_spec.sl.r_17
        try delta body_spec.sl.r_16
        try delta body_spec.sl.r_15
        try delta body_spec.sl.r_14
        try delta body_spec.sl.r_13
        try delta body_spec.sl.r_12
        try delta body_spec.sl.r_11
        try delta body_spec.sl.r_10
        try delta body_spec.sl.r_9
        try delta body_spec.sl.r_8
        try delta body_spec.sl.r_7
        have h5 : body_spec.sl.r_5 c a1 f1 = Cert.Kernel2Ideal.Select.selOf (View.ld (a1.view.read (Elt Ideal) f1) Cert.Kernel2Ideal.Select.rscores) := rfl
        have h6 : body_spec.sl.r_6 c a1 f1 = Cert.Kernel2Ideal.Select.posOf (View.ld (a1.view.read (Elt Ideal) f1) Cert.Kernel2Ideal.Select.rscores) := rfl
        have h1 : body_spec.sl.r_1 c a1 f1 = Cert.Kernel2Ideal.Gen.k0_pay2 (View.ld (a1.view.read (Elt Ideal) f1) Cert.Kernel2Ideal.Select.rscores) := rfl
        rw [h5, h6, h1]
        unfold Cert.Kernel2Ideal.Select.gathered Cert.Kernel2Ideal.Select.cols
        generalize Cert.Kernel2Ideal.Select.selOf (View.ld (a1.view.read (Elt Ideal) f1) Cert.Kernel2Ideal.Select.rscores) = sel
        generalize Cert.Kernel2Ideal.Select.posOf (View.ld (a1.view.read (Elt Ideal) f1) Cert.Kernel2Ideal.Select.rscores) = pos
        generalize Cert.Kernel2Ideal.Gen.k0_pay2 (View.ld (a1.view.read (Elt Ideal) f1) Cert.Kernel2Ideal.Select.rscores) = keys
        simp only [k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, Cert.Kernel2Ideal.Select.chunks, List.foldl_cons, List.foldl_nil]
        iterate 20
          refine congrArg₂ (addf (F := Ideal) (s := S512x10) (φ := .f32)) ?_ ?_
          on_goal 2 => rw [shapeCast_self]; rfl
        rfl
      · show _ = Cert.Kernel2Ideal.Select.gatheredT (a0.view.read (Elt Ideal) f0) _
        try delta body_spec.sl.r_34
        try delta body_spec.sl.r_33
        try delta body_spec.sl.r_32
        try delta body_spec.sl.r_31
        try delta body_spec.sl.r_30
        try delta body_spec.sl.r_29
        try delta body_spec.sl.r_28
        try delta body_spec.sl.r_27
        try delta body_spec.sl.r_26
        try delta body_spec.sl.r_25
        try delta body_spec.sl.r_24
        try delta body_spec.sl.r_23
        try delta body_spec.sl.r_22
        try delta body_spec.sl.r_21
        try delta body_spec.sl.r_20
        try delta body_spec.sl.r_19
        try delta body_spec.sl.r_18
        try delta body_spec.sl.r_17
        try delta body_spec.sl.r_16
        try delta body_spec.sl.r_15
        try delta body_spec.sl.r_14
        try delta body_spec.sl.r_13
        try delta body_spec.sl.r_12
        try delta body_spec.sl.r_11
        try delta body_spec.sl.r_10
        try delta body_spec.sl.r_9
        try delta body_spec.sl.r_8
        try delta body_spec.sl.r_7
        have h5 : body_spec.sl.r_5 c a1 f1 = Cert.Kernel2Ideal.Select.selOf (View.ld (a1.view.read (Elt Ideal) f1) Cert.Kernel2Ideal.Select.rscores) := rfl
        have h6 : body_spec.sl.r_6 c a1 f1 = Cert.Kernel2Ideal.Select.posOf (View.ld (a1.view.read (Elt Ideal) f1) Cert.Kernel2Ideal.Select.rscores) := rfl
        have h1 : body_spec.sl.r_1 c a1 f1 = Cert.Kernel2Ideal.Gen.k0_pay2 (View.ld (a1.view.read (Elt Ideal) f1) Cert.Kernel2Ideal.Select.rscores) := rfl
        rw [h5, h6, h1]
        unfold Cert.Kernel2Ideal.Select.gatheredT Cert.Kernel2Ideal.Select.cols
        generalize Cert.Kernel2Ideal.Select.selOf (View.ld (a1.view.read (Elt Ideal) f1) Cert.Kernel2Ideal.Select.rscores) = sel
        generalize Cert.Kernel2Ideal.Select.posOf (View.ld (a1.view.read (Elt Ideal) f1) Cert.Kernel2Ideal.Select.rscores) = pos
        generalize Cert.Kernel2Ideal.Gen.k0_pay2 (View.ld (a1.view.read (Elt Ideal) f1) Cert.Kernel2Ideal.Select.rscores) = keys
        simp only [k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, Cert.Kernel2Ideal.Select.chunks, List.foldl_cons, List.foldl_nil]
        iterate 20
          refine congrArg₂ (addf (F := Ideal) (s := S10x512) (φ := .f32)) ?_ ?_
          on_goal 2 => rw [shapeCast_self]; rfl
        rfl
    · refine rankedT_eq _ _ _ _ _ _ _ _ _ rfl ?_ ?_
      · show _ = Cert.Kernel2Ideal.Select.gathered (a0.view.read (Elt Ideal) f0) _
        try delta body_spec.sl.r_34
        try delta body_spec.sl.r_33
        try delta body_spec.sl.r_32
        try delta body_spec.sl.r_31
        try delta body_spec.sl.r_30
        try delta body_spec.sl.r_29
        try delta body_spec.sl.r_28
        try delta body_spec.sl.r_27
        try delta body_spec.sl.r_26
        try delta body_spec.sl.r_25
        try delta body_spec.sl.r_24
        try delta body_spec.sl.r_23
        try delta body_spec.sl.r_22
        try delta body_spec.sl.r_21
        try delta body_spec.sl.r_20
        try delta body_spec.sl.r_19
        try delta body_spec.sl.r_18
        try delta body_spec.sl.r_17
        try delta body_spec.sl.r_16
        try delta body_spec.sl.r_15
        try delta body_spec.sl.r_14
        try delta body_spec.sl.r_13
        try delta body_spec.sl.r_12
        try delta body_spec.sl.r_11
        try delta body_spec.sl.r_10
        try delta body_spec.sl.r_9
        try delta body_spec.sl.r_8
        try delta body_spec.sl.r_7
        have h5 : body_spec.sl.r_5 c a1 f1 = Cert.Kernel2Ideal.Select.selOf (View.ld (a1.view.read (Elt Ideal) f1) Cert.Kernel2Ideal.Select.rscores) := rfl
        have h6 : body_spec.sl.r_6 c a1 f1 = Cert.Kernel2Ideal.Select.posOf (View.ld (a1.view.read (Elt Ideal) f1) Cert.Kernel2Ideal.Select.rscores) := rfl
        have h1 : body_spec.sl.r_1 c a1 f1 = Cert.Kernel2Ideal.Gen.k0_pay2 (View.ld (a1.view.read (Elt Ideal) f1) Cert.Kernel2Ideal.Select.rscores) := rfl
        rw [h5, h6, h1]
        unfold Cert.Kernel2Ideal.Select.gathered Cert.Kernel2Ideal.Select.cols
        generalize Cert.Kernel2Ideal.Select.selOf (View.ld (a1.view.read (Elt Ideal) f1) Cert.Kernel2Ideal.Select.rscores) = sel
        generalize Cert.Kernel2Ideal.Select.posOf (View.ld (a1.view.read (Elt Ideal) f1) Cert.Kernel2Ideal.Select.rscores) = pos
        generalize Cert.Kernel2Ideal.Gen.k0_pay2 (View.ld (a1.view.read (Elt Ideal) f1) Cert.Kernel2Ideal.Select.rscores) = keys
        simp only [k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, Cert.Kernel2Ideal.Select.chunks, List.foldl_cons, List.foldl_nil]
        iterate 20
          refine congrArg₂ (addf (F := Ideal) (s := S512x10) (φ := .f32)) ?_ ?_
          on_goal 2 => rw [shapeCast_self]; rfl
        rfl
      · show _ = Cert.Kernel2Ideal.Select.gatheredT (a0.view.read (Elt Ideal) f0) _
        try delta body_spec.sl.r_34
        try delta body_spec.sl.r_33
        try delta body_spec.sl.r_32
        try delta body_spec.sl.r_31
        try delta body_spec.sl.r_30
        try delta body_spec.sl.r_29
        try delta body_spec.sl.r_28
        try delta body_spec.sl.r_27
        try delta body_spec.sl.r_26
        try delta body_spec.sl.r_25
        try delta body_spec.sl.r_24
        try delta body_spec.sl.r_23
        try delta body_spec.sl.r_22
        try delta body_spec.sl.r_21
        try delta body_spec.sl.r_20
        try delta body_spec.sl.r_19
        try delta body_spec.sl.r_18
        try delta body_spec.sl.r_17
        try delta body_spec.sl.r_16
        try delta body_spec.sl.r_15
        try delta body_spec.sl.r_14
        try delta body_spec.sl.r_13
        try delta body_spec.sl.r_12
        try delta body_spec.sl.r_11
        try delta body_spec.sl.r_10
        try delta body_spec.sl.r_9
        try delta body_spec.sl.r_8
        try delta body_spec.sl.r_7
        have h5 : body_spec.sl.r_5 c a1 f1 = Cert.Kernel2Ideal.Select.selOf (View.ld (a1.view.read (Elt Ideal) f1) Cert.Kernel2Ideal.Select.rscores) := rfl
        have h6 : body_spec.sl.r_6 c a1 f1 = Cert.Kernel2Ideal.Select.posOf (View.ld (a1.view.read (Elt Ideal) f1) Cert.Kernel2Ideal.Select.rscores) := rfl
        have h1 : body_spec.sl.r_1 c a1 f1 = Cert.Kernel2Ideal.Gen.k0_pay2 (View.ld (a1.view.read (Elt Ideal) f1) Cert.Kernel2Ideal.Select.rscores) := rfl
        rw [h5, h6, h1]
        unfold Cert.Kernel2Ideal.Select.gatheredT Cert.Kernel2Ideal.Select.cols
        generalize Cert.Kernel2Ideal.Select.selOf (View.ld (a1.view.read (Elt Ideal) f1) Cert.Kernel2Ideal.Select.rscores) = sel
        generalize Cert.Kernel2Ideal.Select.posOf (View.ld (a1.view.read (Elt Ideal) f1) Cert.Kernel2Ideal.Select.rscores) = pos
        generalize Cert.Kernel2Ideal.Gen.k0_pay2 (View.ld (a1.view.read (Elt Ideal) f1) Cert.Kernel2Ideal.Select.rscores) = keys
        simp only [k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, Cert.Kernel2Ideal.Select.chunks, List.foldl_cons, List.foldl_nil]
        iterate 20
          refine congrArg₂ (addf (F := Ideal) (s := S10x512) (φ := .f32)) ?_ ?_
          on_goal 2 => rw [shapeCast_self]; rfl
        rfl
  iexists _; iexists _; isplitr
  swap; · iexact H3
  ipureintro; rfl

/-! ## The blocks are the arrays -/

theorem index_zero : ∀ t : Fin cfg1.N, (∀ a, (cfg1.win 0).index t a = 0) ∧ (∀ a, (cfg1.win 1).index t a = 0) ∧ ∀ a, (cfg1.win 2).index t a = 0 := by
  decide +kernel

theorem table_emb (t : Fin cfg1.N) (y : S8x20480.Idx) : ((cfg1.win 0).rect t).emb y = y := by
  funext a; apply Fin.ext
  refine (Window.rect_emb_val (cfg1.win 0) t _ a rfl).trans ?_
  rw [(index_zero t).1 a]; simp
theorem scores_emb (t : Fin cfg1.N) (y : S20x1x1024.Idx) : ((cfg1.win 1).rect t).emb y = y := by
  funext a; apply Fin.ext
  refine (Window.rect_emb_val (cfg1.win 1) t _ a rfl).trans ?_
  rw [(index_zero t).2.1 a]; simp
theorem out_emb (t : Fin cfg1.N) (y : S512x7.Idx) : ((cfg1.win 2).rect t).emb y = y := by
  funext a; apply Fin.ext
  refine (Window.rect_emb_val (cfg1.win 2) t _ a rfl).trans ?_
  rw [(index_zero t).2.2 a]; simp

/-! ## The proof data, over any contents `W` of the buffers -/

variable (W : Dev nD → Valuation τ sig (Elt Ideal))

/-- The table and the scores as the call finds them. -/
abbrev table (c : Dev nD) : Vec Ideal S8x20480 .f32 := W c (Proc.devRef .tc main_v11_0)
abbrev scores (c : Dev nD) : Vec Ideal S20x1x1024 .f32 := W c (Proc.devRef .tc main_v11_1)

def iblk (c : Dev nD) (w : Fin cfg1.W) (t : Fin cfg1.N) : ((cfg1.win w).xblock (cfg1.grid.coords t)).Idx → Elt Ideal (cfg1.win w).elt :=
  ((cfg1.win w).blk t).view.read (Elt Ideal) (W c (Pipeline.arrRef spec1 w))

theorem iblk_table (c : Dev nD) (t : Fin cfg1.N) : iblk W c 0 t = table W c := by
  funext y
  exact congrArg (table W c) (table_emb t y)
theorem iblk_scores (c : Dev nD) (t : Fin cfg1.N) : iblk W c 1 t = scores W c := by
  funext y
  exact congrArg (scores W c) (scores_emb t y)

theorem body_row (t : Fin cfg1.N) :
    defs₀ (F := Ideal) .tc cfg1.body (cfg1.bodyArgs t (cfg1.slots t)) = bodyAt1 t := by
  unfold defs₀; rw [Defs.onTc_tc]

def dats (c : Dev nD) : Dat τ (Elt Ideal) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => out (iblk W c 0 t) (iblk W c 1 t)
  Φ _ := Pipeline.ΦA spec1 c
  q _ := fullShare
  owed _ := 0

theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = out (iblk W c 0 t) (iblk W c 1 t) := by dsimp only [dats]
theorem before_0 (c : Dev nD) (t : Fin cfg1.N) (d) : (dats W c).before 0 t d = iblk W c 0 t := by
  unfold Dat.before; rw [if_pos (fetch1_0 t)]; rfl
theorem before_1 (c : Dev nD) (t : Fin cfg1.N) (d) : (dats W c).before 1 t d = iblk W c 1 t := by
  unfold Dat.before; rw [if_pos (fetch1_1 t)]; rfl

/-- The body obligation: the scratch buffer is lent out of the region's own and handed back. -/
theorem body_ok (c : Dev nD) : BodyObligationLoose (dats W c) (defs₀ (F := Ideal)) Variants.none () Set.univ := fun t => by
  rw [bigSep_W1, bigSep_W1, body_row]
  rw [show (dats W c).Φ t.succ = (dats W c).Φ t.castSucc from rfl,
    show (dats W c).owesAt () t.succ = (dats W c).owesAt () t.castSucc from rfl, after_0, after_1, after_2]
  rw [show (dats W c).Φ t.castSucc = Pipeline.ΦA spec1 c from rfl]
  simp only [before_0, before_1]
  unfold bodyAt1 Pipeline.ΦA
  rw [Gen.scopedRest1_eq]
  iintro ⟨⟨⟨Hb0, Hb1, Hb2, Hb3, Hb4, Hb5, Hb6, Hb7, Hb8, Hb9, ⟨%f, Hs⟩⟩, Hr⟩, Ho, ⟨%d0, H0⟩, ⟨%d1, H1⟩, ⟨%d2, H2⟩⟩
  iapply (body_spec c Set.univ _ _ _ _ _ _ _ _ (iblk W c 0 t) (iblk W c 1 t) _)
  simp only [owns_whole]
  isplitl [H0]; · iexact H0
  isplitl [H1]; · iexact H1
  isplitl [H2]; · iexists _; iexact H2
  isplitl [Hs]; · iexists f; iexact Hs
  iintro ⟨H0, H1, H2, ⟨%f', Hs⟩⟩
  isplitl [Hb0 Hb1 Hb2 Hb3 Hb4 Hb5 Hb6 Hb7 Hb8 Hb9 Hs Hr]
  · isplitl [Hb0 Hb1 Hb2 Hb3 Hb4 Hb5 Hb6 Hb7 Hb8 Hb9 Hs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      iexists f'; iexact Hs
    iexact Hr
  isplitl [Ho]; · iexact Ho
  isplitl [H0]; · iexact H0
  isplitl [H1]; · iexact H1
  iexact H2

/-! ## The output's array -/

theorem flushed_out (c : Dev nD) (t : Fin cfg1.N) :
    (dats W c).flushed 2 t = ((cfg1.win 2).blk t).view.read (Elt Ideal) (out (table W c) (scores W c)) := by
  show (cfg1.win 2).cut (grid1.coords t) ((dats W c).after 2 t) = _
  rw [after_2, iblk_table, iblk_scores]
  funext y
  exact (congrArg (out (table W c) (scores W c)) (out_emb t y)).symm

theorem cover_out (i : S512x7.Idx) : ∃ t : Fin cfg1.N, (cfg1.win 2).flush t = true ∧ i ∈ ((cfg1.win 2).blk t).view.set := by
  refine ⟨⟨0, by decide +kernel⟩, flush1_2 _, ?_⟩
  show _ ∈ ((View.whole main_v12).slice ((cfg1.win 2).rect _)).set
  rw [View.set_slice_whole, ← Rect.map_emb_univ]
  exact Finset.mem_map.2 ⟨i, Finset.mem_univ _, out_emb _ i⟩

theorem final_out (c : Dev nD) : (dats W c).arrAt 2 cfg1.N = out (table W c) (scores W c) :=
  (dats W c).arrAt_eq_of_cover 2 (out (table W c) (scores W c)) (fun t _ => flushed_out W c t) cover_out

end Cert.WholeIdeal.Select

end
-- ==== Proof.WholeRun.lean ====
/-
  The whole kernel's program run over the extended reals: the host preparation, the point head's region, the selection's
  region over the arrays the first one left. Its result is the selection's function of the table and the scores of the
  arguments.
-/
module

public import proofs.«01_k».proof.Proof.WholePoint
public import proofs.«01_k».proof.Proof.WholeSelect
public import Idealize.ShloMosaic.Lib.Pipeline.RegionArraysS
public import Idealize.ShloMosaic.Lib.Pipeline.FrameTail

@[expose] public section

set_option maxRecDepth 16384

noncomputable section

namespace Cert.WholeIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg LevelCut afterRegion ucRefs)
open Cert.WholeIdeal Cert.WholeIdeal.Gen

local notation "𝕄" => MT nD τ sig Unit (Elt Ideal) ℕ (UR sig nD τ) ℕ

variable (m : (ℓ : Loc nD τ sig) → Buf (Elt Ideal) ℓ) (ρ : Dev nD → PrngReg)

/-! ## The buffers between the items -/

/-- After the point head, -/
def mid (c : Dev nD) : Valuation τ sig (Elt Ideal) := afterRegion (PointHead.dats m c) (V1 m c)

/-- and after the selection. -/
def fin (c : Dev nD) : Valuation τ sig (Elt Ideal) := afterRegion (Select.dats (mid m) c) (mid m c)

/-- The proof data of the two regions. -/
def pdats : (p : Fin 2) → (c : Dev nD) → Dat τ (Elt Ideal) Unit ℕ (UR sig nD τ) ℕ (cfgs p) c
  | 0 => PointHead.dats m
  | 1 => Select.dats (mid m)

theorem mid_table (c : Dev nD) : mid m c (Proc.devRef .tc main_v11_0) = PointHead.tableOf m c :=
  (Pipeline.afterRegion_arr (PointHead.dats m c) (V1 m c) launch0.win.arr_inj 4).trans (PointHead.final_ball m c)

theorem mid_scores (c : Dev nD) : mid m c (Proc.devRef .tc main_v11_1) = PointHead.scoresOf m c :=
  (Pipeline.afterRegion_arr (PointHead.dats m c) (V1 m c) launch0.win.arr_inj 5).trans (PointHead.final_conf m c)

theorem fin_out (c : Dev nD) : fin m c (Proc.devRef .tc main_v12)
    = Cert.Kernel2Ideal.Select.out (F := Ideal) (PointHead.tableOf m c) (PointHead.scoresOf m c) := by
  refine (Pipeline.afterRegion_arr (Select.dats (mid m) c) (mid m c) launch1.win.arr_inj 2).trans ?_
  refine (Select.final_out (mid m) c).trans ?_
  rw [Select.table, Select.scores, mid_table, mid_scores]

/-- The second region changes no buffer but its output's. -/
theorem fin_of (c : Dev nD) (r : Ref sig .tc) (h : ∀ w, r ≠ Pipeline.arrRef spec1 w) :
    fin m c (Proc.devRef .tc r) = mid m c (Proc.devRef .tc r) :=
  Pipeline.afterRegion_of_not_arr (Select.dats (mid m) c) (mid m c) h

theorem mid_of (c : Dev nD) (r : Ref sig .tc) (h : ∀ w, r ≠ Pipeline.arrRef spec0 w) :
    mid m c (Proc.devRef .tc r) = V1 m c (Proc.devRef .tc r) :=
  Pipeline.afterRegion_of_not_arr (PointHead.dats m c) (V1 m c) h

theorem fin_arg0 (c : Dev nD) : fin m c (Proc.devRef .tc main_arg0) = m ((c : Thread nD τ).loc main_arg0) :=
  (fin_of m c main_arg0 (by decide)).trans <|
    (Pipeline.afterRegion_arr (PointHead.dats m c) (V1 m c) launch0.win.arr_inj 0).trans <|
    ((PointHead.dats m c).arrAt_in 0 rfl _).trans ((PointHead.dats_A m c 0).trans (PointHead.V_main_arg0 m c))

theorem fin_arg (c : Dev nD) (r : Ref sig .tc) (h1 : ∀ w, r ≠ Pipeline.arrRef spec1 w) (h0 : ∀ w, r ≠ Pipeline.arrRef spec0 w)
    (h : r ∉ hostOps0_W) : fin m c (Proc.devRef .tc r) = m ((c : Thread nD τ).loc r) :=
  (fin_of m c r h1).trans ((mid_of m c r h0).trans ((V1_of m c r h).trans rfl))

/-! ## The regions -/

/-- Every TensorCore semaphore carries the one index, -/
abbrev L : GSem nD τ sig → Finset Unit := fun g => if g.1.2 = .tc then {()} else ∅
/-- at the one level. -/
abbrev lv : GSem nD τ sig → Unit → ℕ := fun _ _ => 0
/-- Nothing is owed. -/
abbrev D : Dev nD → CellTallies nD τ sig Unit := fun _ => 0

theorem cut0 : LevelCut (pcfgs (F := Ideal)) adm () L lv 0 D (fun _ => 0) where
  hι _ _ _ := by simp [L]
  hιb _ _ _ := le_rfl
  hD _ _ _ h := absurd h (lt_irrefl _)

theorem cut1 : LevelCut (pcfgs (F := Ideal)) adm () L lv 1 D (fun _ => 0) where
  hι _ _ _ := by simp [L]
  hιb _ _ _ := le_rfl
  hD _ _ _ h := absurd h (lt_irrefl _)

/-- The generator register at some value. -/
abbrev reg (c : Dev nD) : sProp 𝕄 := iprop(∃ r, prngReg c r)

set_option backward.isDefEq.respectTransparency.types false in
def region0 : RegionSeg (pcfgs (F := Ideal)) adm (pdats m) () defs₀ Variants.none L lv 0 :=
  RegionSeg.ofHeldIn (pcfgs (F := Ideal)) adm (pdats m) () defs₀ Variants.none L lv 0 D (ucRefs τ sig) reg reg launch0.toP rfl
    (PointHead.body_ok m) (fun _ _ => rfl) (fun _ => rfl) (fun c => (PointHead.dats m c).share_full fun _ => rfl)
    (fun _ => .rfl) (fun _ => .rfl) (fun _ => 0) cut0 (fun _ => iprop(emp)) (V1 m) (fun _ _ => rfl)

set_option backward.isDefEq.respectTransparency.types false in
def region1 : RegionSeg (pcfgs (F := Ideal)) adm (pdats m) () defs₀ Variants.none L lv 1 :=
  RegionSeg.ofHeldIn (pcfgs (F := Ideal)) adm (pdats m) () defs₀ Variants.none L lv 1 D (ucRefs τ sig) reg reg launch1.toP rfl
    (Select.body_ok (mid m)) (fun _ _ => rfl) (fun _ => rfl) (fun c => (Select.dats (mid m) c).share_full fun _ => rfl)
    (fun _ => .rfl) (fun _ => .rfl) (fun _ => 0) cut1 (fun _ => iprop(emp)) (mid m) (fun _ _ => rfl)

/-- What rides beside the buffers: the core owing nothing, and the register. -/
abbrev ride (c : Dev nD) : sProp 𝕄 := iprop((∃ Wd, owes (c : Thread nD τ) (D c) Wd) ∗ reg c ∗ emp)

variable (c : Dev nD)

set_option backward.isDefEq.respectTransparency.types false in
theorem enter0 : iprop(StableHlo.held (c : Thread nD τ) (ucRefs τ sig) (V1 m c) ∗ ride c) ⊢ (region0 m).pre c :=
  by
  unfold region0
  exact RegionSeg.ofHeldIn_pre (pcs := pcfgs (F := Ideal)) (p := 0) (pdats := pdats m) (D := D) (X := reg) (Y := reg) (R := fun _ => iprop(emp)) (W := V1 m)
    (Pipeline.arrRefs_sub_ucRefs spec0 (by decide)) c

set_option backward.isDefEq.respectTransparency.types false in
theorem leave0 : (region0 m).post c ⊢ iprop(StableHlo.held (c : Thread nD τ) (ucRefs τ sig) (mid m c) ∗ ride c) :=
  RegionSeg.ofHeldIn_post (pcs := pcfgs (F := Ideal)) (p := 0) (Pipeline.arrRefs_sub_ucRefs spec0 (by decide)) c

set_option backward.isDefEq.respectTransparency.types false in
theorem enter1 : iprop(StableHlo.held (c : Thread nD τ) (ucRefs τ sig) (mid m c) ∗ ride c) ⊢ (region1 m).pre c :=
  by
  unfold region1
  exact RegionSeg.ofHeldIn_pre (pcs := pcfgs (F := Ideal)) (p := 1) (pdats := pdats m) (D := D) (X := reg) (Y := reg) (R := fun _ => iprop(emp)) (W := mid m)
    (Pipeline.arrRefs_sub_ucRefs spec1 (by decide)) c

set_option backward.isDefEq.respectTransparency.types false in
theorem leave1 : (region1 m).post c ⊢ iprop(StableHlo.held (c : Thread nD τ) (ucRefs τ sig) (fin m c) ∗ ride c) :=
  RegionSeg.ofHeldIn_post (pcs := pcfgs (F := Ideal)) (p := 1) (Pipeline.arrRefs_sub_ucRefs spec1 (by decide)) c

theorem rest_owes : ride c ⊢ (iprop(∃ W, owes (c : Thread nD τ) (0 : CellTallies nD τ sig Unit) W) : sProp 𝕄) := by
  iintro ⟨HO, -, -⟩; iexact HO

/-- @main's items as segments. -/
abbrev items (c : Dev nD) := segs m Variants.none L lv (fun _ => ride) () (pdats m) (region0 m) (region1 m) c

set_option backward.isDefEq.respectTransparency.types false in
theorem run : θ_run defs (onTc (τ := τ) (main (F := Ideal))) ⟨m, fun _ => 0, ρ⟩ (fun r => (∀ c : Dev nD,
      r.2.mem ((c.tc : Thread nD τ).loc main_v12) = Cert.Kernel2Ideal.Select.out (F := Ideal) (PointHead.tableOf m c) (PointHead.scoresOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := Ideal)) adm (pdats m) () cellOf_inj emb₁ defs₀ Variants.none L lv m ρ main
    (items m)
    (fun c Q => by
      rewrite [main_chain c, Pipeline.Seg.run_eq_chain,
        show (items m c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) D
    (fun g h => if_neg h) (fun _ => iprop(emp)) (initOf (Pipeline.cells cfgs cellOf_inj) (Pipeline.launchToks cfgs cellOf_inj)) ?_
    (T₀ := fun c => iprop(StableHlo.held (c : Thread nD τ) (ucRefs τ sig) (V0 m c) ∗ ride c))
    (Tₙ := fun c => StableHlo.held (c : Thread nD τ) (ucRefs τ sig) (fin m c))
    (hch := fun c => ⟨.rfl, enter0 m c, (leave0 m c).trans (enter1 m c), (leave1 m c).trans (BI.sep_mono (BI.Entails.refl _) (rest_owes c))⟩)
    (hinit := ?_) (QY := fun c s => s.mem ((c.tc : Thread nD τ).loc main_v12) = Cert.Kernel2Ideal.Select.out (F := Ideal) (PointHead.tableOf m c) (PointHead.scoresOf m c)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (ucRefs τ sig) (fun b => ((c : Thread nD τ).1, b)) (fin m c) s') $$ [Hh HSI]
    · isplitl [Hh] <;> iassumption
    icases Hr with ⟨%h, HSI⟩
    imodintro
    isplitr
    · ipureintro
      refine ⟨(h (Proc.devRef .tc main_v12) (Finset.mem_filter.mpr ⟨StableHlo.devRef_mem_tcRefs main_v12, by decide⟩)).trans (fin_out m c),
        (h (Proc.devRef .tc main_arg0) (Finset.mem_filter.mpr ⟨StableHlo.devRef_mem_tcRefs main_arg0, by decide⟩)).trans (fin_arg0 m c), ?_, ?_, ?_, ?_, ?_⟩
      · exact (h (Proc.devRef .tc main_arg1) (Finset.mem_filter.mpr ⟨StableHlo.devRef_mem_tcRefs main_arg1, by decide⟩)).trans (fin_arg m c main_arg1 (by decide) (by decide) (by decide))
      · exact (h (Proc.devRef .tc main_arg2) (Finset.mem_filter.mpr ⟨StableHlo.devRef_mem_tcRefs main_arg2, by decide⟩)).trans (fin_arg m c main_arg2 (by decide) (by decide) (by decide))
      · exact (h (Proc.devRef .tc main_arg3) (Finset.mem_filter.mpr ⟨StableHlo.devRef_mem_tcRefs main_arg3, by decide⟩)).trans (fin_arg m c main_arg3 (by decide) (by decide) (by decide))
      · exact (h (Proc.devRef .tc main_arg4) (Finset.mem_filter.mpr ⟨StableHlo.devRef_mem_tcRefs main_arg4, by decide⟩)).trans (fin_arg m c main_arg4 (by decide) (by decide) (by decide))
      · exact (h (Proc.devRef .tc main_arg5) (Finset.mem_filter.mpr ⟨StableHlo.devRef_mem_tcRefs main_arg5, by decide⟩)).trans (fin_arg m c main_arg5 (by decide) (by decide) (by decide))
    · iexact HSI

end Cert.WholeIdeal.Run

end
-- ==== Proof.WholeRefRun.lean ====
/-
  What the lines of the whole problem's reference leave before its greedy loop: the scores, the top scores with their
  positions, the boxes there and their overlaps, in the terms of the two calls' references.
-/
module

public import proofs.«01_k».proof.Proof.Gen.WholeReferenceIdeal.Run
public import proofs.«01_k».proof.Proof.RefValue
public import proofs.«01_k».proof.Proof.SelectRefValue

@[expose] public section

set_option maxRecDepth 16384

noncomputable section

namespace Cert.WholeReferenceIdeal.Lines

open Idealize.ShloMosaic Idealize.ShloMosaic.TcCoe Idealize.ShloMosaic.Tactic Idealize.ShloMosaic.StableHlo
open Cert.WholeReferenceIdeal Cert.WholeReferenceIdeal.Gen Cert.WholeReferenceIdeal.Value
open Cert.ReferenceIdeal.Read (val_main_v3 val_main_v4 val_main_call0_v0 val_main_v8 val_main_v22 val_main_v24 val_main_v28 val_main_v29 val_main_v30 val_main_v31 val_main_v32)
open Cert.Reference2Ideal.Select (points reached scored values places boxesAt finite overlaps rows)

/-! ## The lines -/

/-- Which of the scores `p` reach the threshold. -/
def reachedOf (p : FVec Ideal S20000 .f32) : IVec S20000 1 :=
  cmpf .oge p (broadcastInDim S20000 ![] bcast_S_S20000 (minimumf (constant (F := Ideal) S_ .f32 0x3F000000#32)
    (Host.reduce FloatOps.maximumf p (constant (F := Ideal) S_ .f32 0xFF800000#32) reducesTo_S20000_S_d0 h_S_)))

/-- The boxes `x` at the positions `i`. -/
def pick (x : FVec Ideal S20000x6 .f32) (i : IVec S512 32) : FVec Ideal S512x6 .f32 :=
  Host.gather gather_S20000x6_S512x1_S512x6_1_0_n_n_0_1_16 x (broadcastInDim S512x1 ![0] bcast_S512_S512x1_0
    (select (cmpi .slt i (broadcastInDim S512 ![] bcast_S_S512 (constantI S_ 32 0#32)))
      (addi i (broadcastInDim S512 ![] bcast_S_S512 (constantI S_ 32 20000#32))) i))

/-- The lower corners beside the upper ones. -/
def beside (a b : FVec Ideal S20000x3 .f32) : FVec Ideal S20000x6 .f32 :=
  concatenate S20000x6 1 [⟨S20000x3, a⟩, ⟨S20000x3, b⟩] concatenates_S20000x3_S20000x3_S20000x6_d1

section lines
variable (V : Valuation τ sig (Elt Ideal))
variable (x0 : FVec Ideal S20000x128 .f32) (x1 : FVec Ideal S20000x3 .f32) (x2 : FVec Ideal S128x128 .f32)
  (x3 : FVec Ideal S128 .f32) (x4 : FVec Ideal S128x9 .f32) (x5 : FVec Ideal S9 .f32)

theorem line_layer : after hostOps0 V (Proc.devRef .tc main_v3)
    = val_main_v3 (F := Ideal) (V (Proc.devRef .tc main_arg0)) (V (Proc.devRef .tc main_arg2)) (V (Proc.devRef .tc main_arg3)) := by
  after_results
  rfl
theorem line_relu : after hostOps0_1 V (Proc.devRef .tc main_v4) = (maximumf (V (Proc.devRef .tc main_v3)) (val_main_call0_v0 (F := Ideal)) : FVec Ideal S20000x128 .f32) := by
  after_results
  rfl
theorem line_head (h : V (Proc.devRef .tc main_v4) = val_main_v4 (F := Ideal) x0 x2 x3) (h4 : V (Proc.devRef .tc main_arg4) = x4)
    (h5 : V (Proc.devRef .tc main_arg5) = x5) : after hostOps0_2 V (Proc.devRef .tc main_v8) = val_main_v8 (F := Ideal) x0 x2 x3 x4 x5 := by
  after_results
  rw [h, h4, h5]
  rfl
theorem line_conf (h : V (Proc.devRef .tc main_v4) = val_main_v4 (F := Ideal) x0 x2 x3) (h4 : V (Proc.devRef .tc main_arg4) = x4)
    (h5 : V (Proc.devRef .tc main_arg5) = x5) : after hostOps0_2 V (Proc.devRef .tc main_v22) = val_main_v22 (F := Ideal) x0 x2 x3 x4 x5 := by
  after_results
  rw [h, h4, h5]
  rfl
theorem line_reached (h : V (Proc.devRef .tc main_v4) = val_main_v4 (F := Ideal) x0 x2 x3) (h4 : V (Proc.devRef .tc main_arg4) = x4)
    (h5 : V (Proc.devRef .tc main_arg5) = x5) : after hostOps0_2 V (Proc.devRef .tc main_v26) = reachedOf (val_main_v22 (F := Ideal) x0 x2 x3 x4 x5) := by
  after_results
  rw [h, h4, h5]
  rfl
theorem line_least : after hostOps0_2 V (Proc.devRef .tc main_cst_4) = constant (F := Ideal) S_ .f32 0xFF800000#32 := by
  after_results
theorem line_scored : after hostOps0_3 V (Proc.devRef .tc main_v27) = select (V (Proc.devRef .tc main_v26)) (V (Proc.devRef .tc main_v22))
    (broadcastInDim S20000 ![] bcast_S_S20000 (id (V (Proc.devRef .tc main_cst_4)))) := by
  after_results
  rfl
theorem line_values : after hostOps0_4 V (Proc.devRef .tc main_values) =
    (Host.topK S512 0 (FloatOps.cmpfTotal (F := Ideal) (φ := .f32) .gt) (V (Proc.devRef .tc main_v27)) sliceFits_S20000_S512).1 := by
  after_results
theorem line_indices : after hostOps0_4 V (Proc.devRef .tc main_indices) =
    (Host.topK S512 0 (FloatOps.cmpfTotal (F := Ideal) (φ := .f32) .gt) (V (Proc.devRef .tc main_v27)) sliceFits_S20000_S512).2 := by
  after_results
theorem line_centre (h : V (Proc.devRef .tc main_v8) = val_main_v8 (F := Ideal) x0 x2 x3 x4 x5) (h1 : V (Proc.devRef .tc main_arg1) = x1) :
    after hostOps0_4 V (Proc.devRef .tc main_v29) = val_main_v24 (F := Ideal) x0 x1 x2 x3 x4 x5 := by
  after_results
  rw [h, h1]
  rfl
theorem line_radius (h : V (Proc.devRef .tc main_v8) = val_main_v8 (F := Ideal) x0 x2 x3 x4 x5) :
    after hostOps0_4 V (Proc.devRef .tc main_v33) = val_main_v28 (F := Ideal) x0 x2 x3 x4 x5 := by
  after_results
  rw [h]
  rfl
theorem line_below (h : V (Proc.devRef .tc main_v8) = val_main_v8 (F := Ideal) x0 x2 x3 x4 x5) (h1 : V (Proc.devRef .tc main_arg1) = x1) :
    after hostOps0_4 V (Proc.devRef .tc main_v34) = val_main_v29 (F := Ideal) x0 x1 x2 x3 x4 x5 := by
  after_results
  rw [h, h1]
  rfl
theorem line_min : after hostOps0_4 V (Proc.devRef .tc main_cst_6) = constant (F := Ideal) S_ .f32 0x00000000#32 := by
  after_results
theorem line_max : after hostOps0_4 V (Proc.devRef .tc main_cst_7) = constant (F := Ideal) S_ .f32 0x433F0000#32 := by
  after_results
theorem line_lo (h : V (Proc.devRef .tc main_v34) = val_main_v29 (F := Ideal) x0 x1 x2 x3 x4 x5)
    (h6 : V (Proc.devRef .tc main_cst_6) = constant (F := Ideal) S_ .f32 0x00000000#32) (h7 : V (Proc.devRef .tc main_cst_7) = constant (F := Ideal) S_ .f32 0x433F0000#32) :
    after hostOps0_5 V (Proc.devRef .tc main_v35) = val_main_v30 (F := Ideal) x0 x1 x2 x3 x4 x5 := by
  after_results
  rw [h, h6, h7]
  rfl
theorem line_above (h : V (Proc.devRef .tc main_v29) = val_main_v24 (F := Ideal) x0 x1 x2 x3 x4 x5)
    (h' : V (Proc.devRef .tc main_v33) = val_main_v28 (F := Ideal) x0 x2 x3 x4 x5) :
    after hostOps0_6 V (Proc.devRef .tc main_v36) = val_main_v31 (F := Ideal) x0 x1 x2 x3 x4 x5 := by
  after_results
  rw [h, h']
  rfl
theorem line_min' : after hostOps0_6 V (Proc.devRef .tc main_cst_8) = constant (F := Ideal) S_ .f32 0x00000000#32 := by
  after_results
theorem line_max' : after hostOps0_6 V (Proc.devRef .tc main_cst_9) = constant (F := Ideal) S_ .f32 0x433F0000#32 := by
  after_results
theorem line_hi (h : V (Proc.devRef .tc main_v36) = val_main_v31 (F := Ideal) x0 x1 x2 x3 x4 x5)
    (h6 : V (Proc.devRef .tc main_cst_8) = constant (F := Ideal) S_ .f32 0x00000000#32) (h7 : V (Proc.devRef .tc main_cst_9) = constant (F := Ideal) S_ .f32 0x433F0000#32) :
    after hostOps0_7 V (Proc.devRef .tc main_v37) = val_main_v32 (F := Ideal) x0 x1 x2 x3 x4 x5 := by
  after_results
  rw [h, h6, h7]
  rfl
theorem line_boxes : after hostOps0_8 V (Proc.devRef .tc main_v45)
    = pick (beside (V (Proc.devRef .tc main_v35)) (V (Proc.devRef .tc main_v37))) (V (Proc.devRef .tc main_indices)) := by
  after_results
  rfl
theorem line_small : after hostOps0_8 V (Proc.devRef .tc main_v48) = cmpf .olt (Host.absf (V (Proc.devRef .tc main_values) : FVec Ideal S512 .f32))
    (broadcastInDim S512 ![] bcast_S_S512 (constant (F := Ideal) S_ .f32 0x7F800000#32)) := by
  after_results
theorem line_zero : after hostOps0_8 V (Proc.devRef .tc main_cst_12) = constant (F := Ideal) S_ .f32 0x00000000#32 := by
  after_results
theorem line_finite : after hostOps0_9 V (Proc.devRef .tc main_v49) = select (V (Proc.devRef .tc main_v48)) (V (Proc.devRef .tc main_values))
    (broadcastInDim S512 ![] bcast_S_S512 (id (V (Proc.devRef .tc main_cst_12)))) := by
  after_results
  rfl
theorem line_overlaps : after hostOps0_10 V (Proc.devRef .tc main_v95_2) = id (overlaps (V (Proc.devRef .tc main_v45))) := by
  after_results
  rfl
theorem line_first : after hostOps0_10 V (Proc.devRef .tc main_v95_0) = id (iotaInDim S512 32 0) := by
  after_results
theorem line_second : after hostOps0_10 V (Proc.devRef .tc main_v95_1) = id (iotaInDim S512 32 0) := by
  after_results
theorem line_count : after hostOps0_10 V (Proc.devRef .tc main_v95_3) = id (constantI S_ 32 0#32) := by
  after_results
theorem line_keep : after hostOps0_10 V (Proc.devRef .tc main_v95_4) = id (broadcastInDim S512 ![] bcast_S_S512 (constantI S_ 1 0#1)) := by
  after_results
theorem line_rows : after hostOps0_11 V (Proc.devRef .tc main_v106) = rows (V (Proc.devRef .tc main_v45)) (V (Proc.devRef .tc main_v49)) (V (Proc.devRef .tc main_v95_4)) := by
  after_results
  rfl
end lines

end Cert.WholeReferenceIdeal.Lines

end
-- ==== Proof.WholeRefValue.lean ====
/-
  The whole problem's reference over the extended reals: where the scores and the boxes it computes are the ones of the
  table and the scores `b`, `s`, its result is the greedy pass over them. And its run.
-/
module

public import proofs.«01_k».proof.Proof.WholeRefRun

@[expose] public section

set_option maxRecDepth 16384

noncomputable section

open scoped Classical

namespace Cert.WholeReferenceIdeal.Lines

open Idealize.ShloMosaic Idealize.ShloMosaic.TcCoe Idealize.ShloMosaic.WordCmp Idealize.ShloMosaic.StableHlo Idealize.SL.Sem
open Cert.WholeReferenceIdeal Cert.WholeReferenceIdeal.Gen Cert.WholeReferenceIdeal.Value Cert.Rank Cert.Nms
open Cert.Kernel2Ideal.Select (D tiny most Scores Labelled cellOut)
open Cert.ReferenceIdeal.Read (val_main_v3 val_main_v4 val_main_v8 val_main_v22 val_main_v24 val_main_v28 val_main_v29 val_main_v30 val_main_v31 val_main_v32)
open Cert.Reference2Ideal.Select (points reached scored values places boxesAt finite overlaps rows boxNumber setFlag boxNumber_read setFlag_read overlaps_read box_read score_read rows_read)

variable (m : (ℓ : Loc nD τ sig) → Buf (Elt Ideal) ℓ) (ρ : Dev nD → PrngReg) (c : Dev nD)

/-- The program's arguments. -/
abbrev arg0 : FVec Ideal S20000x128 .f32 := m ((c : Thread nD τ).loc main_arg0)
abbrev arg1 : FVec Ideal S20000x3 .f32 := m ((c : Thread nD τ).loc main_arg1)
abbrev arg2 : FVec Ideal S128x128 .f32 := m ((c : Thread nD τ).loc main_arg2)
abbrev arg3 : FVec Ideal S128 .f32 := m ((c : Thread nD τ).loc main_arg3)
abbrev arg4 : FVec Ideal S128x9 .f32 := m ((c : Thread nD τ).loc main_arg4)
abbrev arg5 : FVec Ideal S9 .f32 := m ((c : Thread nD τ).loc main_arg5)

/-- The scores of the points, -/
abbrev conf : FVec Ideal S20000 .f32 := val_main_v22 (F := Ideal) (arg0 m c) (arg2 m c) (arg3 m c) (arg4 m c) (arg5 m c)
/-- and their boxes. -/
abbrev boxes : FVec Ideal S20000x6 .f32 :=
  beside (val_main_v30 (F := Ideal) (arg0 m c) (arg1 m c) (arg2 m c) (arg3 m c) (arg4 m c) (arg5 m c))
    (val_main_v32 (F := Ideal) (arg0 m c) (arg1 m c) (arg2 m c) (arg3 m c) (arg4 m c) (arg5 m c))

/-! ## Before the loop -/

abbrev U1 : Valuation τ sig (Elt Ideal) := after hostOps0 (launchContents m c)
abbrev U2 : Valuation τ sig (Elt Ideal) := after hostOps0_1 (U1 m c)
abbrev U3 : Valuation τ sig (Elt Ideal) := after hostOps0_2 (U2 m c)
abbrev U4 : Valuation τ sig (Elt Ideal) := after hostOps0_3 (U3 m c)
abbrev U5 : Valuation τ sig (Elt Ideal) := after hostOps0_4 (U4 m c)
abbrev U6 : Valuation τ sig (Elt Ideal) := after hostOps0_5 (U5 m c)
abbrev U7 : Valuation τ sig (Elt Ideal) := after hostOps0_6 (U6 m c)
abbrev U8 : Valuation τ sig (Elt Ideal) := after hostOps0_7 (U7 m c)
abbrev U9 : Valuation τ sig (Elt Ideal) := after hostOps0_8 (U8 m c)
abbrev U10 : Valuation τ sig (Elt Ideal) := after hostOps0_9 (U9 m c)
abbrev U11 : Valuation τ sig (Elt Ideal) := after hostOps0_10 (U10 m c)

theorem entry_eq : entryContents preI m c = U11 m c := by
  simp only [entryContents, preI, afterL_cons, afterL_nil]

theorem U2_arg (r : Ref sig .tc) (h0 : r ∉ hostOps0_W) (h1 : r ∉ hostOps0_1_W) : U2 m c (Proc.devRef .tc r) = m ((c : Thread nD τ).loc r) :=
  (after_of_writes_sub hostOps0_1 _ hostOps0_1_writes h1).trans ((after_of_writes_sub hostOps0 _ hostOps0_writes h0).trans rfl)
theorem U2_hidden : U2 m c (Proc.devRef .tc main_v4) = val_main_v4 (F := Ideal) (arg0 m c) (arg2 m c) (arg3 m c) := by
  unfold U2
  rw [line_relu]
  unfold U1
  rw [line_layer]
  rfl
theorem U3_head : U3 m c (Proc.devRef .tc main_v8) = val_main_v8 (F := Ideal) (arg0 m c) (arg2 m c) (arg3 m c) (arg4 m c) (arg5 m c) :=
  line_head _ _ _ _ _ _ (U2_hidden m c) (U2_arg m c main_arg4 (by decide) (by decide)) (U2_arg m c main_arg5 (by decide) (by decide))
theorem U3_conf : U3 m c (Proc.devRef .tc main_v22) = conf m c :=
  line_conf _ _ _ _ _ _ (U2_hidden m c) (U2_arg m c main_arg4 (by decide) (by decide)) (U2_arg m c main_arg5 (by decide) (by decide))
theorem U3_reached : U3 m c (Proc.devRef .tc main_v26) = reachedOf (conf m c) :=
  line_reached _ _ _ _ _ _ (U2_hidden m c) (U2_arg m c main_arg4 (by decide) (by decide)) (U2_arg m c main_arg5 (by decide) (by decide))

theorem U4_scored (s : Vec Ideal Cert.Reference2Ideal.S20x1x1024 .f32) (hs : conf m c = points s) : U4 m c (Proc.devRef .tc main_v27) = scored s := by
  unfold U4
  rw [line_scored, U3_reached, U3_conf]
  unfold U3
  rw [line_least, hs]
  rfl
theorem U4_head : U4 m c (Proc.devRef .tc main_v8) = val_main_v8 (F := Ideal) (arg0 m c) (arg2 m c) (arg3 m c) (arg4 m c) (arg5 m c) :=
  (after_of_writes_sub hostOps0_3 _ hostOps0_3_writes (by decide)).trans (U3_head m c)
theorem U4_arg1 : U4 m c (Proc.devRef .tc main_arg1) = arg1 m c :=
  (after_of_writes_sub hostOps0_3 _ hostOps0_3_writes (by decide)).trans <|
    (after_of_writes_sub hostOps0_2 _ hostOps0_2_writes (by decide)).trans (U2_arg m c main_arg1 (by decide) (by decide))

theorem U6_lo : U6 m c (Proc.devRef .tc main_v35) = val_main_v30 (F := Ideal) (arg0 m c) (arg1 m c) (arg2 m c) (arg3 m c) (arg4 m c) (arg5 m c) :=
  line_lo _ _ _ _ _ _ _ (line_below _ _ _ _ _ _ _ (U4_head m c) (U4_arg1 m c)) (line_min _) (line_max _)
theorem U7_above : U7 m c (Proc.devRef .tc main_v36) = val_main_v31 (F := Ideal) (arg0 m c) (arg1 m c) (arg2 m c) (arg3 m c) (arg4 m c) (arg5 m c) :=
  line_above _ _ _ _ _ _ _
    ((after_of_writes_sub hostOps0_5 _ hostOps0_5_writes (by decide)).trans (line_centre _ _ _ _ _ _ _ (U4_head m c) (U4_arg1 m c)))
    ((after_of_writes_sub hostOps0_5 _ hostOps0_5_writes (by decide)).trans (line_radius _ _ _ _ _ _ (U4_head m c)))
theorem U8_hi : U8 m c (Proc.devRef .tc main_v37) = val_main_v32 (F := Ideal) (arg0 m c) (arg1 m c) (arg2 m c) (arg3 m c) (arg4 m c) (arg5 m c) :=
  line_hi _ _ _ _ _ _ _ (U7_above m c) (line_min' _) (line_max' _)
theorem U8_lo : U8 m c (Proc.devRef .tc main_v35) = val_main_v30 (F := Ideal) (arg0 m c) (arg1 m c) (arg2 m c) (arg3 m c) (arg4 m c) (arg5 m c) :=
  (after_of_writes_sub hostOps0_7 _ hostOps0_7_writes (by decide)).trans <|
    (after_of_writes_sub hostOps0_6 _ hostOps0_6_writes (by decide)).trans (U6_lo m c)
theorem U8_of (r : Ref sig .tc) (h5 : r ∉ hostOps0_5_W) (h6 : r ∉ hostOps0_6_W) (h7 : r ∉ hostOps0_7_W) :
    U8 m c (Proc.devRef .tc r) = U5 m c (Proc.devRef .tc r) :=
  (after_of_writes_sub hostOps0_7 _ hostOps0_7_writes h7).trans <|
    (after_of_writes_sub hostOps0_6 _ hostOps0_6_writes h6).trans (after_of_writes_sub hostOps0_5 _ hostOps0_5_writes h5)

section
variable (b : Vec Ideal Cert.Reference2Ideal.S8x20480 .f32) (s : Vec Ideal Cert.Reference2Ideal.S20x1x1024 .f32)

/-- The table `b` and the scores `s` hold the points' scores and boxes. -/
structure Holds : Prop where
  scores : conf m c = points s
  boxes : boxes m c = transpose Cert.Reference2Ideal.S20000x6 [1, 0] (extractStridedSlice Cert.Reference2Ideal.S6x20000 ![0, 0] b
    Cert.Reference2Ideal.Gen.slices_S8x20480_S6x20000_0_0) Cert.Reference2Ideal.Gen.transposes_S6x20000_S20000x6_1_0

variable {b s} (H : Holds m c b s)
include H

theorem U8_values : U8 m c (Proc.devRef .tc main_values) = values s := by
  rw [U8_of m c main_values (by decide) (by decide) (by decide)]
  unfold U5
  rw [line_values, U4_scored m c s H.scores]
  rfl
theorem U8_indices : U8 m c (Proc.devRef .tc main_indices) = places s := by
  rw [U8_of m c main_indices (by decide) (by decide) (by decide)]
  unfold U5
  rw [line_indices, U4_scored m c s H.scores]
  rfl
theorem U9_boxes : U9 m c (Proc.devRef .tc main_v45) = boxesAt b (places s) := by
  unfold U9
  rw [line_boxes, U8_lo, U8_hi, U8_indices m c H]
  exact congrArg (fun x => pick x (places s)) H.boxes
theorem U10_finite : U10 m c (Proc.devRef .tc main_v49) = finite (values s) := by
  unfold U10
  rw [line_finite, show U9 m c (Proc.devRef .tc main_values) = values s from
    (after_of_writes_sub hostOps0_8 _ hostOps0_8_writes (by decide)).trans (U8_values m c H)]
  unfold U9
  rw [line_small, line_zero, U8_values m c H]
  rfl
theorem U10_boxes : U10 m c (Proc.devRef .tc main_v45) = boxesAt b (places s) :=
  (after_of_writes_sub hostOps0_9 _ hostOps0_9_writes (by decide)).trans (U9_boxes m c H)
theorem U11_overlaps : U11 m c (Proc.devRef .tc main_v95_2) = overlaps (boxesAt b (places s)) := by
  unfold U11
  rw [line_overlaps, U10_boxes m c H]
  rfl
end

/-! ## The loop -/

theorem trip_flags (V : Valuation τ sig (Elt Ideal)) : afterL bodyI V (Proc.devRef .tc main_v95_4)
    = setFlag (V (Proc.devRef .tc main_v95_1)) (V (Proc.devRef .tc main_v95_2)) (boxNumber (V (Proc.devRef .tc main_v95_0)) (V (Proc.devRef .tc main_v95_3))) (V (Proc.devRef .tc main_v95_4)) :=
  trip_main_v95_4 V

/-- What holds before the trip `k`. -/
structure Before (b : Vec Ideal Cert.Reference2Ideal.S8x20480 .f32) (s : Vec Ideal Cert.Reference2Ideal.S20x1x1024 .f32) (k : ℕ) (V : Valuation τ sig (Elt Ideal)) : Prop where
  boxes : V (Proc.devRef .tc main_v45) = boxesAt b (places s)
  score : V (Proc.devRef .tc main_v49) = finite (values s)
  first : V (Proc.devRef .tc main_v95_0) = iotaInDim S512 32 0
  second : V (Proc.devRef .tc main_v95_1) = iotaInDim S512 32 0
  over : V (Proc.devRef .tc main_v95_2) = overlaps (boxesAt b (places s))
  count : V (Proc.devRef .tc main_v95_3) = fun _ => BitVec.ofNat 32 k
  keep : ∀ j : Fin 512, (V (Proc.devRef .tc main_v95_4) : IVec S512 1) (ix1 j) = BitVec.ofBool (decide (keeps most (fun x y => Cert.Nms.over tiny (D b s x) (D b s y)) k j))

variable {b : Vec Ideal Cert.Reference2Ideal.S8x20480 .f32} {s : Vec Ideal Cert.Reference2Ideal.S20x1x1024 .f32}

theorem entry_before (H : Holds m c b s) : Before b s 0 (U11 m c) where
  boxes := (after_of_writes_sub hostOps0_10 _ hostOps0_10_writes (by decide)).trans (U10_boxes m c H)
  score := (after_of_writes_sub hostOps0_10 _ hostOps0_10_writes (by decide)).trans (U10_finite m c H)
  first := line_first _
  second := line_second _
  over := U11_overlaps m c H
  count := line_count _
  keep j := by
    unfold U11
    rw [line_keep]
    have : ¬ keeps most (fun x y => Cert.Nms.over tiny (D b s x) (D b s y)) 0 j := id
    rw [decide_eq_false this]
    rfl

theorem cond_before {k : ℕ} {V : Valuation τ sig (Elt Ideal)} (h : Before b s k V) : Before b s k (after condOps V) where
  boxes := (after_of_writes_sub condOps _ condOps_writes (by decide)).trans h.boxes
  score := (after_of_writes_sub condOps _ condOps_writes (by decide)).trans h.score
  first := (after_of_writes_sub condOps _ condOps_writes (by decide)).trans h.first
  second := (after_of_writes_sub condOps _ condOps_writes (by decide)).trans h.second
  over := (after_of_writes_sub condOps _ condOps_writes (by decide)).trans h.over
  count := (after_of_writes_sub condOps _ condOps_writes (by decide)).trans h.count
  keep j := (congrFun (after_of_writes_sub condOps _ condOps_writes (by decide)) _).trans (h.keep j)

theorem body_keeps (V : Valuation τ sig (Elt Ideal)) (r : Ref sig .tc) (h0 : r ∉ while0Ops0_W) (h1 : r ∉ while0Ops0_1_W) :
    afterL bodyI V (Proc.devRef .tc r) = V (Proc.devRef .tc r) := by
  simp only [bodyI, afterL_cons, afterL_nil]
  exact (after_of_writes_sub while0Ops0_1 _ while0Ops0_1_writes h1).trans (after_of_writes_sub while0Ops0 _ while0Ops0_writes h0)

theorem trip_before (h : Scores s) {k : ℕ} (hk : k < 512) {V : Valuation τ sig (Elt Ideal)}
    (hV : Before b s k V) : Before b s (k + 1) (afterL bodyI V) where
  boxes := (body_keeps V _ (by decide) (by decide)).trans hV.boxes
  score := (body_keeps V _ (by decide) (by decide)).trans hV.score
  first := (trip_main_v95_0 V).trans hV.first
  second := (trip_main_v95_1 V).trans hV.second
  over := (trip_main_v95_2 V).trans hV.over
  count := by
    refine (trip_main_v95_3 V).trans ?_
    rw [hV.count]
    exact funext fun _ => (BitVec.ofNat_add k 1).symm
  keep j := by
    rw [trip_flags, hV.first, hV.second, hV.over, hV.count]
    have hn : ∀ j : Fin 512, (iotaInDim S512 32 0 : IVec S512 32) (ix1 j) = BitVec.ofNat 32 j.val := fun j => rfl
    refine (congrArg (fun w => setFlag _ _ w _ (ix1 j)) (boxNumber_read k hk _ hn)).trans ?_
    refine (setFlag_read _ hn _ _ _ hV.keep ⟨k, hk⟩ j).trans (congrArg BitVec.ofBool (decide_eq_decide.2 ?_))
    simp only [overlaps_read _ (D b s) (fun r c' => box_read h r c')]
    by_cases hj : j.val = k
    · have : j = ⟨k, hk⟩ := Fin.ext hj
      subst this
      simp only [keeps, if_true]
    · simp only [keeps, if_neg hj]

theorem atTrip_before (H : Holds m c b s) (h : Scores s) : ∀ k ≤ 512, Before b s k (atTrip condOps bodyI (entryContents preI m) k c)
  | 0, _ => by
    show Before _ _ 0 (entryContents preI m c)
    rw [entry_eq]
    exact entry_before m c H
  | k + 1, hk => trip_before h hk (cond_before (atTrip_before H h k (by omega)))

/-- The reference's result. -/
theorem value_read (H : Holds m c b s) (h : Scores s) (hl : Labelled b s) (j : Fin 512) (a : Fin 7) :
    (finalContents condOps preI bodyI postI 512 m c (Proc.devRef .tc main_v106) : FVec Ideal S512x7 .f32) (ix2 j a)
      = cellOut (D b s) (keeps most (fun x y => Cert.Nms.over tiny (D b s x) (D b s y)) 512) j a := by
  have hV := cond_before (atTrip_before m c H h 512 le_rfl)
  unfold finalContents
  simp only [postI, afterL_cons, afterL_nil]
  rw [line_rows, hV.boxes, hV.score]
  exact rows_read _ _ (fun r c' => box_read h r c') _ (fun r => score_read h hl r) _ _ hV.keep j a

/-! ## The run -/

/-- What the lines after the loop write. -/
abbrev last_W : List (Ref sig .tc) := [main_v96, main_v97, main_v98, main_cst_18, main_v99, main_v100, main_c_19, main_v101, main_v102, main_v103, main_v104, main_v105, main_v106]
theorem last_writes : (hostOps0_11 : List (HloOp τ sig (Elt Ideal))).Forall fun op => op.writes ⊆ (last_W.map (Proc.devRef (τ := τ) .tc)).toFinset :=
  forall_writes_sub_of_map rfl

/-- A buffer that no line before the loop writes. -/
abbrev Unwritten (r : Ref sig .tc) : Prop :=
  (r ∉ hostOps0_W ∧ r ∉ hostOps0_1_W ∧ r ∉ hostOps0_2_W ∧ r ∉ hostOps0_3_W ∧ r ∉ hostOps0_4_W ∧ r ∉ hostOps0_5_W)
    ∧ (r ∉ hostOps0_6_W ∧ r ∉ hostOps0_7_W ∧ r ∉ hostOps0_8_W ∧ r ∉ hostOps0_9_W ∧ r ∉ hostOps0_10_W)
    ∧ r ∉ condOps_W ∧ r ∉ while0Ops0_W ∧ r ∉ while0Ops0_1_W ∧ r ∉ last_W

theorem entry_keeps (r : Ref sig .tc) (h : Unwritten r) : entryContents preI m c (Proc.devRef .tc r) = launchContents m c (Proc.devRef .tc r) := by
  obtain ⟨⟨h0, h1, h2, h3, h4, h5⟩, ⟨h6, h7, h8, h9, h10⟩, -⟩ := h
  rw [entry_eq]
  exact (after_of_writes_sub hostOps0_10 _ hostOps0_10_writes h10).trans <|
    (after_of_writes_sub hostOps0_9 _ hostOps0_9_writes h9).trans <|
    (after_of_writes_sub hostOps0_8 _ hostOps0_8_writes h8).trans <|
    (U8_of m c r h5 h6 h7).trans <|
    (after_of_writes_sub hostOps0_4 _ hostOps0_4_writes h4).trans <|
    (after_of_writes_sub hostOps0_3 _ hostOps0_3_writes h3).trans <|
    (after_of_writes_sub hostOps0_2 _ hostOps0_2_writes h2).trans (U2_arg m c r h0 h1)

theorem trips_keep (r : Ref sig .tc) (h : Unwritten r) :
    ∀ k, atTrip condOps bodyI (entryContents preI m) k c (Proc.devRef .tc r) = entryContents preI m c (Proc.devRef .tc r)
  | 0 => rfl
  | k + 1 => (body_keeps _ r h.2.2.2.1 h.2.2.2.2.1).trans ((after_of_writes_sub condOps _ condOps_writes h.2.2.1).trans (trips_keep r h k))

theorem final_keeps (r : Ref sig .tc) (h : Unwritten r) :
    finalContents condOps preI bodyI postI 512 m c (Proc.devRef .tc r) = m ((c : Thread nD τ).loc r) := by
  unfold finalContents
  simp only [postI, afterL_cons, afterL_nil]
  exact (after_of_writes_sub hostOps0_11 _ last_writes h.2.2.2.2.2).trans <| (after_of_writes_sub condOps _ condOps_writes h.2.2.1).trans <|
    (trips_keep m c r h 512).trans <| (entry_keeps m c r h).trans rfl

/-- The reference runs: its result is the contents after all its lines, its arguments are unchanged. -/
theorem run : θ_run defs (onTc (τ := τ) (main (F := Ideal))) ⟨m, fun _ => 0, ρ⟩ (fun r => ∀ c : Dev nD,
      r.2.mem ((c.tc : Thread nD τ).loc main_v106) = finalContents condOps preI bodyI postI 512 m c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c main_v106 rfl,
    (h c main_arg0 rfl).trans (final_keeps m c main_arg0 (by decide)),
    (h c main_arg1 rfl).trans (final_keeps m c main_arg1 (by decide)),
    (h c main_arg2 rfl).trans (final_keeps m c main_arg2 (by decide)),
    (h c main_arg3 rfl).trans (final_keeps m c main_arg3 (by decide)),
    (h c main_arg4 rfl).trans (final_keeps m c main_arg4 (by decide)),
    (h c main_arg5 rfl).trans (final_keeps m c main_arg5 (by decide))⟩)
    (run_fold (F := Ideal) m ρ)

end Cert.WholeReferenceIdeal.Lines

end
-- ==== Proof.WholePre.lean ====
/-
  The whole problem's precondition read, and what the first call's results are under it: the points' scores are
  at most one, the greatest not negative, with minus infinity past the last point, the table's row 6 holds them, and they and the table's boxes
  are the ones the whole reference computes.
-/
module

public import proofs.«01_k».proof.Proof.SelectPre
public import proofs.«01_k».proof.Proof.RefValue
public import proofs.«01_k».proof.Proof.WholeRefValue
public import proofs.«01_k».proof.Proof.Gen.Pre_keys_apart

@[expose] public section

set_option maxRecDepth 16384

noncomputable section

open scoped Classical

namespace Cert.WholeClaims

open Idealize.ShloMosaic Idealize.ShloMosaic.TcCoe
open Cert.Kernel2Ideal.Select Cert.Rank
open Cert.ReferenceIdeal.Read (val_main_v8 val_main_v20 val_main_v22 val_main_v30 val_main_v32)
open Cert.Reference2Ideal.Select (points points_read scored values)
open Cert.SelectClaims (last top_of_oge ne_of_une apart_of_lines)

variable {x0 : FVec Ideal Cert.Pre_keys_apart.S20000x128 .f32}
    {x1 : FVec Ideal Cert.Pre_keys_apart.S20000x3 .f32} {x2 : FVec Ideal Cert.Pre_keys_apart.S128x128 .f32}
    {x3 : FVec Ideal Cert.Pre_keys_apart.S128 .f32} {x4 : FVec Ideal Cert.Pre_keys_apart.S128x9 .f32}
    {x5 : FVec Ideal Cert.Pre_keys_apart.S9 .f32}

instance : Subsingleton (Cert.Pre_keys_apart.S_).Idx := ⟨fun _ _ => funext fun a => a.elim0⟩

/-! ## The mathematics of a score -/

/-- A score is at most one. -/
theorem score_le_one (a b : EReal) : Cert.Point.score a b ≤ 1 := by
  have hexp : ∀ v : EReal, 0 ≤ Ideal.exp v := fun v => by
    induction v using EReal.rec with
    | bot => exact le_refl _
    | top => exact le_top
    | coe r => exact EReal.coe_nonneg.2 (Real.exp_pos r).le
  unfold Cert.Point.score
  generalize hx : Ideal.exp (a - max a b) = x
  generalize hy : Ideal.exp (b - max a b) = y
  have x0 : 0 ≤ x := hx ▸ hexp _
  have y0 : 0 ≤ y := hy ▸ hexp _
  unfold Ideal.div
  by_cases hs : x + y = 0
  · have hy0 : y = 0 := le_antisymm (hs ▸ le_add_of_nonneg_left x0) y0
    rw [if_pos hs, hy0, if_neg (lt_irrefl _)]
    exact bot_le
  · rw [if_neg hs]
    have hle : y ≤ x + y := le_add_of_nonneg_left x0
    have hp : 0 ≤ x + y := add_nonneg x0 y0
    refine (mul_le_mul_of_nonneg_right hle (EReal.inv_nonneg_of_nonneg hp)).trans ?_
    generalize x + y = s at hs hp ⊢
    induction s using EReal.rec with
    | bot => simp at hp
    | top => simp
    | coe r =>
      have hr : r ≠ 0 := fun e => hs (by rw [e]; rfl)
      rw [← EReal.coe_inv, ← EReal.coe_mul, mul_inv_cancel₀ hr]
      exact le_refl _

/-! ## The scores and the table at a point -/

theorem conf_scores (p : Fin 20480) : conf (Cert.Point.scores x0 x2 x4) p = Cert.Point.scoreAt x0 x2 x4 p.val := by
  show Cert.Point.scoreAt x0 x2 x4 (pos (row p) (lane p)).val = _
  rw [pos_row_lane]

theorem conf_point (k : Fin 20000) : conf (Cert.Point.scores x0 x2 x4) (up k)
    = Cert.Point.score (Cert.Point.out x0 x2 x4 k 0) (Cert.Point.out x0 x2 x4 k 1) := by
  rw [conf_scores]
  exact dif_pos k.isLt

theorem table_point (r : Fin 8) (k : Fin 20000) : Cert.Point.table x0 x1 x2 x4 (ix2 r (up k))
    = Cert.Point.cell (Cert.Point.out x0 x2 x4 k) (fun a => x1 (ix2 k a)) r := dif_pos k.isLt

theorem labelled : Labelled (Cert.Point.table x0 x1 x2 x4) (Cert.Point.scores x0 x2 x4) := fun p hp => by
  have e := table_point (x0 := x0) (x1 := x1) (x2 := x2) (x4 := x4) 6 ⟨p.val, hp⟩
  have e' := conf_point (x0 := x0) (x2 := x2) (x4 := x4) ⟨p.val, hp⟩
  exact e.trans e'.symm

theorem points_eq (z3 : ∀ k : Fin 128, x3 (ix1 k) = 0) (z5 : ∀ j : Fin 9, x5 (ix1 j) = 0) :
    val_main_v22 (F := Ideal) x0 x2 x3 x4 x5 = points (Cert.Point.scores x0 x2 x4) := by
  funext i
  obtain ⟨k, rfl⟩ : ∃ k : Fin 20000, i = ix1 k := ⟨i 0, eq_ix1 i⟩
  refine (Cert.ReferenceIdeal.PointHead.score_apply x0 x2 x3 x4 x5 k).trans ?_
  rw [Cert.ReferenceIdeal.PointHead.head_apply x0 x2 x3 x4 x5 z3 z5, Cert.ReferenceIdeal.PointHead.head_apply x0 x2 x3 x4 x5 z3 z5]
  exact ((points_read k).trans (conf_point k)).symm

theorem boxes_eq (z3 : ∀ k : Fin 128, x3 (ix1 k) = 0) (z5 : ∀ j : Fin 9, x5 (ix1 j) = 0) :
    Cert.WholeReferenceIdeal.Lines.beside (val_main_v30 (F := Ideal) x0 x1 x2 x3 x4 x5) (val_main_v32 (F := Ideal) x0 x1 x2 x3 x4 x5)
      = transpose Cert.Reference2Ideal.S20000x6 [1, 0] (extractStridedSlice Cert.Reference2Ideal.S6x20000 ![0, 0]
          (Cert.Point.table x0 x1 x2 x4 : FVec Ideal Cert.Reference2Ideal.S8x20480 .f32)
          Cert.Reference2Ideal.Gen.slices_S8x20480_S6x20000_0_0) Cert.Reference2Ideal.Gen.transposes_S6x20000_S20000x6_1_0 := by
  funext i
  obtain ⟨k, a, rfl⟩ : ∃ (k : Fin 20000) (a : Fin 6), i = ix2 k a := ⟨i 0, i 1, eq_ix2 i⟩
  have hl := Cert.ReferenceIdeal.PointHead.lo_apply x0 x1 x2 x3 x4 x5 k
  have hh := Cert.ReferenceIdeal.PointHead.hi_apply x0 x1 x2 x3 x4 x5 k
  have hd := Cert.ReferenceIdeal.PointHead.head_apply x0 x2 x3 x4 x5 z3 z5 k
  have ht := fun r => table_point (x0 := x0) (x1 := x1) (x2 := x2) (x4 := x4) r k
  generalize Cert.Point.table x0 x1 x2 x4 = T at ht ⊢
  have hR : transpose Cert.Reference2Ideal.S20000x6 [1, 0] (extractStridedSlice Cert.Reference2Ideal.S6x20000 ![0, 0]
          (T : FVec Ideal Cert.Reference2Ideal.S8x20480 .f32)
          Cert.Reference2Ideal.Gen.slices_S8x20480_S6x20000_0_0) Cert.Reference2Ideal.Gen.transposes_S6x20000_S20000x6_1_0 (ix2 k a)
      = T (ix2 ⟨a.val, by omega⟩ (up k)) := by
    pointwise
    rfl
  refine Eq.trans ?_ (hR.trans (ht _)).symm
  unfold Cert.WholeReferenceIdeal.Lines.beside
  simp only [hd] at hl hh
  generalize val_main_v30 (F := Ideal) x0 x1 x2 x3 x4 x5 = L at hl ⊢
  generalize val_main_v32 (F := Ideal) x0 x1 x2 x3 x4 x5 = H at hh ⊢
  fin_cases a <;> pointwise <;> (try simp only [hl, hh]) <;> rfl

/-! ## The precondition -/

/-- The kept scores of any scores. -/
def keptOf [Cert.Pre_keys_apart.Facts] (u : FVec Ideal Cert.Pre_keys_apart.S20000 .f32) : FVec Ideal Cert.Pre_keys_apart.S20000 .f32 :=
  select (cmpf .oge u (broadcastInDim Cert.Pre_keys_apart.S20000 ![] Cert.Pre_keys_apart.Facts.bcast_S_S20000
    (minimumf (constant (F := Ideal) Cert.Pre_keys_apart.S_ .f32 0x3F000000#32)
      (Host.reduce FloatOps.maximumf u (constant (F := Ideal) Cert.Pre_keys_apart.S_ .f32 0xFF800000#32)
        Cert.Pre_keys_apart.Facts.reducesTo_S20000_S_d0 Cert.Pre_keys_apart.Facts.h_S_)))) u
    (broadcastInDim Cert.Pre_keys_apart.S20000 ![] Cert.Pre_keys_apart.Facts.bcast_S_S20000
      (id (constant (F := Ideal) Cert.Pre_keys_apart.S_ .f32 0xFF800000#32)))

/-- The greatest score. -/
def topOf [Cert.Pre_keys_apart.Facts] (u : FVec Ideal Cert.Pre_keys_apart.S20000 .f32) : FVec Ideal Cert.Pre_keys_apart.S_ .f32 :=
  Host.reduce FloatOps.maximumf u (constant (F := Ideal) Cert.Pre_keys_apart.S_ .f32 0xFF800000#32)
    Cert.Pre_keys_apart.Facts.reducesTo_S20000_S_d0 Cert.Pre_keys_apart.Facts.h_S_

/-- The best of the kept scores. -/
def bestOf [Cert.Pre_keys_apart.Facts] (u : FVec Ideal Cert.Pre_keys_apart.S20000 .f32) : FVec Ideal Cert.Pre_keys_apart.S512 .f32 :=
  (Host.topK Cert.Pre_keys_apart.S512 0 (FloatOps.cmpfTotal .gt) (keptOf u) Cert.Pre_keys_apart.Facts.sliceFits_S20000_S512).1

/-- The precondition's last line at a point. -/
theorem apart_line [Cert.Pre_keys_apart.Facts] {u : FVec Ideal Cert.Pre_keys_apart.S20000 .f32}
    {v : FVec Ideal Cert.Pre_keys_apart.S512 .f32} {k : Fin 20000}
    (e : ori (cmpf .oeq u (broadcastInDim Cert.Pre_keys_apart.S20000 ![] Cert.Pre_keys_apart.Facts.bcast_S_S20000
          (shapeCast Cert.Pre_keys_apart.S_ (extractStridedSlice Cert.Pre_keys_apart.S1 ![511] v
            Cert.Pre_keys_apart.Facts.slices_S512_S1_511) Cert.Pre_keys_apart.Facts.shapeCasts_S1_S_)))
        (cmpf .une (Host.floor (mulf u (broadcastInDim Cert.Pre_keys_apart.S20000 ![] Cert.Pre_keys_apart.Facts.bcast_S_S20000
            (constant (F := Ideal) Cert.Pre_keys_apart.S_ .f32 0x4B800000#32))))
          (broadcastInDim Cert.Pre_keys_apart.S20000 ![] Cert.Pre_keys_apart.Facts.bcast_S_S20000
            (Host.floor (mulf (shapeCast Cert.Pre_keys_apart.S_ (extractStridedSlice Cert.Pre_keys_apart.S1 ![511] v
              Cert.Pre_keys_apart.Facts.slices_S512_S1_511) Cert.Pre_keys_apart.Facts.shapeCasts_S1_S_)
              (constant (F := Ideal) Cert.Pre_keys_apart.S_ .f32 0x4B800000#32))))) (ix1 k) = 1#1) :
    u (ix1 k) = v (ix1 511) ∨ Ideal.liftRound Int.floor (u (ix1 k) * Ideal.ofBits .f32 0x4B800000#32)
      ≠ Ideal.liftRound Int.floor (v (ix1 511) * Ideal.ofBits .f32 0x4B800000#32) := by
  have hlast : shapeCast Cert.Pre_keys_apart.S_ (extractStridedSlice Cert.Pre_keys_apart.S1 ![511] v
      Cert.Pre_keys_apart.Facts.slices_S512_S1_511) Cert.Pre_keys_apart.Facts.shapeCasts_S1_S_ = fun _ => v (ix1 511) := by
    funext j
    obtain rfl : j = ix0 := Subsingleton.elim _ _
    pointwise
  rw [hlast] at e
  rcases IntOp.ori_eq_one.1 e with e | e
  · exact .inl (Cert.PointClaims.eq_of_cmp e)
  · exact .inr (ne_of_une e)

/-- The precondition's lines after the scores. -/
theorem part_parts [Cert.Pre_keys_apart.Facts] {w : FVec Ideal Cert.Pre_keys_apart.S20000x2 .f32} {u : FVec Ideal Cert.Pre_keys_apart.S20000 .f32}
    (hu : shapeCast Cert.Pre_keys_apart.S20000 (extractStridedSlice Cert.Pre_keys_apart.S20000x1 ![0, 1] w
      Cert.Pre_keys_apart.Facts.slices_S20000x2_S20000x1_0_1) Cert.Pre_keys_apart.Facts.shapeCasts_S20000x1_S20000 = u)
    (h : Cert.Pre_keys_apart.fn_part1 (F := Ideal) x3 x5 w = fun _ => 1#1) :
    ((∀ k : Fin 128, x3 (ix1 k) = 0) ∧ ∀ j : Fin 9, x5 (ix1 j) = 0) ∧ cmpf (F := Ideal) (φ := .f32) .oge (topOf u) (constant (F := Ideal) Cert.Pre_keys_apart.S_ .f32 0x00000000#32) ix0 = 1#1
      ∧ ∀ k : Fin 20000, keptOf u (ix1 k) = bestOf u (ix1 511) ∨
        Ideal.liftRound Int.floor (keptOf u (ix1 k) * Ideal.ofBits .f32 0x4B800000#32)
          ≠ Ideal.liftRound Int.floor (bestOf u (ix1 511) * Ideal.ofBits .f32 0x4B800000#32) := by
  have h0 := congrFun h ix0
  simp only [Cert.Pre_keys_apart.fn_part1, Cert.Pre_keys_apart.fn_part2, Cert.Pre_keys_apart.fn_where, hu] at h0
  obtain ⟨h1, hapart⟩ := IntOp.andi_eq_one.1 h0
  obtain ⟨h2, hge⟩ := IntOp.andi_eq_one.1 h1
  obtain ⟨ha, hb⟩ := IntOp.andi_eq_one.1 h2
  refine ⟨⟨fun k => ?_, fun j => ?_⟩, hge, fun k => ?_⟩
  · have e := Host.reduce_andi_all _ _ _ _ _ ha (ix1 k)
    exact (Cert.PointClaims.eq_of_cmp e).trans Ideal.ofBits_zero_f32
  · have e := Host.reduce_andi_all _ _ _ _ _ hb (ix1 j)
    exact (Cert.PointClaims.eq_of_cmp e).trans Ideal.ofBits_zero_f32
  · exact apart_line (u := keptOf u) (v := bestOf u) (Host.reduce_andi_all _ _ _ _ _ hapart (ix1 k))

/-- The precondition of the arguments: zero biases, and the scores of the points the selection needs. -/
theorem pre_read [Cert.Pre_keys_apart.Facts] (h : Cert.Pre_keys_apart.fn (F := Ideal) x0 x1 x2 x3 x4 x5 = fun _ => 1#1) :
    ((∀ k : Fin 128, x3 (ix1 k) = 0) ∧ ∀ j : Fin 9, x5 (ix1 j) = 0)
      ∧ Scores (Cert.Point.scores x0 x2 x4) ∧ Apart (Cert.Point.scores x0 x2 x4) := by
  have e : Cert.Pre_keys_apart.fn (F := Ideal) x0 x1 x2 x3 x4 x5
      = Cert.Pre_keys_apart.fn_part1 (F := Ideal) x3 x5 (val_main_v20 (F := Ideal) x0 x2 x3 x4 x5) := rfl
  rw [e] at h
  obtain ⟨⟨z3, z5⟩, hge, hapart⟩ := part_parts (u := val_main_v22 (F := Ideal) x0 x2 x3 x4 x5) rfl h
  rw [points_eq z3 z5] at hge hapart
  have hpad : ∀ p : Fin 20480, 20000 ≤ p.val → conf (Cert.Point.scores x0 x2 x4) p = ⊥ := fun p hp => by
    rw [conf_scores]
    exact dif_neg (by omega)
  have hs : Scores (Cert.Point.scores x0 x2 x4) := {
    top := top_of_oge hpad hge
    le := fun p hp => (le_of_eq (conf_point ⟨p.val, hp⟩)).trans (score_le_one _ _)
    pad := hpad }
  exact ⟨⟨z3, z5⟩, hs, apart_of_lines hs hapart⟩

end Cert.WholeClaims

end
-- ==== Proof.WholeClaims.lean ====
/-
  The claims of the whole problem, both calls in one program: the frames of the program and of its reference, and the
  equation between their results.
-/
module

public import proofs.«01_k».proof.Proof.WholeRun
public import proofs.«01_k».proof.Proof.WholePre
public import proofs.«01_k».proof.Proof.SelectClaims

@[expose] public section

set_option maxRecDepth 16384

noncomputable section

open scoped Classical

namespace Cert.WholeClaims

open Idealize.ShloMosaic Idealize.ShloMosaic.TcCoe Idealize.SL.Sem
open Cert.Kernel2Ideal.Select (Scores Apart Labelled out_read)

/-! ## The frames -/

theorem frame_ideal : Cert.quiescent_WholeIdeal := fun m ρ _ =>
  (θ_run Cert.WholeIdeal.defs _ _).mono (fun _ h => ⟨fun c => (h.1 c).2, h.2⟩) (Cert.WholeIdeal.Run.run m ρ)

theorem frame_ideal_pre : Cert.quiescent_WholeIdeal_pre_keys_apart := fun m ρ _ => frame_ideal m ρ trivial

theorem frame_reference : Cert.quiescent_WholeReferenceIdeal := fun m ρ _ =>
  (θ_run Cert.WholeReferenceIdeal.defs _ _).mono
    (fun r h => ⟨fun c => (h c).2, sem_eq_zero_of_no_sems (by decide) r.2⟩) (Cert.WholeReferenceIdeal.Lines.run m ρ)

theorem frame_reference_pre : Cert.quiescent_WholeReferenceIdeal_pre_keys_apart := fun m ρ _ => frame_reference m ρ trivial

/-! ## The value -/

/-- Over the extended reals the whole problem's result is its reference's. -/
theorem algebraic : Cert.algebraic_WholeIdeal_WholeReferenceIdeal_pre_keys_apart := by
  intro m ρ m' ρ' hpre hagree
  refine ⟨fun c => Cert.Kernel2Ideal.Select.out (F := Ideal) (Cert.WholeIdeal.PointHead.tableOf m c) (Cert.WholeIdeal.PointHead.scoresOf m c),
    (θ_run Cert.WholeIdeal.defs _ _).mono (fun _ h => h.1) (Cert.WholeIdeal.Run.run m ρ), ?_⟩
  refine (θ_run Cert.WholeReferenceIdeal.defs _ _).mono (fun _ h c => ⟨(h c).1.trans ?_, (h c).2⟩)
    (Cert.WholeReferenceIdeal.Lines.run m' ρ')
  obtain ⟨e0, e1, e2, e3, e4, e5⟩ := hagree c
  obtain ⟨⟨z3, z5⟩, hs, ha⟩ := pre_read (hpre c)
  have H : Cert.WholeReferenceIdeal.Lines.Holds m' c (Cert.WholeIdeal.PointHead.tableOf m c) (Cert.WholeIdeal.PointHead.scoresOf m c) := by
    refine ⟨?_, ?_⟩
    · unfold Cert.WholeReferenceIdeal.Lines.conf Cert.WholeReferenceIdeal.Lines.arg0 Cert.WholeReferenceIdeal.Lines.arg2
        Cert.WholeReferenceIdeal.Lines.arg3 Cert.WholeReferenceIdeal.Lines.arg4 Cert.WholeReferenceIdeal.Lines.arg5
      rw [e0, e2, e3, e4, e5]
      exact points_eq z3 z5
    · unfold Cert.WholeReferenceIdeal.Lines.boxes Cert.WholeReferenceIdeal.Lines.arg0 Cert.WholeReferenceIdeal.Lines.arg1 Cert.WholeReferenceIdeal.Lines.arg2
        Cert.WholeReferenceIdeal.Lines.arg3 Cert.WholeReferenceIdeal.Lines.arg4 Cert.WholeReferenceIdeal.Lines.arg5
      rw [e0, e1, e2, e3, e4, e5]
      exact boxes_eq z3 z5
  have hl : Labelled (Cert.WholeIdeal.PointHead.tableOf m c) (Cert.WholeIdeal.PointHead.scoresOf m c) := labelled
  funext i
  obtain ⟨j, a, rfl⟩ : ∃ (j : Fin 512) (a : Fin 7), i = ix2 j a := ⟨i 0, i 1, eq_ix2 i⟩
  exact (Cert.WholeReferenceIdeal.Lines.value_read m' c H hs hl j a).trans (out_read hs ha hl j a).symm

end Cert.WholeClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_biases
public import proofs.«01_k».proof.Proof.Claims
public import proofs.«01_k».proof.Proof.Gen.Kernel2
public import proofs.«01_k».proof.Proof.Gen.Kernel2Ideal
public import proofs.«01_k».proof.Proof.Gen.Reference2Ideal
public import proofs.«01_k».proof.Proof.Gen.Pre_from_first_call
public import proofs.«01_k».proof.Proof.SelectClaims
public import proofs.«01_k».proof.Proof.WholeClaims
public import proofs.«01_k».proof.Proof.Gen.WholeIdeal
public import proofs.«01_k».proof.Proof.Gen.WholeReferenceIdeal
public import proofs.«01_k».proof.Proof.Gen.Pre_keys_apart
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.WholeIdeal.Gen.facts, Cert.WholeReferenceIdeal.Gen.facts,
  Cert.Pre_zero_biases.Gen.facts, Cert.Pre_from_first_call.Gen.facts, Cert.Pre_keys_apart.Gen.facts, by
  exact ⟨Cert.PointClaims.frame_kernel, Cert.PointClaims.frame_ideal, Cert.PointClaims.frame_ideal_pre, Cert.PointClaims.frame_reference,
    Cert.PointClaims.frame_reference_pre, Cert.SelectClaims.frame_kernel, Cert.SelectClaims.frame_ideal, Cert.SelectClaims.frame_ideal_pre,
    Cert.SelectClaims.frame_reference, Cert.SelectClaims.frame_reference_pre, Cert.WholeClaims.frame_ideal, Cert.WholeClaims.frame_ideal_pre,
    Cert.WholeClaims.frame_reference, Cert.WholeClaims.frame_reference_pre, trivial, Cert.PointClaims.algebraic, trivial,
    Cert.SelectClaims.algebraic, Cert.WholeClaims.algebraic⟩⟩

end Cert.Proof

end
